-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_plain_and_routed [hPre_plain_and_routed : Cert.Pre_plain_and_routed.Facts] (m : (ℓ : Loc Cert.MoeIdeal.nD Cert.MoeIdeal.τ Cert.MoeIdeal.sig) → Buf (Elt Ideal) ℓ) : Prop :=
  ∀ c : Dev Cert.MoeIdeal.nD,
    (Cert.Pre_plain_and_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).1 = (fun _ => 1#1)
    ∧ (Cert.Pre_plain_and_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.1 = (fun _ => 1#1)
    ∧ (Cert.Pre_plain_and_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.1 = (fun _ => 1#1)
    ∧ (Cert.Pre_plain_and_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.1 = (fun _ => 1#1)
    ∧ (Cert.Pre_plain_and_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.2.1 = (fun _ => 1#1)
    ∧ (Cert.Pre_plain_and_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.2.2.1 = (fun _ => 1#1)
    ∧ (Cert.Pre_plain_and_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.2.2.2.1 = (fun _ => 1#1)
    ∧ (Cert.Pre_plain_and_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.2.2.2.2.1 = (fun _ => 1#1)
    ∧ (Cert.Pre_plain_and_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.2.2.2.2.2 = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_plain_and_routed [hPre_plain_and_routed : Cert.Pre_plain_and_routed.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_plain_and_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).1 = (fun _ => 1#1)
    ∧ (Cert.Pre_plain_and_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.1 = (fun _ => 1#1)
    ∧ (Cert.Pre_plain_and_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.2.1 = (fun _ => 1#1)
    ∧ (Cert.Pre_plain_and_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.2.2.1 = (fun _ => 1#1)
    ∧ (Cert.Pre_plain_and_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.2.2.2.1 = (fun _ => 1#1)
    ∧ (Cert.Pre_plain_and_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.2.2.2.2.1 = (fun _ => 1#1)
    ∧ (Cert.Pre_plain_and_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.2.2.2.2.2.1 = (fun _ => 1#1)
    ∧ (Cert.Pre_plain_and_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.2.2.2.2.2.2.1 = (fun _ => 1#1)
    ∧ (Cert.Pre_plain_and_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeIdeal_pre_plain_and_routed [hMoeIdeal : Cert.MoeIdeal.Facts] [hPre_plain_and_routed : Cert.Pre_plain_and_routed.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_plain_and_routed m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_plain_and_routed [hMoeRefIdeal : Cert.MoeRefIdeal.Facts] [hPre_plain_and_routed : Cert.Pre_plain_and_routed.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_plain_and_routed m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v8) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Moe_MoeIdeal : Prop :=
  True

def algebraic_MoeIdeal_MoeRefIdeal_pre_plain_and_routed [hMoeIdeal : Cert.MoeIdeal.Facts] [hMoeRefIdeal : Cert.MoeRefIdeal.Facts] [hPre_plain_and_routed : Cert.Pre_plain_and_routed.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_plain_and_routed m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v4)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v4) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v23) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hMoe : Cert.Moe.Facts) (hMoeIdeal : Cert.MoeIdeal.Facts) (hMoeRefIdeal : Cert.MoeRefIdeal.Facts) (hPre_plain_and_routed : Cert.Pre_plain_and_routed.Facts),
    quiescent_Kernel (hKernel := hKernel)
    ∧ quiescent_KernelIdeal (hKernelIdeal := hKernelIdeal)
    ∧ quiescent_ReferenceIdeal (hReferenceIdeal := hReferenceIdeal)
    ∧ quiescent_Merge (hMerge := hMerge)
    ∧ quiescent_MergeIdeal (hMergeIdeal := hMergeIdeal)
    ∧ quiescent_MergeRefIdeal (hMergeRefIdeal := hMergeRefIdeal)
    ∧ quiescent_Moe (hMoe := hMoe)
    ∧ quiescent_MoeIdeal (hMoeIdeal := hMoeIdeal)
    ∧ quiescent_MoeIdeal_pre_plain_and_routed (hMoeIdeal := hMoeIdeal) (hPre_plain_and_routed := hPre_plain_and_routed)
    ∧ quiescent_MoeRefIdeal (hMoeRefIdeal := hMoeRefIdeal)
    ∧ quiescent_MoeRefIdeal_pre_plain_and_routed (hMoeRefIdeal := hMoeRefIdeal) (hPre_plain_and_routed := hPre_plain_and_routed)
    ∧ preserves_Kernel_KernelIdeal
    ∧ algebraic_KernelIdeal_ReferenceIdeal (hKernelIdeal := hKernelIdeal) (hReferenceIdeal := hReferenceIdeal)
    ∧ preserves_Merge_MergeIdeal
    ∧ algebraic_MergeIdeal_MergeRefIdeal (hMergeIdeal := hMergeIdeal) (hMergeRefIdeal := hMergeRefIdeal)
    ∧ preserves_Moe_MoeIdeal
    ∧ algebraic_MoeIdeal_MoeRefIdeal_pre_plain_and_routed (hMoeIdeal := hMoeIdeal) (hMoeRefIdeal := hMoeRefIdeal) (hPre_plain_and_routed := hPre_plain_and_routed)
-- ==== Pre_plain_and_routed.lean ====
abbrev S16384x2048 : Shape := ⟨2, ![16384, 2048]⟩
abbrev S16384x128 : Shape := ⟨2, ![16384, 128]⟩
abbrev S16x2048x512 : Shape := ⟨3, ![16, 2048, 512]⟩
abbrev S16x512x2048 : Shape := ⟨3, ![16, 512, 2048]⟩
abbrev S2048 : Shape := ⟨1, ![2048]⟩
abbrev S16384x1 : Shape := ⟨2, ![16384, 1]⟩
abbrev S_ : Shape := ⟨0, ![]⟩
abbrev S16384x4 : Shape := ⟨2, ![16384, 4]⟩

class Facts : Prop where
  slices_S16384x128_S16384x1_0_16 : S16384x128.Slices ![0, 16] S16384x1
  bitsLt_bf16_f32 : FTy.bits .bf16 < FTy.bits .f32
  bcast_S_S16384x2048 : S_.BroadcastsInDim S16384x2048 (![] : Fin 0 → Fin S16384x2048.rank)
  bcast_S_S16384x128 : S_.BroadcastsInDim S16384x128 (![] : Fin 0 → Fin S16384x128.rank)
  bcast_S_S16x2048x512 : S_.BroadcastsInDim S16x2048x512 (![] : Fin 0 → Fin S16x2048x512.rank)
  bcast_S_S16x512x2048 : S_.BroadcastsInDim S16x512x2048 (![] : Fin 0 → Fin S16x512x2048.rank)
  bcast_S_S16384x1 : S_.BroadcastsInDim S16384x1 (![] : Fin 0 → Fin S16384x1.rank)
  slices_S16384x128_S16384x4_0_0 : S16384x128.Slices ![0, 0] S16384x4
  bcast_S_S16384x4 : S_.BroadcastsInDim S16384x4 (![] : Fin 0 → Fin S16384x4.rank)
  bcast_S16384x1_S16384x4_0_1 : S16384x1.BroadcastsInDim S16384x4 (![0, 1] : Fin 2 → Fin S16384x4.rank)
  slices_S16384x128_S16384x4_0_4 : S16384x128.Slices ![0, 4] S16384x4
  slices_S16384x128_S16384x4_0_8 : S16384x128.Slices ![0, 8] S16384x4
  slices_S16384x128_S16384x4_0_12 : S16384x128.Slices ![0, 12] S16384x4

variable [Facts]

def fn_part3 {F : FTy → Type} [FloatOps F] (main_v6 : IVec S16384x2048 1) (main_v11 : IVec S16384x128 1) (main_v16 : IVec S16x2048x512 1) (main_v21 : IVec S16x2048x512 1) (main_v26 : IVec S16x512x2048 1) (main_v33 : IVec S16384x4 1) (main_v40 : IVec S16384x4 1) (main_v47 : IVec S16384x4 1) (main_v52 : IVec S16384x4 1) (main_v53 : IVec S16384x4 1) : IVec S16384x2048 1 × IVec S16384x128 1 × IVec S16x2048x512 1 × IVec S16x2048x512 1 × IVec S16x512x2048 1 × IVec S16384x4 1 × IVec S16384x4 1 × IVec S16384x4 1 × IVec S16384x4 1 :=
  let main_v54 : IVec S16384x4 1 := ori main_v53 main_v52
  (main_v6, main_v11, main_v16, main_v21, main_v26, main_v33, main_v40, main_v47, main_v54)

def fn_part2 {F : FTy → Type} [FloatOps F] (main_arg1 : FVec F S16384x128 .f32) (main_v0 : FVec F S16384x1 .f32) (main_v6 : IVec S16384x2048 1) (main_v11 : IVec S16384x128 1) (main_v16 : IVec S16x2048x512 1) (main_v21 : IVec S16x2048x512 1) (main_v26 : IVec S16x512x2048 1) (main_v33 : IVec S16384x4 1) (main_v34 : FVec F S16384x1 .f32) : IVec S16384x2048 1 × IVec S16384x128 1 × IVec S16x2048x512 1 × IVec S16x2048x512 1 × IVec S16x512x2048 1 × IVec S16384x4 1 × IVec S16384x4 1 × IVec S16384x4 1 × IVec S16384x4 1 :=
  let main_v35 : IVec S16384x1 1 := cmpf .oeq main_v0 main_v34
  let main_v36 : FVec F S16384x4 .f32 := (extractStridedSlice S16384x4 ![0, 4] · slices_S16384x128_S16384x4_0_4) main_arg1
  let main_cst_12 : FVec F S_ .f32 := constant S_ .f32 0x00000000#32
  let main_v37 : FVec F S16384x4 .f32 := broadcastInDim S16384x4 ![] bcast_S_S16384x4 main_cst_12
  let main_v38 : IVec S16384x4 1 := cmpf .oeq main_v36 main_v37
  let main_v39 : IVec S16384x4 1 := broadcastInDim S16384x4 ![0, 1] bcast_S16384x1_S16384x4_0_1 main_v35
  let main_v40 : IVec S16384x4 1 := ori main_v39 main_v38
  let main_cst_13 : FVec F S_ .f32 := constant S_ .f32 0x40000000#32
  let main_v41 : FVec F S16384x1 .f32 := broadcastInDim S16384x1 ![] bcast_S_S16384x1 main_cst_13
  let main_v42 : IVec S16384x1 1 := cmpf .oeq main_v0 main_v41
  let main_v43 : FVec F S16384x4 .f32 := (extractStridedSlice S16384x4 ![0, 8] · slices_S16384x128_S16384x4_0_8) main_arg1
  let main_cst_14 : FVec F S_ .f32 := constant S_ .f32 0x00000000#32
  let main_v44 : FVec F S16384x4 .f32 := broadcastInDim S16384x4 ![] bcast_S_S16384x4 main_cst_14
  let main_v45 : IVec S16384x4 1 := cmpf .oeq main_v43 main_v44
  let main_v46 : IVec S16384x4 1 := broadcastInDim S16384x4 ![0, 1] bcast_S16384x1_S16384x4_0_1 main_v42
  let main_v47 : IVec S16384x4 1 := ori main_v46 main_v45
  let main_cst_15 : FVec F S_ .f32 := constant S_ .f32 0x40400000#32
  let main_v48 : FVec F S16384x1 .f32 := broadcastInDim S16384x1 ![] bcast_S_S16384x1 main_cst_15
  let main_v49 : IVec S16384x1 1 := cmpf .oeq main_v0 main_v48
  let main_v50 : FVec F S16384x4 .f32 := (extractStridedSlice S16384x4 ![0, 12] · slices_S16384x128_S16384x4_0_12) main_arg1
  let main_cst_16 : FVec F S_ .f32 := constant S_ .f32 0x00000000#32
  let main_v51 : FVec F S16384x4 .f32 := broadcastInDim S16384x4 ![] bcast_S_S16384x4 main_cst_16
  let main_v52 : IVec S16384x4 1 := cmpf .oeq main_v50 main_v51
  let main_v53 : IVec S16384x4 1 := broadcastInDim S16384x4 ![0, 1] bcast_S16384x1_S16384x4_0_1 main_v49
  fn_part3 (F := F) main_v6 main_v11 main_v16 main_v21 main_v26 main_v33 main_v40 main_v47 main_v52 main_v53

def fn_part1 {F : FTy → Type} [FloatOps F] (main_arg1 : FVec F S16384x128 .f32) (main_arg4 : FVec F S16x2048x512 .f32) (main_arg5 : FVec F S16x512x2048 .f32) (main_v0 : FVec F S16384x1 .f32) (main_v6 : IVec S16384x2048 1) (main_v11 : IVec S16384x128 1) (main_v16 : IVec S16x2048x512 1) (main_cst_5 : FVec F S_ .f32) : IVec S16384x2048 1 × IVec S16384x128 1 × IVec S16x2048x512 1 × IVec S16x2048x512 1 × IVec S16x512x2048 1 × IVec S16384x4 1 × IVec S16384x4 1 × IVec S16384x4 1 × IVec S16384x4 1 :=
  let main_v17 : FVec F S16x2048x512 .f32 := broadcastInDim S16x2048x512 ![] bcast_S_S16x2048x512 main_cst_5
  let main_v18 : IVec S16x2048x512 1 := cmpf .olt main_arg4 main_v17
  let main_cst_6 : FVec F S_ .f32 := constant S_ .f32 0xFF800000#32
  let main_v19 : FVec F S16x2048x512 .f32 := broadcastInDim S16x2048x512 ![] bcast_S_S16x2048x512 main_cst_6
  let main_v20 : IVec S16x2048x512 1 := cmpf .ogt main_arg4 main_v19
  let main_v21 : IVec S16x2048x512 1 := andi main_v18 main_v20
  let main_cst_7 : FVec F S_ .f32 := constant S_ .f32 0x7F800000#32
  let main_v22 : FVec F S16x512x2048 .f32 := broadcastInDim S16x512x2048 ![] bcast_S_S16x512x2048 main_cst_7
  let main_v23 : IVec S16x512x2048 1 := cmpf .olt main_arg5 main_v22
  let main_cst_8 : FVec F S_ .f32 := constant S_ .f32 0xFF800000#32
  let main_v24 : FVec F S16x512x2048 .f32 := broadcastInDim S16x512x2048 ![] bcast_S_S16x512x2048 main_cst_8
  let main_v25 : IVec S16x512x2048 1 := cmpf .ogt main_arg5 main_v24
  let main_v26 : IVec S16x512x2048 1 := andi main_v23 main_v25
  let main_cst_9 : FVec F S_ .f32 := constant S_ .f32 0x00000000#32
  let main_v27 : FVec F S16384x1 .f32 := broadcastInDim S16384x1 ![] bcast_S_S16384x1 main_cst_9
  let main_v28 : IVec S16384x1 1 := cmpf .oeq main_v0 main_v27
  let main_v29 : FVec F S16384x4 .f32 := (extractStridedSlice S16384x4 ![0, 0] · slices_S16384x128_S16384x4_0_0) main_arg1
  let main_cst_10 : FVec F S_ .f32 := constant S_ .f32 0x00000000#32
  let main_v30 : FVec F S16384x4 .f32 := broadcastInDim S16384x4 ![] bcast_S_S16384x4 main_cst_10
  let main_v31 : IVec S16384x4 1 := cmpf .oeq main_v29 main_v30
  let main_v32 : IVec S16384x4 1 := broadcastInDim S16384x4 ![0, 1] bcast_S16384x1_S16384x4_0_1 main_v28
  let main_v33 : IVec S16384x4 1 := ori main_v32 main_v31
  let main_cst_11 : FVec F S_ .f32 := constant S_ .f32 0x3F800000#32
  let main_v34 : FVec F S16384x1 .f32 := broadcastInDim S16384x1 ![] bcast_S_S16384x1 main_cst_11
  fn_part2 (F := F) main_arg1 main_v0 main_v6 main_v11 main_v16 main_v21 main_v26 main_v33 main_v34

def fn {F : FTy → Type} [FloatOps F] (main_arg0 : FVec F S16384x2048 .bf16) (main_arg1 : FVec F S16384x128 .f32) (main_arg2 : FVec F S16384x2048 .f32) (main_arg3 : FVec F S16x2048x512 .f32) (main_arg4 : FVec F S16x2048x512 .f32) (main_arg5 : FVec F S16x512x2048 .f32) (main_arg6 : FVec F S2048 .f32) : IVec S16384x2048 1 × IVec S16384x128 1 × IVec S16x2048x512 1 × IVec S16x2048x512 1 × IVec S16x512x2048 1 × IVec S16384x4 1 × IVec S16384x4 1 × IVec S16384x4 1 × IVec S16384x4 1 :=
  let main_v0 : FVec F S16384x1 .f32 := (extractStridedSlice S16384x1 ![0, 16] · slices_S16384x128_S16384x1_0_16) main_arg1
  let main_v1 : FVec F S16384x2048 .f32 := (extf .f32 · bitsLt_bf16_f32) main_arg0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_cst_0 : FVec F S_ .f32 := constant S_ .f32 0xFF800000#32
  let main_v4 : FVec F S16384x2048 .f32 := broadcastInDim S16384x2048 ![] bcast_S_S16384x2048 main_cst_0
  let main_v5 : IVec S16384x2048 1 := cmpf .ogt main_v1 main_v4
  let main_v6 : IVec S16384x2048 1 := andi main_v3 main_v5
  let main_cst_1 : FVec F S_ .f32 := constant S_ .f32 0x7F800000#32
  let main_v7 : FVec F S16384x128 .f32 := broadcastInDim S16384x128 ![] bcast_S_S16384x128 main_cst_1
  let main_v8 : IVec S16384x128 1 := cmpf .olt main_arg1 main_v7
  let main_cst_2 : FVec F S_ .f32 := constant S_ .f32 0xFF800000#32
  let main_v9 : FVec F S16384x128 .f32 := broadcastInDim S16384x128 ![] bcast_S_S16384x128 main_cst_2
  let main_v10 : IVec S16384x128 1 := cmpf .ogt main_arg1 main_v9
  let main_v11 : IVec S16384x128 1 := andi main_v8 main_v10
  let main_cst_3 : FVec F S_ .f32 := constant S_ .f32 0x7F800000#32
  let main_v12 : FVec F S16x2048x512 .f32 := broadcastInDim S16x2048x512 ![] bcast_S_S16x2048x512 main_cst_3
  let main_v13 : IVec S16x2048x512 1 := cmpf .olt main_arg3 main_v12
  let main_cst_4 : FVec F S_ .f32 := constant S_ .f32 0xFF800000#32
  let main_v14 : FVec F S16x2048x512 .f32 := broadcastInDim S16x2048x512 ![] bcast_S_S16x2048x512 main_cst_4
  let main_v15 : IVec S16x2048x512 1 := cmpf .ogt main_arg3 main_v14
  let main_v16 : IVec S16x2048x512 1 := andi main_v13 main_v15
  let main_cst_5 : FVec F S_ .f32 := constant S_ .f32 0x7F800000#32
  fn_part1 (F := F) main_arg1 main_arg4 main_arg5 main_v0 main_v6 main_v11 main_v16 main_cst_5
-- ==== Kernel.lean ====
abbrev S16384x9728 : Shape := ⟨2, ![16384, 9728]⟩
abbrev S1024x512 : Shape := ⟨2, ![1024, 512]⟩
abbrev S16384x1024 : Shape := ⟨2, ![16384, 1024]⟩
abbrev S128x1024 : Shape := ⟨2, ![128, 1024]⟩
abbrev S128x128 : Shape := ⟨2, ![128, 128]⟩
abbrev S128x512 : Shape := ⟨2, ![128, 512]⟩
abbrev S2048x512 : Shape := ⟨2, ![2048, 512]⟩
abbrev S128x1 : Shape := ⟨2, ![128, 1]⟩
abbrev S1x128 : Shape := ⟨2, ![1, 128]⟩
abbrev S1x256 : Shape := ⟨2, ![1, 256]⟩
abbrev S128x256 : Shape := ⟨2, ![128, 256]⟩
abbrev S512x128 : Shape := ⟨2, ![512, 128]⟩
abbrev S128 : Shape := ⟨1, ![128]⟩
abbrev S32x128 : Shape := ⟨2, ![32, 128]⟩
abbrev S96x128 : Shape := ⟨2, ![96, 128]⟩
abbrev S256x128 : Shape := ⟨2, ![256, 128]⟩
abbrev S512x256 : Shape := ⟨2, ![512, 256]⟩
abbrev S512x1 : Shape := ⟨2, ![512, 1]⟩
abbrev S128x640 : Shape := ⟨2, ![128, 640]⟩
abbrev S640x128 : Shape := ⟨2, ![640, 128]⟩
abbrev S512x640 : Shape := ⟨2, ![512, 640]⟩
abbrev S1x512 : Shape := ⟨2, ![1, 512]⟩
abbrev S512x512 : Shape := ⟨2, ![512, 512]⟩
abbrev S1x1024 : Shape := ⟨2, ![1, 1024]⟩
abbrev S1024x128 : Shape := ⟨2, ![1024, 128]⟩
abbrev S512x1024 : Shape := ⟨2, ![512, 1024]⟩
abbrev S1x2048 : Shape := ⟨2, ![1, 2048]⟩
abbrev S128x2048 : Shape := ⟨2, ![128, 2048]⟩
abbrev S2048x128 : Shape := ⟨2, ![2048, 128]⟩
abbrev S512x2048 : Shape := ⟨2, ![512, 2048]⟩

abbrev nBuf : Space → Nat
  | .hbm => 3
  | .vmem => 12
  | .smem => 0
  | _ => 0

abbrev bufTy : (tb : Table) → Fin (tcTables nBuf tb) → BufTy
  | .hbm, ⟨0, _⟩ => ⟨S16384x9728, .f32⟩
  | .hbm, ⟨1, _⟩ => ⟨S1024x512, .f32⟩
  | .hbm, ⟨2, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x512, .f32⟩
  | .local _ .vmem, ⟨5, _⟩ => ⟨S128x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S128x1024, .f32⟩
  | .local _ .vmem, ⟨11, _⟩ => ⟨S128x1024, .f32⟩
  | _, _ => ⟨S16384x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_mult1 (i : grid0.Coords) : BitVec 32 :=
  let arg1 : BitVec 32 := BitVec.ofNat 32 (i 1).val
  let c4_i32_162 : BitVec 32 := 4#32
  let v696 : BitVec 32 := Scalar.subi arg1 c4_i32_162
  let c0_i32_163 : BitVec 32 := 0#32
  let v697 : BitVec 32 := Scalar.addi v696 c0_i32_163
  let c0_i32_164 : BitVec 32 := 0#32
  let v698 : BitVec 32 := Scalar.maxsi v697 c0_i32_164
  let c128_i32_165 : BitVec 32 := 128#32
  let v699 : BitVec 32 := Scalar.muli v698 c128_i32_165
  v699
def k0_off1 (i : grid0.Coords) (c0_i32_163 : BitVec 32) : Fin 2 → Nat :=
  let arg1 : BitVec 32 := BitVec.ofNat 32 (i 1).val
  let c4_i32_162 : BitVec 32 := 4#32
  let v696 : BitVec 32 := Scalar.subi arg1 c4_i32_162
  let v697 : BitVec 32 := Scalar.addi v696 c0_i32_163
  let c0_i32_164 : BitVec 32 := 0#32
  let v698 : BitVec 32 := Scalar.maxsi v697 c0_i32_164
  let c128_i32_165 : BitVec 32 := 128#32
  let v699 : BitVec 32 := Scalar.muli v698 c128_i32_165
  let v700 : BitVec 32 := v699
  let v701 : Index := Scalar.indexCast v700
  let c0_166 : Index := 0#32
  ![v701.toNat, 0]
def k0_off2 (i : grid0.Coords) (c0_i32_163 : BitVec 32) : Fin 2 → Nat :=
  let arg1 : BitVec 32 := BitVec.ofNat 32 (i 1).val
  let c4_i32_162 : BitVec 32 := 4#32
  let v696 : BitVec 32 := Scalar.subi arg1 c4_i32_162
  let v697 : BitVec 32 := Scalar.addi v696 c0_i32_163
  let c0_i32_164 : BitVec 32 := 0#32
  let v698 : BitVec 32 := Scalar.maxsi v697 c0_i32_164
  let c128_i32_165 : BitVec 32 := 128#32
  let v699 : BitVec 32 := Scalar.muli v698 c128_i32_165
  let v700 : BitVec 32 := v699
  let v704 : Index := Scalar.indexCast v700
  let c128_167 : Index := 128#32
  ![v704.toNat, 128]
def k0_mult2 (i : grid0.Coords) : BitVec 32 :=
  let arg1 : BitVec 32 := BitVec.ofNat 32 (i 1).val
  let c4_i32_172 : BitVec 32 := 4#32
  let v727 : BitVec 32 := Scalar.subi arg1 c4_i32_172
  let c1_i32_173 : BitVec 32 := 1#32
  let v728 : BitVec 32 := Scalar.addi v727 c1_i32_173
  let c0_i32_174 : BitVec 32 := 0#32
  let v729 : BitVec 32 := Scalar.maxsi v728 c0_i32_174
  let c128_i32_175 : BitVec 32 := 128#32
  let v730 : BitVec 32 := Scalar.muli v729 c128_i32_175
  v730
def k0_mult3 (i : grid0.Coords) : BitVec 32 :=
  let arg1 : BitVec 32 := BitVec.ofNat 32 (i 1).val
  let c4_i32_183 : BitVec 32 := 4#32
  let v758 : BitVec 32 := Scalar.subi arg1 c4_i32_183
  let c2_i32_184 : BitVec 32 := 2#32
  let v759 : BitVec 32 := Scalar.addi v758 c2_i32_184
  let c0_i32_185 : BitVec 32 := 0#32
  let v760 : BitVec 32 := Scalar.maxsi v759 c0_i32_185
  let c128_i32_186 : BitVec 32 := 128#32
  let v761 : BitVec 32 := Scalar.muli v760 c128_i32_186
  v761
def k0_mult4 (i : grid0.Coords) : BitVec 32 :=
  let arg1 : BitVec 32 := BitVec.ofNat 32 (i 1).val
  let c4_i32_194 : BitVec 32 := 4#32
  let v789 : BitVec 32 := Scalar.subi arg1 c4_i32_194
  let c3_i32_195 : BitVec 32 := 3#32
  let v790 : BitVec 32 := Scalar.addi v789 c3_i32_195
  let c0_i32_196 : BitVec 32 := 0#32
  let v791 : BitVec 32 := Scalar.maxsi v790 c0_i32_196
  let c128_i32_197 : BitVec 32 := 128#32
  let v792 : BitVec 32 := Scalar.muli v791 c128_i32_197
  v792
def k0_mult5 (i : grid0.Coords) : BitVec 32 :=
  let arg1 : BitVec 32 := BitVec.ofNat 32 (i 1).val
  let c4_i32_205 : BitVec 32 := 4#32
  let v820 : BitVec 32 := Scalar.subi arg1 c4_i32_205
  let c4_i32_206 : BitVec 32 := 4#32
  let v821 : BitVec 32 := Scalar.addi v820 c4_i32_206
  let c0_i32_207 : BitVec 32 := 0#32
  let v822 : BitVec 32 := Scalar.maxsi v821 c0_i32_207
  let c128_i32_208 : BitVec 32 := 128#32
  let v823 : BitVec 32 := Scalar.muli v822 c128_i32_208
  v823
def k0_mult6 (i : grid0.Coords) : BitVec 32 :=
  let arg1 : BitVec 32 := BitVec.ofNat 32 (i 1).val
  let c4_i32_413 : BitVec 32 := 4#32
  let v1596 : BitVec 32 := Scalar.subi arg1 c4_i32_413
  let c0_i32_414 : BitVec 32 := 0#32
  let v1597 : BitVec 32 := Scalar.addi v1596 c0_i32_414
  let c0_i32_415 : BitVec 32 := 0#32
  let v1598 : BitVec 32 := Scalar.maxsi v1597 c0_i32_415
  let c128_i32_416 : BitVec 32 := 128#32
  let v1599 : BitVec 32 := Scalar.muli v1598 c128_i32_416
  v1599
def k0_off3 (i : grid0.Coords) (c0_i32_414 : BitVec 32) : Fin 2 → Nat :=
  let arg1 : BitVec 32 := BitVec.ofNat 32 (i 1).val
  let c4_i32_413 : BitVec 32 := 4#32
  let v1596 : BitVec 32 := Scalar.subi arg1 c4_i32_413
  let v1597 : BitVec 32 := Scalar.addi v1596 c0_i32_414
  let c0_i32_415 : BitVec 32 := 0#32
  let v1598 : BitVec 32 := Scalar.maxsi v1597 c0_i32_415
  let c128_i32_416 : BitVec 32 := 128#32
  let v1599 : BitVec 32 := Scalar.muli v1598 c128_i32_416
  let v1600 : BitVec 32 := v1599
  let v1601 : Index := Scalar.indexCast v1600
  let c256_417 : Index := 256#32
  ![v1601.toNat, 256]
def k0_off4 (i : grid0.Coords) (c0_i32_414 : BitVec 32) : Fin 2 → Nat :=
  let arg1 : BitVec 32 := BitVec.ofNat 32 (i 1).val
  let c4_i32_413 : BitVec 32 := 4#32
  let v1596 : BitVec 32 := Scalar.subi arg1 c4_i32_413
  let v1597 : BitVec 32 := Scalar.addi v1596 c0_i32_414
  let c0_i32_415 : BitVec 32 := 0#32
  let v1598 : BitVec 32 := Scalar.maxsi v1597 c0_i32_415
  let c128_i32_416 : BitVec 32 := 128#32
  let v1599 : BitVec 32 := Scalar.muli v1598 c128_i32_416
  let v1600 : BitVec 32 := v1599
  let v1604 : Index := Scalar.indexCast v1600
  let c384_418 : Index := 384#32
  ![v1604.toNat, 384]
def k0_mult7 (i : grid0.Coords) : BitVec 32 :=
  let arg1 : BitVec 32 := BitVec.ofNat 32 (i 1).val
  let c4_i32_424 : BitVec 32 := 4#32
  let v1627 : BitVec 32 := Scalar.subi arg1 c4_i32_424
  let c1_i32_425 : BitVec 32 := 1#32
  let v1628 : BitVec 32 := Scalar.addi v1627 c1_i32_425
  let c0_i32_426 : BitVec 32 := 0#32
  let v1629 : BitVec 32 := Scalar.maxsi v1628 c0_i32_426
  let c128_i32_427 : BitVec 32 := 128#32
  let v1630 : BitVec 32 := Scalar.muli v1629 c128_i32_427
  v1630
def k0_mult8 (i : grid0.Coords) : BitVec 32 :=
  let arg1 : BitVec 32 := BitVec.ofNat 32 (i 1).val
  let c4_i32_435 : BitVec 32 := 4#32
  let v1658 : BitVec 32 := Scalar.subi arg1 c4_i32_435
  let c2_i32_436 : BitVec 32 := 2#32
  let v1659 : BitVec 32 := Scalar.addi v1658 c2_i32_436
  let c0_i32_437 : BitVec 32 := 0#32
  let v1660 : BitVec 32 := Scalar.maxsi v1659 c0_i32_437
  let c128_i32_438 : BitVec 32 := 128#32
  let v1661 : BitVec 32 := Scalar.muli v1660 c128_i32_438
  v1661
def k0_mult9 (i : grid0.Coords) : BitVec 32 :=
  let arg1 : BitVec 32 := BitVec.ofNat 32 (i 1).val
  let c4_i32_446 : BitVec 32 := 4#32
  let v1689 : BitVec 32 := Scalar.subi arg1 c4_i32_446
  let c3_i32_447 : BitVec 32 := 3#32
  let v1690 : BitVec 32 := Scalar.addi v1689 c3_i32_447
  let c0_i32_448 : BitVec 32 := 0#32
  let v1691 : BitVec 32 := Scalar.maxsi v1690 c0_i32_448
  let c128_i32_449 : BitVec 32 := 128#32
  let v1692 : BitVec 32 := Scalar.muli v1691 c128_i32_449
  v1692
def k0_mult10 (i : grid0.Coords) : BitVec 32 :=
  let arg1 : BitVec 32 := BitVec.ofNat 32 (i 1).val
  let c4_i32_457 : BitVec 32 := 4#32
  let v1720 : BitVec 32 := Scalar.subi arg1 c4_i32_457
  let c4_i32_458 : BitVec 32 := 4#32
  let v1721 : BitVec 32 := Scalar.addi v1720 c4_i32_458
  let c0_i32_459 : BitVec 32 := 0#32
  let v1722 : BitVec 32 := Scalar.maxsi v1721 c0_i32_459
  let c128_i32_460 : BitVec 32 := 128#32
  let v1723 : BitVec 32 := Scalar.muli v1722 c128_i32_460
  v1723
def k0_cond2 (i : grid0.Coords) : BitVec 1 :=
  let arg1 : BitVec 32 := BitVec.ofNat 32 (i 1).val
  let c2_i32_1 : BitVec 32 := 2#32
  let v5 : BitVec 1 := Scalar.cmpi .sge arg1 c2_i32_1
  let c4_i32 : BitVec 32 := 4#32
  let v6 : BitVec 1 := Scalar.cmpi .slt arg1 c4_i32
  let v7 : BitVec 1 := Scalar.andi v5 v6
  let v8 : BitVec 32 := Scalar.extui v7
  let c0_i32_2 : BitVec 32 := 0#32
  let v9 : BitVec 1 := Scalar.cmpi .ne v8 c0_i32_2
  v9

def k0_mult11 (i : grid0.Coords) : BitVec 32 :=
  let arg1 : BitVec 32 := BitVec.ofNat 32 (i 1).val
  let c4_i32_162 : BitVec 32 := 4#32
  let v696 : BitVec 32 := Scalar.subi arg1 c4_i32_162
  let c0_i32_163 : BitVec 32 := 0#32
  let v697 : BitVec 32 := Scalar.addi v696 c0_i32_163
  let c0_i32_164 : BitVec 32 := 0#32
  let v698 : BitVec 32 := Scalar.maxsi v697 c0_i32_164
  let c128_i32_165 : BitVec 32 := 128#32
  let v699 : BitVec 32 := Scalar.muli v698 c128_i32_165
  v699
def k0_off5 (i : grid0.Coords) (c0_i32_163 : BitVec 32) : Fin 2 → Nat :=
  let arg1 : BitVec 32 := BitVec.ofNat 32 (i 1).val
  let c4_i32_162 : BitVec 32 := 4#32
  let v696 : BitVec 32 := Scalar.subi arg1 c4_i32_162
  let v697 : BitVec 32 := Scalar.addi v696 c0_i32_163
  let c0_i32_164 : BitVec 32 := 0#32
  let v698 : BitVec 32 := Scalar.maxsi v697 c0_i32_164
  let c128_i32_165 : BitVec 32 := 128#32
  let v699 : BitVec 32 := Scalar.muli v698 c128_i32_165
  let v700 : BitVec 32 := v699
  let v701 : Index := Scalar.indexCast v700
  let c0_166 : Index := 0#32
  ![v701.toNat, 0]
def k0_off6 (i : grid0.Coords) (c0_i32_163 : BitVec 32) : Fin 2 → Nat :=
  let arg1 : BitVec 32 := BitVec.ofNat 32 (i 1).val
  let c4_i32_162 : BitVec 32 := 4#32
  let v696 : BitVec 32 := Scalar.subi arg1 c4_i32_162
  let v697 : BitVec 32 := Scalar.addi v696 c0_i32_163
  let c0_i32_164 : BitVec 32 := 0#32
  let v698 : BitVec 32 := Scalar.maxsi v697 c0_i32_164
  let c128_i32_165 : BitVec 32 := 128#32
  let v699 : BitVec 32 := Scalar.muli v698 c128_i32_165
  let v700 : BitVec 32 := v699
  let v704 : Index := Scalar.indexCast v700
  let c128_167 : Index := 128#32
  ![v704.toNat, 128]
def k0_mult12 (i : grid0.Coords) : BitVec 32 :=
  let arg1 : BitVec 32 := BitVec.ofNat 32 (i 1).val
  let c4_i32_172 : BitVec 32 := 4#32
  let v727 : BitVec 32 := Scalar.subi arg1 c4_i32_172
  let c1_i32_173 : BitVec 32 := 1#32
  let v728 : BitVec 32 := Scalar.addi v727 c1_i32_173
  let c0_i32_174 : BitVec 32 := 0#32
  let v729 : BitVec 32 := Scalar.maxsi v728 c0_i32_174
  let c128_i32_175 : BitVec 32 := 128#32
  let v730 : BitVec 32 := Scalar.muli v729 c128_i32_175
  v730
def k0_mult13 (i : grid0.Coords) : BitVec 32 :=
  let arg1 : BitVec 32 := BitVec.ofNat 32 (i 1).val
  let c4_i32_183 : BitVec 32 := 4#32
  let v758 : BitVec 32 := Scalar.subi arg1 c4_i32_183
  let c2_i32_184 : BitVec 32 := 2#32
  let v759 : BitVec 32 := Scalar.addi v758 c2_i32_184
  let c0_i32_185 : BitVec 32 := 0#32
  let v760 : BitVec 32 := Scalar.maxsi v759 c0_i32_185
  let c128_i32_186 : BitVec 32 := 128#32
  let v761 : BitVec 32 := Scalar.muli v760 c128_i32_186
  v761
def k0_mult14 (i : grid0.Coords) : BitVec 32 :=
  let arg1 : BitVec 32 := BitVec.ofNat 32 (i 1).val
  let c4_i32_194 : BitVec 32 := 4#32
  let v789 : BitVec 32 := Scalar.subi arg1 c4_i32_194
  let c3_i32_195 : BitVec 32 := 3#32
  let v790 : BitVec 32 := Scalar.addi v789 c3_i32_195
  let c0_i32_196 : BitVec 32 := 0#32
  let v791 : BitVec 32 := Scalar.maxsi v790 c0_i32_196
  let c128_i32_197 : BitVec 32 := 128#32
  let v792 : BitVec 32 := Scalar.muli v791 c128_i32_197
  v792
def k0_mult15 (i : grid0.Coords) : BitVec 32 :=
  let arg1 : BitVec 32 := BitVec.ofNat 32 (i 1).val
  let c4_i32_205 : BitVec 32 := 4#32
  let v820 : BitVec 32 := Scalar.subi arg1 c4_i32_205
  let c4_i32_206 : BitVec 32 := 4#32
  let v821 : BitVec 32 := Scalar.addi v820 c4_i32_206
  let c0_i32_207 : BitVec 32 := 0#32
  let v822 : BitVec 32 := Scalar.maxsi v821 c0_i32_207
  let c128_i32_208 : BitVec 32 := 128#32
  let v823 : BitVec 32 := Scalar.muli v822 c128_i32_208
  v823
def k0_mult16 (i : grid0.Coords) : BitVec 32 :=
  let arg1 : BitVec 32 := BitVec.ofNat 32 (i 1).val
  let c4_i32_413 : BitVec 32 := 4#32
  let v1596 : BitVec 32 := Scalar.subi arg1 c4_i32_413
  let c0_i32_414 : BitVec 32 := 0#32
  let v1597 : BitVec 32 := Scalar.addi v1596 c0_i32_414
  let c0_i32_415 : BitVec 32 := 0#32
  let v1598 : BitVec 32 := Scalar.maxsi v1597 c0_i32_415
  let c128_i32_416 : BitVec 32 := 128#32
  let v1599 : BitVec 32 := Scalar.muli v1598 c128_i32_416
  v1599
def k0_off7 (i : grid0.Coords) (c0_i32_414 : BitVec 32) : Fin 2 → Nat :=
  let arg1 : BitVec 32 := BitVec.ofNat 32 (i 1).val
  let c4_i32_413 : BitVec 32 := 4#32
  let v1596 : BitVec 32 := Scalar.subi arg1 c4_i32_413
  let v1597 : BitVec 32 := Scalar.addi v1596 c0_i32_414
  let c0_i32_415 : BitVec 32 := 0#32
  let v1598 : BitVec 32 := Scalar.maxsi v1597 c0_i32_415
  let c128_i32_416 : BitVec 32 := 128#32
  let v1599 : BitVec 32 := Scalar.muli v1598 c128_i32_416
  let v1600 : BitVec 32 := v1599
  let v1601 : Index := Scalar.indexCast v1600
  let c256_417 : Index := 256#32
  ![v1601.toNat, 256]
def k0_off8 (i : grid0.Coords) (c0_i32_414 : BitVec 32) : Fin 2 → Nat :=
  let arg1 : BitVec 32 := BitVec.ofNat 32 (i 1).val
  let c4_i32_413 : BitVec 32 := 4#32
  let v1596 : BitVec 32 := Scalar.subi arg1 c4_i32_413
  let v1597 : BitVec 32 := Scalar.addi v1596 c0_i32_414
  let c0_i32_415 : BitVec 32 := 0#32
  let v1598 : BitVec 32 := Scalar.maxsi v1597 c0_i32_415
  let c128_i32_416 : BitVec 32 := 128#32
  let v1599 : BitVec 32 := Scalar.muli v1598 c128_i32_416
  let v1600 : BitVec 32 := v1599
  let v1604 : Index := Scalar.indexCast v1600
  let c384_418 : Index := 384#32
  ![v1604.toNat, 384]
def k0_mult17 (i : grid0.Coords) : BitVec 32 :=
  let arg1 : BitVec 32 := BitVec.ofNat 32 (i 1).val
  let c4_i32_424 : BitVec 32 := 4#32
  let v1627 : BitVec 32 := Scalar.subi arg1 c4_i32_424
  let c1_i32_425 : BitVec 32 := 1#32
  let v1628 : BitVec 32 := Scalar.addi v1627 c1_i32_425
  let c0_i32_426 : BitVec 32 := 0#32
  let v1629 : BitVec 32 := Scalar.maxsi v1628 c0_i32_426
  let c128_i32_427 : BitVec 32 := 128#32
  let v1630 : BitVec 32 := Scalar.muli v1629 c128_i32_427
  v1630
def k0_mult18 (i : grid0.Coords) : BitVec 32 :=
  let arg1 : BitVec 32 := BitVec.ofNat 32 (i 1).val
  let c4_i32_435 : BitVec 32 := 4#32
  let v1658 : BitVec 32 := Scalar.subi arg1 c4_i32_435
  let c2_i32_436 : BitVec 32 := 2#32
  let v1659 : BitVec 32 := Scalar.addi v1658 c2_i32_436
  let c0_i32_437 : BitVec 32 := 0#32
  let v1660 : BitVec 32 := Scalar.maxsi v1659 c0_i32_437
  let c128_i32_438 : BitVec 32 := 128#32
  let v1661 : BitVec 32 := Scalar.muli v1660 c128_i32_438
  v1661
def k0_mult19 (i : grid0.Coords) : BitVec 32 :=
  let arg1 : BitVec 32 := BitVec.ofNat 32 (i 1).val
  let c4_i32_446 : BitVec 32 := 4#32
  let v1689 : BitVec 32 := Scalar.subi arg1 c4_i32_446
  let c3_i32_447 : BitVec 32 := 3#32
  let v1690 : BitVec 32 := Scalar.addi v1689 c3_i32_447
  let c0_i32_448 : BitVec 32 := 0#32
  let v1691 : BitVec 32 := Scalar.maxsi v1690 c0_i32_448
  let c128_i32_449 : BitVec 32 := 128#32
  let v1692 : BitVec 32 := Scalar.muli v1691 c128_i32_449
  v1692
def k0_mult20 (i : grid0.Coords) : BitVec 32 :=
  let arg1 : BitVec 32 := BitVec.ofNat 32 (i 1).val
  let c4_i32_457 : BitVec 32 := 4#32
  let v1720 : BitVec 32 := Scalar.subi arg1 c4_i32_457
  let c4_i32_458 : BitVec 32 := 4#32
  let v1721 : BitVec 32 := Scalar.addi v1720 c4_i32_458
  let c0_i32_459 : BitVec 32 := 0#32
  let v1722 : BitVec 32 := Scalar.maxsi v1721 c0_i32_459
  let c128_i32_460 : BitVec 32 := 128#32
  let v1723 : BitVec 32 := Scalar.muli v1722 c128_i32_460
  v1723
def k0_cond3 (i : grid0.Coords) : BitVec 1 :=
  let arg1 : BitVec 32 := BitVec.ofNat 32 (i 1).val
  let c4_i32_3 : BitVec 32 := 4#32
  let v10 : BitVec 1 := Scalar.cmpi .sge arg1 c4_i32_3
  let c8_i32 : BitVec 32 := 8#32
  let v11 : BitVec 1 := Scalar.cmpi .slt arg1 c8_i32
  let v12 : BitVec 1 := Scalar.andi v10 v11
  let v13 : BitVec 32 := Scalar.extui v12
  let c0_i32_4 : BitVec 32 := 0#32
  let v14 : BitVec 1 := Scalar.cmpi .ne v13 c0_i32_4
  v14

def k0_mult21 (i : grid0.Coords) : BitVec 32 :=
  let arg1 : BitVec 32 := BitVec.ofNat 32 (i 1).val
  let c4_i32_162 : BitVec 32 := 4#32
  let v696 : BitVec 32 := Scalar.subi arg1 c4_i32_162
  let c0_i32_163 : BitVec 32 := 0#32
  let v697 : BitVec 32 := Scalar.addi v696 c0_i32_163
  let c0_i32_164 : BitVec 32 := 0#32
  let v698 : BitVec 32 := Scalar.maxsi v697 c0_i32_164
  let c128_i32_165 : BitVec 32 := 128#32
  let v699 : BitVec 32 := Scalar.muli v698 c128_i32_165
  v699
def k0_off9 (i : grid0.Coords) (c0_i32_163 : BitVec 32) : Fin 2 → Nat :=
  let arg1 : BitVec 32 := BitVec.ofNat 32 (i 1).val
  let c4_i32_162 : BitVec 32 := 4#32
  let v696 : BitVec 32 := Scalar.subi arg1 c4_i32_162
  let v697 : BitVec 32 := Scalar.addi v696 c0_i32_163
  let c0_i32_164 : BitVec 32 := 0#32
  let v698 : BitVec 32 := Scalar.maxsi v697 c0_i32_164
  let c128_i32_165 : BitVec 32 := 128#32
  let v699 : BitVec 32 := Scalar.muli v698 c128_i32_165
  let v700 : BitVec 32 := v699
  let v701 : Index := Scalar.indexCast v700
  let c0_166 : Index := 0#32
  ![v701.toNat, 0]
def k0_off10 (i : grid0.Coords) (c0_i32_163 : BitVec 32) : Fin 2 → Nat :=
  let arg1 : BitVec 32 := BitVec.ofNat 32 (i 1).val
  let c4_i32_162 : BitVec 32 := 4#32
  let v696 : BitVec 32 := Scalar.subi arg1 c4_i32_162
  let v697 : BitVec 32 := Scalar.addi v696 c0_i32_163
  let c0_i32_164 : BitVec 32 := 0#32
  let v698 : BitVec 32 := Scalar.maxsi v697 c0_i32_164
  let c128_i32_165 : BitVec 32 := 128#32
  let v699 : BitVec 32 := Scalar.muli v698 c128_i32_165
  let v700 : BitVec 32 := v699
  let v704 : Index := Scalar.indexCast v700
  let c128_167 : Index := 128#32
  ![v704.toNat, 128]
def k0_mult22 (i : grid0.Coords) : BitVec 32 :=
  let arg1 : BitVec 32 := BitVec.ofNat 32 (i 1).val
  let c4_i32_172 : BitVec 32 := 4#32
  let v727 : BitVec 32 := Scalar.subi arg1 c4_i32_172
  let c1_i32_173 : BitVec 32 := 1#32
  let v728 : BitVec 32 := Scalar.addi v727 c1_i32_173
  let c0_i32_174 : BitVec 32 := 0#32
  let v729 : BitVec 32 := Scalar.maxsi v728 c0_i32_174
  let c128_i32_175 : BitVec 32 := 128#32
  let v730 : BitVec 32 := Scalar.muli v729 c128_i32_175
  v730
def k0_mult23 (i : grid0.Coords) : BitVec 32 :=
  let arg1 : BitVec 32 := BitVec.ofNat 32 (i 1).val
  let c4_i32_183 : BitVec 32 := 4#32
  let v758 : BitVec 32 := Scalar.subi arg1 c4_i32_183
  let c2_i32_184 : BitVec 32 := 2#32
  let v759 : BitVec 32 := Scalar.addi v758 c2_i32_184
  let c0_i32_185 : BitVec 32 := 0#32
  let v760 : BitVec 32 := Scalar.maxsi v759 c0_i32_185
  let c128_i32_186 : BitVec 32 := 128#32
  let v761 : BitVec 32 := Scalar.muli v760 c128_i32_186
  v761
def k0_mult24 (i : grid0.Coords) : BitVec 32 :=
  let arg1 : BitVec 32 := BitVec.ofNat 32 (i 1).val
  let c4_i32_194 : BitVec 32 := 4#32
  let v789 : BitVec 32 := Scalar.subi arg1 c4_i32_194
  let c3_i32_195 : BitVec 32 := 3#32
  let v790 : BitVec 32 := Scalar.addi v789 c3_i32_195
  let c0_i32_196 : BitVec 32 := 0#32
  let v791 : BitVec 32 := Scalar.maxsi v790 c0_i32_196
  let c128_i32_197 : BitVec 32 := 128#32
  let v792 : BitVec 32 := Scalar.muli v791 c128_i32_197
  v792
def k0_mult25 (i : grid0.Coords) : BitVec 32 :=
  let arg1 : BitVec 32 := BitVec.ofNat 32 (i 1).val
  let c4_i32_205 : BitVec 32 := 4#32
  let v820 : BitVec 32 := Scalar.subi arg1 c4_i32_205
  let c4_i32_206 : BitVec 32 := 4#32
  let v821 : BitVec 32 := Scalar.addi v820 c4_i32_206
  let c0_i32_207 : BitVec 32 := 0#32
  let v822 : BitVec 32 := Scalar.maxsi v821 c0_i32_207
  let c128_i32_208 : BitVec 32 := 128#32
  let v823 : BitVec 32 := Scalar.muli v822 c128_i32_208
  v823
def k0_mult26 (i : grid0.Coords) : BitVec 32 :=
  let arg1 : BitVec 32 := BitVec.ofNat 32 (i 1).val
  let c4_i32_413 : BitVec 32 := 4#32
  let v1596 : BitVec 32 := Scalar.subi arg1 c4_i32_413
  let c0_i32_414 : BitVec 32 := 0#32
  let v1597 : BitVec 32 := Scalar.addi v1596 c0_i32_414
  let c0_i32_415 : BitVec 32 := 0#32
  let v1598 : BitVec 32 := Scalar.maxsi v1597 c0_i32_415
  let c128_i32_416 : BitVec 32 := 128#32
  let v1599 : BitVec 32 := Scalar.muli v1598 c128_i32_416
  v1599
def k0_off11 (i : grid0.Coords) (c0_i32_414 : BitVec 32) : Fin 2 → Nat :=
  let arg1 : BitVec 32 := BitVec.ofNat 32 (i 1).val
  let c4_i32_413 : BitVec 32 := 4#32
  let v1596 : BitVec 32 := Scalar.subi arg1 c4_i32_413
  let v1597 : BitVec 32 := Scalar.addi v1596 c0_i32_414
  let c0_i32_415 : BitVec 32 := 0#32
  let v1598 : BitVec 32 := Scalar.maxsi v1597 c0_i32_415
  let c128_i32_416 : BitVec 32 := 128#32
  let v1599 : BitVec 32 := Scalar.muli v1598 c128_i32_416
  let v1600 : BitVec 32 := v1599
  let v1601 : Index := Scalar.indexCast v1600
  let c256_417 : Index := 256#32
  ![v1601.toNat, 256]
def k0_off12 (i : grid0.Coords) (c0_i32_414 : BitVec 32) : Fin 2 → Nat :=
  let arg1 : BitVec 32 := BitVec.ofNat 32 (i 1).val
  let c4_i32_413 : BitVec 32 := 4#32
  let v1596 : BitVec 32 := Scalar.subi arg1 c4_i32_413
  let v1597 : BitVec 32 := Scalar.addi v1596 c0_i32_414
  let c0_i32_415 : BitVec 32 := 0#32
  let v1598 : BitVec 32 := Scalar.maxsi v1597 c0_i32_415
  let c128_i32_416 : BitVec 32 := 128#32
  let v1599 : BitVec 32 := Scalar.muli v1598 c128_i32_416
  let v1600 : BitVec 32 := v1599
  let v1604 : Index := Scalar.indexCast v1600
  let c384_418 : Index := 384#32
  ![v1604.toNat, 384]
def k0_mult27 (i : grid0.Coords) : BitVec 32 :=
  let arg1 : BitVec 32 := BitVec.ofNat 32 (i 1).val
  let c4_i32_424 : BitVec 32 := 4#32
  let v1627 : BitVec 32 := Scalar.subi arg1 c4_i32_424
  let c1_i32_425 : BitVec 32 := 1#32
  let v1628 : BitVec 32 := Scalar.addi v1627 c1_i32_425
  let c0_i32_426 : BitVec 32 := 0#32
  let v1629 : BitVec 32 := Scalar.maxsi v1628 c0_i32_426
  let c128_i32_427 : BitVec 32 := 128#32
  let v1630 : BitVec 32 := Scalar.muli v1629 c128_i32_427
  v1630
def k0_mult28 (i : grid0.Coords) : BitVec 32 :=
  let arg1 : BitVec 32 := BitVec.ofNat 32 (i 1).val
  let c4_i32_435 : BitVec 32 := 4#32
  let v1658 : BitVec 32 := Scalar.subi arg1 c4_i32_435
  let c2_i32_436 : BitVec 32 := 2#32
  let v1659 : BitVec 32 := Scalar.addi v1658 c2_i32_436
  let c0_i32_437 : BitVec 32 := 0#32
  let v1660 : BitVec 32 := Scalar.maxsi v1659 c0_i32_437
  let c128_i32_438 : BitVec 32 := 128#32
  let v1661 : BitVec 32 := Scalar.muli v1660 c128_i32_438
  v1661
def k0_mult29 (i : grid0.Coords) : BitVec 32 :=
  let arg1 : BitVec 32 := BitVec.ofNat 32 (i 1).val
  let c4_i32_446 : BitVec 32 := 4#32
  let v1689 : BitVec 32 := Scalar.subi arg1 c4_i32_446
  let c3_i32_447 : BitVec 32 := 3#32
  let v1690 : BitVec 32 := Scalar.addi v1689 c3_i32_447
  let c0_i32_448 : BitVec 32 := 0#32
  let v1691 : BitVec 32 := Scalar.maxsi v1690 c0_i32_448
  let c128_i32_449 : BitVec 32 := 128#32
  let v1692 : BitVec 32 := Scalar.muli v1691 c128_i32_449
  v1692
def k0_mult30 (i : grid0.Coords) : BitVec 32 :=
  let arg1 : BitVec 32 := BitVec.ofNat 32 (i 1).val
  let c4_i32_457 : BitVec 32 := 4#32
  let v1720 : BitVec 32 := Scalar.subi arg1 c4_i32_457
  let c4_i32_458 : BitVec 32 := 4#32
  let v1721 : BitVec 32 := Scalar.addi v1720 c4_i32_458
  let c0_i32_459 : BitVec 32 := 0#32
  let v1722 : BitVec 32 := Scalar.maxsi v1721 c0_i32_459
  let c128_i32_460 : BitVec 32 := 128#32
  let v1723 : BitVec 32 := Scalar.muli v1722 c128_i32_460
  v1723
def k0_cond4 (i : grid0.Coords) : BitVec 1 :=
  let arg1 : BitVec 32 := BitVec.ofNat 32 (i 1).val
  let c8_i32_5 : BitVec 32 := 8#32
  let v15 : BitVec 1 := Scalar.cmpi .sge arg1 c8_i32_5
  let c16_i32 : BitVec 32 := 16#32
  let v16 : BitVec 1 := Scalar.cmpi .slt arg1 c16_i32
  let v17 : BitVec 1 := Scalar.andi v15 v16
  let v18 : BitVec 32 := Scalar.extui v17
  let c0_i32_6 : BitVec 32 := 0#32
  let v19 : BitVec 1 := Scalar.cmpi .ne v18 c0_i32_6
  v19

def k0_mult31 (i : grid0.Coords) : BitVec 32 :=
  let arg1 : BitVec 32 := BitVec.ofNat 32 (i 1).val
  let c4_i32_162 : BitVec 32 := 4#32
  let v696 : BitVec 32 := Scalar.subi arg1 c4_i32_162
  let c0_i32_163 : BitVec 32 := 0#32
  let v697 : BitVec 32 := Scalar.addi v696 c0_i32_163
  let c0_i32_164 : BitVec 32 := 0#32
  let v698 : BitVec 32 := Scalar.maxsi v697 c0_i32_164
  let c128_i32_165 : BitVec 32 := 128#32
  let v699 : BitVec 32 := Scalar.muli v698 c128_i32_165
  v699
def k0_off13 (i : grid0.Coords) (c0_i32_163 : BitVec 32) : Fin 2 → Nat :=
  let arg1 : BitVec 32 := BitVec.ofNat 32 (i 1).val
  let c4_i32_162 : BitVec 32 := 4#32
  let v696 : BitVec 32 := Scalar.subi arg1 c4_i32_162
  let v697 : BitVec 32 := Scalar.addi v696 c0_i32_163
  let c0_i32_164 : BitVec 32 := 0#32
  let v698 : BitVec 32 := Scalar.maxsi v697 c0_i32_164
  let c128_i32_165 : BitVec 32 := 128#32
  let v699 : BitVec 32 := Scalar.muli v698 c128_i32_165
  let v700 : BitVec 32 := v699
  let v701 : Index := Scalar.indexCast v700
  let c0_166 : Index := 0#32
  ![v701.toNat, 0]
def k0_off14 (i : grid0.Coords) (c0_i32_163 : BitVec 32) : Fin 2 → Nat :=
  let arg1 : BitVec 32 := BitVec.ofNat 32 (i 1).val
  let c4_i32_162 : BitVec 32 := 4#32
  let v696 : BitVec 32 := Scalar.subi arg1 c4_i32_162
  let v697 : BitVec 32 := Scalar.addi v696 c0_i32_163
  let c0_i32_164 : BitVec 32 := 0#32
  let v698 : BitVec 32 := Scalar.maxsi v697 c0_i32_164
  let c128_i32_165 : BitVec 32 := 128#32
  let v699 : BitVec 32 := Scalar.muli v698 c128_i32_165
  let v700 : BitVec 32 := v699
  let v704 : Index := Scalar.indexCast v700
  let c128_167 : Index := 128#32
  ![v704.toNat, 128]
def k0_mult32 (i : grid0.Coords) : BitVec 32 :=
  let arg1 : BitVec 32 := BitVec.ofNat 32 (i 1).val
  let c4_i32_172 : BitVec 32 := 4#32
  let v727 : BitVec 32 := Scalar.subi arg1 c4_i32_172
  let c1_i32_173 : BitVec 32 := 1#32
  let v728 : BitVec 32 := Scalar.addi v727 c1_i32_173
  let c0_i32_174 : BitVec 32 := 0#32
  let v729 : BitVec 32 := Scalar.maxsi v728 c0_i32_174
  let c128_i32_175 : BitVec 32 := 128#32
  let v730 : BitVec 32 := Scalar.muli v729 c128_i32_175
  v730
def k0_mult33 (i : grid0.Coords) : BitVec 32 :=
  let arg1 : BitVec 32 := BitVec.ofNat 32 (i 1).val
  let c4_i32_183 : BitVec 32 := 4#32
  let v758 : BitVec 32 := Scalar.subi arg1 c4_i32_183
  let c2_i32_184 : BitVec 32 := 2#32
  let v759 : BitVec 32 := Scalar.addi v758 c2_i32_184
  let c0_i32_185 : BitVec 32 := 0#32
  let v760 : BitVec 32 := Scalar.maxsi v759 c0_i32_185
  let c128_i32_186 : BitVec 32 := 128#32
  let v761 : BitVec 32 := Scalar.muli v760 c128_i32_186
  v761
def k0_mult34 (i : grid0.Coords) : BitVec 32 :=
  let arg1 : BitVec 32 := BitVec.ofNat 32 (i 1).val
  let c4_i32_194 : BitVec 32 := 4#32
  let v789 : BitVec 32 := Scalar.subi arg1 c4_i32_194
  let c3_i32_195 : BitVec 32 := 3#32
  let v790 : BitVec 32 := Scalar.addi v789 c3_i32_195
  let c0_i32_196 : BitVec 32 := 0#32
  let v791 : BitVec 32 := Scalar.maxsi v790 c0_i32_196
  let c128_i32_197 : BitVec 32 := 128#32
  let v792 : BitVec 32 := Scalar.muli v791 c128_i32_197
  v792
def k0_mult35 (i : grid0.Coords) : BitVec 32 :=
  let arg1 : BitVec 32 := BitVec.ofNat 32 (i 1).val
  let c4_i32_205 : BitVec 32 := 4#32
  let v820 : BitVec 32 := Scalar.subi arg1 c4_i32_205
  let c4_i32_206 : BitVec 32 := 4#32
  let v821 : BitVec 32 := Scalar.addi v820 c4_i32_206
  let c0_i32_207 : BitVec 32 := 0#32
  let v822 : BitVec 32 := Scalar.maxsi v821 c0_i32_207
  let c128_i32_208 : BitVec 32 := 128#32
  let v823 : BitVec 32 := Scalar.muli v822 c128_i32_208
  v823
def k0_mult36 (i : grid0.Coords) : BitVec 32 :=
  let arg1 : BitVec 32 := BitVec.ofNat 32 (i 1).val
  let c4_i32_413 : BitVec 32 := 4#32
  let v1596 : BitVec 32 := Scalar.subi arg1 c4_i32_413
  let c0_i32_414 : BitVec 32 := 0#32
  let v1597 : BitVec 32 := Scalar.addi v1596 c0_i32_414
  let c0_i32_415 : BitVec 32 := 0#32
  let v1598 : BitVec 32 := Scalar.maxsi v1597 c0_i32_415
  let c128_i32_416 : BitVec 32 := 128#32
  let v1599 : BitVec 32 := Scalar.muli v1598 c128_i32_416
  v1599
def k0_off15 (i : grid0.Coords) (c0_i32_414 : BitVec 32) : Fin 2 → Nat :=
  let arg1 : BitVec 32 := BitVec.ofNat 32 (i 1).val
  let c4_i32_413 : BitVec 32 := 4#32
  let v1596 : BitVec 32 := Scalar.subi arg1 c4_i32_413
  let v1597 : BitVec 32 := Scalar.addi v1596 c0_i32_414
  let c0_i32_415 : BitVec 32 := 0#32
  let v1598 : BitVec 32 := Scalar.maxsi v1597 c0_i32_415
  let c128_i32_416 : BitVec 32 := 128#32
  let v1599 : BitVec 32 := Scalar.muli v1598 c128_i32_416
  let v1600 : BitVec 32 := v1599
  let v1601 : Index := Scalar.indexCast v1600
  let c256_417 : Index := 256#32
  ![v1601.toNat, 256]
def k0_off16 (i : grid0.Coords) (c0_i32_414 : BitVec 32) : Fin 2 → Nat :=
  let arg1 : BitVec 32 := BitVec.ofNat 32 (i 1).val
  let c4_i32_413 : BitVec 32 := 4#32
  let v1596 : BitVec 32 := Scalar.subi arg1 c4_i32_413
  let v1597 : BitVec 32 := Scalar.addi v1596 c0_i32_414
  let c0_i32_415 : BitVec 32 := 0#32
  let v1598 : BitVec 32 := Scalar.maxsi v1597 c0_i32_415
  let c128_i32_416 : BitVec 32 := 128#32
  let v1599 : BitVec 32 := Scalar.muli v1598 c128_i32_416
  let v1600 : BitVec 32 := v1599
  let v1604 : Index := Scalar.indexCast v1600
  let c384_418 : Index := 384#32
  ![v1604.toNat, 384]
def k0_mult37 (i : grid0.Coords) : BitVec 32 :=
  let arg1 : BitVec 32 := BitVec.ofNat 32 (i 1).val
  let c4_i32_424 : BitVec 32 := 4#32
  let v1627 : BitVec 32 := Scalar.subi arg1 c4_i32_424
  let c1_i32_425 : BitVec 32 := 1#32
  let v1628 : BitVec 32 := Scalar.addi v1627 c1_i32_425
  let c0_i32_426 : BitVec 32 := 0#32
  let v1629 : BitVec 32 := Scalar.maxsi v1628 c0_i32_426
  let c128_i32_427 : BitVec 32 := 128#32
  let v1630 : BitVec 32 := Scalar.muli v1629 c128_i32_427
  v1630
def k0_mult38 (i : grid0.Coords) : BitVec 32 :=
  let arg1 : BitVec 32 := BitVec.ofNat 32 (i 1).val
  let c4_i32_435 : BitVec 32 := 4#32
  let v1658 : BitVec 32 := Scalar.subi arg1 c4_i32_435
  let c2_i32_436 : BitVec 32 := 2#32
  let v1659 : BitVec 32 := Scalar.addi v1658 c2_i32_436
  let c0_i32_437 : BitVec 32 := 0#32
  let v1660 : BitVec 32 := Scalar.maxsi v1659 c0_i32_437
  let c128_i32_438 : BitVec 32 := 128#32
  let v1661 : BitVec 32 := Scalar.muli v1660 c128_i32_438
  v1661
def k0_mult39 (i : grid0.Coords) : BitVec 32 :=
  let arg1 : BitVec 32 := BitVec.ofNat 32 (i 1).val
  let c4_i32_446 : BitVec 32 := 4#32
  let v1689 : BitVec 32 := Scalar.subi arg1 c4_i32_446
  let c3_i32_447 : BitVec 32 := 3#32
  let v1690 : BitVec 32 := Scalar.addi v1689 c3_i32_447
  let c0_i32_448 : BitVec 32 := 0#32
  let v1691 : BitVec 32 := Scalar.maxsi v1690 c0_i32_448
  let c128_i32_449 : BitVec 32 := 128#32
  let v1692 : BitVec 32 := Scalar.muli v1691 c128_i32_449
  v1692
def k0_mult40 (i : grid0.Coords) : BitVec 32 :=
  let arg1 : BitVec 32 := BitVec.ofNat 32 (i 1).val
  let c4_i32_457 : BitVec 32 := 4#32
  let v1720 : BitVec 32 := Scalar.subi arg1 c4_i32_457
  let c4_i32_458 : BitVec 32 := 4#32
  let v1721 : BitVec 32 := Scalar.addi v1720 c4_i32_458
  let c0_i32_459 : BitVec 32 := 0#32
  let v1722 : BitVec 32 := Scalar.maxsi v1721 c0_i32_459
  let c128_i32_460 : BitVec 32 := 128#32
  let v1723 : BitVec 32 := Scalar.muli v1722 c128_i32_460
  v1723
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c73_i32 : BitVec 32 := 73#32
  let c0_i32 : BitVec 32 := 0#32
  ![v1.toNat, c73_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  ![arg0.toNat, c16_i32.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let c0_i32 : BitVec 32 := 0#32
  ![arg0.toNat, c17_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x9728 : Shape := ⟨2, ![16384, 9728]⟩
abbrev S1024x512 : Shape := ⟨2, ![1024, 512]⟩
abbrev S16384x1024 : Shape := ⟨2, ![16384, 1024]⟩
abbrev S8x2048x2x4x128 : Shape := ⟨5, ![8, 2048, 2, 4, 128]⟩
abbrev S16384x24 : Shape := ⟨2, ![16384, 24]⟩
abbrev S8x2048x2x4x3 : Shape := ⟨5, ![8, 2048, 2, 4, 3]⟩
abbrev S16384x512 : Shape := ⟨2, ![16384, 512]⟩
abbrev S8x2048x2x2x128 : Shape := ⟨5, ![8, 2048, 2, 2, 128]⟩
abbrev S8x128x2x2x128 : Shape := ⟨5, ![8, 128, 2, 2, 128]⟩
abbrev S8x127x2x2x128 : Shape := ⟨5, ![8, 127, 2, 2, 128]⟩
abbrev S8x127x2x1x128 : Shape := ⟨5, ![8, 127, 2, 1, 128]⟩
abbrev S8x127x2x128 : Shape := ⟨4, ![8, 127, 2, 128]⟩
abbrev S2048 : Shape := ⟨1, ![2048]⟩
abbrev S127 : Shape := ⟨1, ![127]⟩
abbrev S_ : Shape := ⟨0, ![]⟩
abbrev S8x2x127x2048x4 : Shape := ⟨5, ![8, 2, 127, 2048, 4]⟩
abbrev S8x2048x2x4x127 : Shape := ⟨5, ![8, 2048, 2, 4, 127]⟩
abbrev S1x127 : Shape := ⟨2, ![1, 127]⟩
abbrev S2048x1 : Shape := ⟨2, ![2048, 1]⟩
abbrev S2048x127 : Shape := ⟨2, ![2048, 127]⟩
abbrev S1x2048x1x1x127 : Shape := ⟨5, ![1, 2048, 1, 1, 127]⟩
abbrev S8x2048x2x4 : Shape := ⟨4, ![8, 2048, 2, 4]⟩
abbrev S8x2048x2x4x1 : Shape := ⟨5, ![8, 2048, 2, 4, 1]⟩
abbrev S8x2x128x2048x4 : Shape := ⟨5, ![8, 2, 128, 2048, 4]⟩
abbrev S127x1 : Shape := ⟨2, ![127, 1]⟩
abbrev S32 : Shape := ⟨1, ![32]⟩
abbrev S1x32 : Shape := ⟨2, ![1, 32]⟩
abbrev S127x32 : Shape := ⟨2, ![127, 32]⟩
abbrev S8x2048x2x127 : Shape := ⟨4, ![8, 2048, 2, 127]⟩
abbrev S8x2048x2x32 : Shape := ⟨4, ![8, 2048, 2, 32]⟩
abbrev S2048x32 : Shape := ⟨2, ![2048, 32]⟩
abbrev S1x2048x1x32 : Shape := ⟨4, ![1, 2048, 1, 32]⟩
abbrev S8x2048x2x16 : Shape := ⟨4, ![8, 2048, 2, 16]⟩
abbrev S8x2048x2x16x1 : Shape := ⟨5, ![8, 2048, 2, 16, 1]⟩
abbrev S64 : Shape := ⟨1, ![64]⟩
abbrev S1x1x1x1x64 : Shape := ⟨5, ![1, 1, 1, 1, 64]⟩
abbrev S8x2048x2x16x64 : Shape := ⟨5, ![8, 2048, 2, 16, 64]⟩
abbrev S8x2048x2x1024 : Shape := ⟨4, ![8, 2048, 2, 1024]⟩
abbrev S1x2048x1x1 : Shape := ⟨4, ![1, 2048, 1, 1]⟩
abbrev S8 : Shape := ⟨1, ![8]⟩
abbrev S8x1x1x1 : Shape := ⟨4, ![8, 1, 1, 1]⟩
abbrev S2 : Shape := ⟨1, ![2]⟩
abbrev S1x1x2x1 : Shape := ⟨4, ![1, 1, 2, 1]⟩
abbrev S8x2048x2x1024x1 : Shape := ⟨5, ![8, 2048, 2, 1024, 1]⟩
abbrev S8x2048x2x1024x3 : Shape := ⟨5, ![8, 2048, 2, 1024, 3]⟩
abbrev S8x2048x2x1024x2x128 : Shape := ⟨6, ![8, 2048, 2, 1024, 2, 128]⟩
abbrev S8x2048x2x1024x1x128 : Shape := ⟨6, ![8, 2048, 2, 1024, 1, 128]⟩
abbrev S8x2048x2x1024x128 : Shape := ⟨5, ![8, 2048, 2, 1024, 128]⟩
abbrev S8x2048x2x4x1024 : Shape := ⟨5, ![8, 2048, 2, 4, 1024]⟩
abbrev S8x2048x2x1x1024 : Shape := ⟨5, ![8, 2048, 2, 1, 1024]⟩
abbrev S8x2048x2x1x128 : Shape := ⟨5, ![8, 2048, 2, 1, 128]⟩
abbrev S8x2048x2x128 : Shape := ⟨4, ![8, 2048, 2, 128]⟩
abbrev S8x2x2048x2048x4 : Shape := ⟨5, ![8, 2, 2048, 2048, 4]⟩
abbrev S8x2048x2x4x2048 : Shape := ⟨5, ![8, 2048, 2, 4, 2048]⟩
abbrev S1x2048 : Shape := ⟨2, ![1, 2048]⟩
abbrev S2048x2048 : Shape := ⟨2, ![2048, 2048]⟩
abbrev S1x2048x1x1x2048 : Shape := ⟨5, ![1, 2048, 1, 1, 2048]⟩

abbrev nBuf : Space → Nat
  | .hbm => 301
  | .vmem => 0
  | .smem => 0
  | _ => 0

abbrev hbmTy0_0 (i : Nat) : BufTy := match i % 128 with
  | 0 => ⟨S16384x9728, .f32⟩
  | 1 => ⟨S1024x512, .f32⟩
  | 2 => ⟨S16384x1024, .f32⟩
  | 3 => ⟨S8x2048x2x4x128, .f32⟩
  | 4 => ⟨S16384x24, .f32⟩
  | 5 => ⟨S8x2048x2x4x3, .f32⟩
  | 6 => ⟨S16384x512, .f32⟩
  | 7 => ⟨S8x2048x2x2x128, .f32⟩
  | 8 => ⟨S16384x512, .f32⟩
  | 9 => ⟨S8x2048x2x2x128, .f32⟩
  | 10 => ⟨S8x128x2x2x128, .f32⟩
  | 11 => ⟨S8x127x2x2x128, .f32⟩
  | 12 => ⟨S8x127x2x1x128, .f32⟩
  | 13 => ⟨S8x127x2x128, .f32⟩
  | 14 => ⟨S8x127x2x1x128, .f32⟩
  | 15 => ⟨S8x127x2x128, .f32⟩
  | 16 => ⟨S2048, .i32⟩
  | 17 => ⟨S127, .i32⟩
  | 18 => ⟨S_, .i32⟩
  | 19 => ⟨S127, .i32⟩
  | 20 => ⟨S127, .i32⟩
  | 21 => ⟨S_, .i32⟩
  | 22 => ⟨S127, .i32⟩
  | 23 => ⟨S127, .i32⟩
  | 24 => ⟨S8x2x127x2048x4, .f32⟩
  | 25 => ⟨S8x2048x2x4x127, .f32⟩
  | 26 => ⟨S_, .f32⟩
  | 27 => ⟨S8x2048x2x4x127, .f32⟩
  | 28 => ⟨S8x2048x2x4x127, .f32⟩
  | 29 => ⟨S1x127, .i32⟩
  | 30 => ⟨S2048x1, .i32⟩
  | 31 => ⟨S2048x127, .i32⟩
  | 32 => ⟨S2048x127, .i32⟩
  | 33 => ⟨S2048x127, .i1⟩
  | 34 => ⟨S1x2048x1x1x127, .i1⟩
  | 35 => ⟨S_, .f32⟩
  | 36 => ⟨S_, .f32⟩
  | 37 => ⟨S8x2048x2x4x127, .i1⟩
  | 38 => ⟨S8x2048x2x4x127, .f32⟩
  | 39 => ⟨S8x2048x2x4x127, .f32⟩
  | 40 => ⟨S_, .f32⟩
  | 41 => ⟨S8x2048x2x4, .f32⟩
  | 42 => ⟨S8x2048x2x4x1, .f32⟩
  | 43 => ⟨S8x2048x2x4x127, .f32⟩
  | 44 => ⟨S8x2048x2x4x127, .f32⟩
  | 45 => ⟨S8x2048x2x4x127, .f32⟩
  | 46 => ⟨S_, .f32⟩
  | 47 => ⟨S_, .f32⟩
  | 48 => ⟨S8x2048x2x4x127, .i1⟩
  | 49 => ⟨S8x2048x2x4x127, .f32⟩
  | 50 => ⟨S8x2048x2x4x127, .f32⟩
  | 51 => ⟨S_, .f32⟩
  | 52 => ⟨S8x2048x2x4, .f32⟩
  | 53 => ⟨S8x2048x2x4x1, .f32⟩
  | 54 => ⟨S_, .f32⟩
  | 55 => ⟨S8x2048x2x4x1, .f32⟩
  | 56 => ⟨S8x2048x2x4x1, .f32⟩
  | 57 => ⟨S8x2048x2x4x127, .f32⟩
  | 58 => ⟨S8x2048x2x4x127, .f32⟩
  | 59 => ⟨S8x2x128x2048x4, .f32⟩
  | 60 => ⟨S8x2048x2x4x128, .f32⟩
  | 61 => ⟨S127, .i32⟩
  | 62 => ⟨S_, .i32⟩
  | 63 => ⟨S127, .i32⟩
  | 64 => ⟨S127, .i32⟩
  | 65 => ⟨S127x1, .i32⟩
  | 66 => ⟨S32, .i32⟩
  | 67 => ⟨S_, .i32⟩
  | 68 => ⟨S32, .i32⟩
  | 69 => ⟨S32, .i32⟩
  | 70 => ⟨S1x32, .i32⟩
  | 71 => ⟨S_, .i32⟩
  | 72 => ⟨S1x32, .i32⟩
  | 73 => ⟨S1x32, .i32⟩
  | 74 => ⟨S127x32, .i32⟩
  | 75 => ⟨S127x32, .i32⟩
  | 76 => ⟨S127x32, .i1⟩
  | 77 => ⟨S_, .i32⟩
  | 78 => ⟨S127x1, .i32⟩
  | 79 => ⟨S127x1, .i32⟩
  | 80 => ⟨S127x32, .i32⟩
  | 81 => ⟨S127x32, .i32⟩
  | 82 => ⟨S127x32, .i1⟩
  | 83 => ⟨S127x32, .i1⟩
  | 84 => ⟨S_, .f32⟩
  | 85 => ⟨S_, .f32⟩
  | 86 => ⟨S127x32, .f32⟩
  | 87 => ⟨S127x32, .f32⟩
  | 88 => ⟨S127x32, .f32⟩
  | 89 => ⟨S_, .f32⟩
  | 90 => ⟨S8x2048x2x127, .f32⟩
  | 91 => ⟨S8x2048x2x32, .f32⟩
  | 92 => ⟨S32, .i32⟩
  | 93 => ⟨S1x32, .i32⟩
  | 94 => ⟨S_, .i32⟩
  | 95 => ⟨S_, .i32⟩
  | 96 => ⟨S2048, .i32⟩
  | 97 => ⟨S2048, .i32⟩
  | 98 => ⟨S2048, .i32⟩
  | 99 => ⟨S_, .i32⟩
  | 100 => ⟨S2048, .i32⟩
  | 101 => ⟨S2048, .i1⟩
  | 102 => ⟨S2048, .i32⟩
  | 103 => ⟨S2048, .i32⟩
  | 104 => ⟨S_, .i32⟩
  | 105 => ⟨S2048, .i32⟩
  | 106 => ⟨S2048, .i1⟩
  | 107 => ⟨S2048, .i1⟩
  | 108 => ⟨S_, .i32⟩
  | 109 => ⟨S2048, .i32⟩
  | 110 => ⟨S2048, .i32⟩
  | 111 => ⟨S2048, .i32⟩
  | 112 => ⟨S2048x1, .i32⟩
  | 113 => ⟨S_, .i32⟩
  | 114 => ⟨S1x32, .i32⟩
  | 115 => ⟨S1x32, .i1⟩
  | 116 => ⟨S2048x32, .i32⟩
  | 117 => ⟨S2048x32, .i32⟩
  | 118 => ⟨S2048x32, .i1⟩
  | 119 => ⟨S_, .i32⟩
  | 120 => ⟨S2048x1, .i32⟩
  | 121 => ⟨S2048x1, .i32⟩
  | 122 => ⟨S2048x32, .i32⟩
  | 123 => ⟨S2048x32, .i32⟩
  | 124 => ⟨S2048x32, .i1⟩
  | 125 => ⟨S2048x32, .i1⟩
  | 126 => ⟨S2048x32, .i1⟩
  | 127 => ⟨S2048x32, .i1⟩
  | _ => ⟨S16384x9728, .f32⟩

abbrev hbmTy0_1 (i : Nat) : BufTy := match i % 128 with
  | 0 => ⟨S_, .f32⟩
  | 1 => ⟨S_, .f32⟩
  | 2 => ⟨S2048x32, .f32⟩
  | 3 => ⟨S2048x32, .f32⟩
  | 4 => ⟨S2048x32, .f32⟩
  | 5 => ⟨S2048x32, .i32⟩
  | 6 => ⟨S2048x32, .i32⟩
  | 7 => ⟨S2048x32, .i1⟩
  | 8 => ⟨S1x2048x1x32, .i1⟩
  | 9 => ⟨S1x2048x1x32, .f32⟩
  | 10 => ⟨S_, .f32⟩
  | 11 => ⟨S1x2048x1x32, .f32⟩
  | 12 => ⟨S1x2048x1x32, .f32⟩
  | 13 => ⟨S1x2048x1x32, .f32⟩
  | 14 => ⟨S8x2048x2x32, .f32⟩
  | 15 => ⟨S8x2048x2x32, .f32⟩
  | 16 => ⟨S_, .f32⟩
  | 17 => ⟨S_, .f32⟩
  | 18 => ⟨S8x2048x2x32, .i1⟩
  | 19 => ⟨S8x2048x2x32, .f32⟩
  | 20 => ⟨S8x2048x2x32, .f32⟩
  | 21 => ⟨S8x2048x2x16, .f32⟩
  | 22 => ⟨S8x2048x2x16, .i32⟩
  | 23 => ⟨S8x2048x2x16x1, .i32⟩
  | 24 => ⟨S_, .i32⟩
  | 25 => ⟨S8x2048x2x16x1, .i32⟩
  | 26 => ⟨S8x2048x2x16x1, .i32⟩
  | 27 => ⟨S64, .i32⟩
  | 28 => ⟨S1x1x1x1x64, .i32⟩
  | 29 => ⟨S8x2048x2x16x64, .i32⟩
  | 30 => ⟨S8x2048x2x16x64, .i32⟩
  | 31 => ⟨S8x2048x2x16x64, .i32⟩
  | 32 => ⟨S8x2048x2x1024, .i32⟩
  | 33 => ⟨S1x2048x1x1, .i32⟩
  | 34 => ⟨S8x2048x2x1024, .i32⟩
  | 35 => ⟨S8x2048x2x1024, .i1⟩
  | 36 => ⟨S8, .i32⟩
  | 37 => ⟨S8x1x1x1, .i32⟩
  | 38 => ⟨S2, .i32⟩
  | 39 => ⟨S1x1x2x1, .i32⟩
  | 40 => ⟨S_, .i32⟩
  | 41 => ⟨S8x1x1x1, .i32⟩
  | 42 => ⟨S8x1x1x1, .i1⟩
  | 43 => ⟨S_, .i32⟩
  | 44 => ⟨S8x1x1x1, .i32⟩
  | 45 => ⟨S8x1x1x1, .i32⟩
  | 46 => ⟨S8x1x1x1, .i32⟩
  | 47 => ⟨S_, .i32⟩
  | 48 => ⟨S8x2048x2x1024, .i32⟩
  | 49 => ⟨S8x2048x2x1024, .i1⟩
  | 50 => ⟨S_, .i32⟩
  | 51 => ⟨S8x2048x2x1024, .i32⟩
  | 52 => ⟨S8x2048x2x1024, .i32⟩
  | 53 => ⟨S8x2048x2x1024, .i32⟩
  | 54 => ⟨S_, .i32⟩
  | 55 => ⟨S1x1x2x1, .i32⟩
  | 56 => ⟨S1x1x2x1, .i1⟩
  | 57 => ⟨S_, .i32⟩
  | 58 => ⟨S1x1x2x1, .i32⟩
  | 59 => ⟨S1x1x2x1, .i32⟩
  | 60 => ⟨S1x1x2x1, .i32⟩
  | 61 => ⟨S8x2048x2x1024, .i32⟩
  | 62 => ⟨S8x2048x2x1024, .i32⟩
  | 63 => ⟨S8x2048x2x1024x1, .i32⟩
  | 64 => ⟨S8x2048x2x1024x1, .i32⟩
  | 65 => ⟨S8x2048x2x1024x1, .i32⟩
  | 66 => ⟨S8x2048x2x1024x3, .i32⟩
  | 67 => ⟨S8x2048x2x1024x2x128, .f32⟩
  | 68 => ⟨S8x2048x2x1024x1x128, .f32⟩
  | 69 => ⟨S8x2048x2x1024x128, .f32⟩
  | 70 => ⟨S8x2048x2x4x1024, .f32⟩
  | 71 => ⟨S_, .f32⟩
  | 72 => ⟨S8x2048x2x4x1024, .f32⟩
  | 73 => ⟨S8x2048x2x4x1024, .f32⟩
  | 74 => ⟨S8x2048x2x1x1024, .i1⟩
  | 75 => ⟨S_, .f32⟩
  | 76 => ⟨S_, .f32⟩
  | 77 => ⟨S8x2048x2x4x1024, .i1⟩
  | 78 => ⟨S8x2048x2x4x1024, .f32⟩
  | 79 => ⟨S8x2048x2x4x1024, .f32⟩
  | 80 => ⟨S_, .f32⟩
  | 81 => ⟨S8x2048x2x4, .f32⟩
  | 82 => ⟨S8x2048x2x4x1, .f32⟩
  | 83 => ⟨S8x2048x2x4x1024, .f32⟩
  | 84 => ⟨S8x2048x2x4x1024, .f32⟩
  | 85 => ⟨S8x2048x2x4x1024, .f32⟩
  | 86 => ⟨S_, .f32⟩
  | 87 => ⟨S_, .f32⟩
  | 88 => ⟨S8x2048x2x4x1024, .i1⟩
  | 89 => ⟨S8x2048x2x4x1024, .f32⟩
  | 90 => ⟨S8x2048x2x4x1024, .f32⟩
  | 91 => ⟨S_, .f32⟩
  | 92 => ⟨S8x2048x2x4, .f32⟩
  | 93 => ⟨S8x2048x2x4x1, .f32⟩
  | 94 => ⟨S_, .f32⟩
  | 95 => ⟨S8x2048x2x4x1, .f32⟩
  | 96 => ⟨S8x2048x2x4x1, .f32⟩
  | 97 => ⟨S8x2048x2x4x1024, .f32⟩
  | 98 => ⟨S8x2048x2x4x1024, .f32⟩
  | 99 => ⟨S8x2048x2x1024x1x128, .f32⟩
  | 100 => ⟨S8x2048x2x1024x128, .f32⟩
  | 101 => ⟨S8x2048x2x4x128, .f32⟩
  | 102 => ⟨S2048, .i32⟩
  | 103 => ⟨S8x2048x2x1x128, .f32⟩
  | 104 => ⟨S8x2048x2x128, .f32⟩
  | 105 => ⟨S8x2x2048x2048x4, .f32⟩
  | 106 => ⟨S8x2048x2x4x2048, .f32⟩
  | 107 => ⟨S_, .f32⟩
  | 108 => ⟨S8x2048x2x4x2048, .f32⟩
  | 109 => ⟨S8x2048x2x4x2048, .f32⟩
  | 110 => ⟨S1x2048, .i32⟩
  | 111 => ⟨S2048x1, .i32⟩
  | 112 => ⟨S2048x2048, .i32⟩
  | 113 => ⟨S2048x2048, .i32⟩
  | 114 => ⟨S2048x2048, .i1⟩
  | 115 => ⟨S1x2048, .i32⟩
  | 116 => ⟨S2048x1, .i32⟩
  | 117 => ⟨S_, .i32⟩
  | 118 => ⟨S2048x1, .i32⟩
  | 119 => ⟨S2048x1, .i32⟩
  | 120 => ⟨S2048x2048, .i32⟩
  | 121 => ⟨S2048x2048, .i32⟩
  | 122 => ⟨S2048x2048, .i1⟩
  | 123 => ⟨S2048x2048, .i1⟩
  | 124 => ⟨S1x2048x1x1x2048, .i1⟩
  | 125 => ⟨S_, .f32⟩
  | 126 => ⟨S_, .f32⟩
  | 127 => ⟨S8x2048x2x4x2048, .i1⟩
  | _ => ⟨S16384x9728, .f32⟩

abbrev hbmTy0_2 (i : Nat) : BufTy := match i % 128 with
  | 0 => ⟨S8x2048x2x4x2048, .f32⟩
  | 1 => ⟨S8x2048x2x4x2048, .f32⟩
  | 2 => ⟨S_, .f32⟩
  | 3 => ⟨S8x2048x2x4, .f32⟩
  | 4 => ⟨S8x2048x2x4x1, .f32⟩
  | 5 => ⟨S8x2048x2x4x2048, .f32⟩
  | 6 => ⟨S8x2048x2x4x2048, .f32⟩
  | 7 => ⟨S8x2048x2x4x2048, .f32⟩
  | 8 => ⟨S_, .f32⟩
  | 9 => ⟨S_, .f32⟩
  | 10 => ⟨S8x2048x2x4x2048, .i1⟩
  | 11 => ⟨S8x2048x2x4x2048, .f32⟩
  | 12 => ⟨S8x2048x2x4x2048, .f32⟩
  | 13 => ⟨S_, .f32⟩
  | 14 => ⟨S8x2048x2x4, .f32⟩
  | 15 => ⟨S8x2048x2x4x1, .f32⟩
  | 16 => ⟨S_, .f32⟩
  | 17 => ⟨S8x2048x2x4x1, .f32⟩
  | 18 => ⟨S8x2048x2x4x1, .f32⟩
  | 19 => ⟨S8x2048x2x4x2048, .f32⟩
  | 20 => ⟨S8x2048x2x4x2048, .f32⟩
  | 21 => ⟨S8x2048x2x1x128, .f32⟩
  | 22 => ⟨S8x2048x2x128, .f32⟩
  | 23 => ⟨S8x2x128x2048x4, .f32⟩
  | 24 => ⟨S8x2048x2x4x128, .f32⟩
  | 25 => ⟨S8x2048x2x4x3, .f32⟩
  | 26 => ⟨S8x2048x2x4x3, .f32⟩
  | 27 => ⟨S_, .f32⟩
  | 28 => ⟨S8x2048x2x4x3, .f32⟩
  | 29 => ⟨S8x2048x2x4x3, .f32⟩
  | 30 => ⟨S_, .f32⟩
  | 31 => ⟨S8x2048x2x4x3, .f32⟩
  | 32 => ⟨S8x2048x2x4x3, .f32⟩
  | 33 => ⟨S8x2048x2x4x1, .f32⟩
  | 34 => ⟨S8x2048x2x4x128, .f32⟩
  | 35 => ⟨S8x2048x2x4x128, .f32⟩
  | 36 => ⟨S8x2048x2x4x1, .f32⟩
  | 37 => ⟨S8x2048x2x4x128, .f32⟩
  | 38 => ⟨S8x2048x2x4x128, .f32⟩
  | 39 => ⟨S8x2048x2x4x128, .f32⟩
  | 40 => ⟨S8x2048x2x4x1, .f32⟩
  | 41 => ⟨S8x2048x2x4x128, .f32⟩
  | 42 => ⟨S8x2048x2x4x128, .f32⟩
  | 43 => ⟨S8x2048x2x4x128, .f32⟩
  | 44 => ⟨S16384x1024, .f32⟩
  | _ => ⟨S16384x9728, .f32⟩

abbrev hbmTy (i : Nat) : BufTy := match i / 128 with
  | 0 => hbmTy0_0 i
  | 1 => hbmTy0_1 i
  | 2 => hbmTy0_2 i
  | _ => ⟨S16384x9728, .f32⟩

abbrev bufTy : (tb : Table) → Fin (tcTables nBuf tb) → BufTy
  | .hbm, ⟨i, _⟩ => hbmTy i
  | _, _ => ⟨S16384x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_v16 : Ref sig .tc := ⟨.hbm, 19, rfl⟩
abbrev main_v17 : Ref sig .tc := ⟨.hbm, 20, rfl⟩
abbrev main_c_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_cst_11 : Ref sig .tc := ⟨.hbm, 85, rfl⟩
abbrev main_call2_v0 : Ref sig .tc := ⟨.hbm, 86, rfl⟩
abbrev main_call2_v1 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_13 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_c : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_0 : Ref sig .tc := ⟨.hbm, 108, rfl⟩
abbrev main_call3_v12 : Ref sig .tc := ⟨.hbm, 109, rfl⟩
abbrev main_call3_v13 : Ref sig .tc := ⟨.hbm, 110, rfl⟩
abbrev main_v69 : Ref sig .tc := ⟨.hbm, 111, rfl⟩
abbrev main_v70 : Ref sig .tc := ⟨.hbm, 112, rfl⟩
abbrev main_c_14 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_c_15 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_cst_16 : Ref sig .tc := ⟨.hbm, 128, rfl⟩
abbrev main_cst_17 : Ref sig .tc := ⟨.hbm, 129, rfl⟩
abbrev main_call4_v0 : Ref sig .tc := ⟨.hbm, 130, rfl⟩
abbrev main_call4_v1 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_18 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_cst_19 : Ref sig .tc := ⟨.hbm, 144, rfl⟩
abbrev main_call5_v0 : Ref sig .tc := ⟨.hbm, 145, rfl⟩
abbrev main_call5_v1 : Ref sig .tc := ⟨.hbm, 146, rfl⟩
abbrev main_call5_v2 : Ref sig .tc := ⟨.hbm, 147, rfl⟩
abbrev main_v95 : Ref sig .tc := ⟨.hbm, 148, rfl⟩
abbrev main_values : Ref sig .tc := ⟨.hbm, 149, rfl⟩
abbrev main_indices : Ref sig .tc := ⟨.hbm, 150, rfl⟩
abbrev main_v96 : Ref sig .tc := ⟨.hbm, 151, rfl⟩
abbrev main_c_20 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_c_21 : Ref sig .tc := ⟨.hbm, 168, rfl⟩
abbrev main_v112 : Ref sig .tc := ⟨.hbm, 169, rfl⟩
abbrev main_v113 : Ref sig .tc := ⟨.hbm, 170, rfl⟩
abbrev main_c_22 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_c_23 : Ref sig .tc := ⟨.hbm, 175, rfl⟩
abbrev main_v117 : Ref sig .tc := ⟨.hbm, 176, rfl⟩
abbrev main_v118 : Ref sig .tc := ⟨.hbm, 177, rfl⟩
abbrev main_c_24 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_c_25 : Ref sig .tc := ⟨.hbm, 182, rfl⟩
abbrev main_v122 : Ref sig .tc := ⟨.hbm, 183, rfl⟩
abbrev main_v123 : Ref sig .tc := ⟨.hbm, 184, rfl⟩
abbrev main_c_26 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_cst_27 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_cst_28 : Ref sig .tc := ⟨.hbm, 203, rfl⟩
abbrev main_call6_v0 : Ref sig .tc := ⟨.hbm, 204, rfl⟩
abbrev main_call6_v1 : Ref sig .tc := ⟨.hbm, 205, rfl⟩
abbrev main_call6_v2 : Ref sig .tc := ⟨.hbm, 206, rfl⟩
abbrev main_v140 : Ref sig .tc := ⟨.hbm, 207, rfl⟩
abbrev main_cst_29 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_cst_30 : Ref sig .tc := ⟨.hbm, 214, rfl⟩
abbrev main_call7_v0 : Ref sig .tc := ⟨.hbm, 215, rfl⟩
abbrev main_call7_v1 : Ref sig .tc := ⟨.hbm, 216, rfl⟩
abbrev main_call7_v2 : Ref sig .tc := ⟨.hbm, 217, rfl⟩
abbrev main_v146 : Ref sig .tc := ⟨.hbm, 218, rfl⟩
abbrev main_cst_31 : Ref sig .tc := ⟨.hbm, 219, rfl⟩
abbrev main_v147 : Ref sig .tc := ⟨.hbm, 220, rfl⟩
abbrev main_v148 : Ref sig .tc := ⟨.hbm, 221, rfl⟩
abbrev main_cst_32 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_cst_33 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_c_34 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_cst_35 : Ref sig .tc := ⟨.hbm, 253, rfl⟩
abbrev main_call8_v0 : Ref sig .tc := ⟨.hbm, 254, rfl⟩
abbrev main_call8_v1 : Ref sig .tc := ⟨.hbm, 255, rfl⟩
abbrev main_call8_v2 : Ref sig .tc := ⟨.hbm, 256, rfl⟩
abbrev main_v177 : Ref sig .tc := ⟨.hbm, 257, rfl⟩
abbrev main_cst_36 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_cst_37 : Ref sig .tc := ⟨.hbm, 264, rfl⟩
abbrev main_call9_v0 : Ref sig .tc := ⟨.hbm, 265, rfl⟩
abbrev main_call9_v1 : Ref sig .tc := ⟨.hbm, 266, rfl⟩
abbrev main_call9_v2 : Ref sig .tc := ⟨.hbm, 267, rfl⟩
abbrev main_v183 : Ref sig .tc := ⟨.hbm, 268, rfl⟩
abbrev main_cst_38 : Ref sig .tc := ⟨.hbm, 269, rfl⟩
abbrev main_v184 : Ref sig .tc := ⟨.hbm, 270, rfl⟩
abbrev main_v185 : Ref sig .tc := ⟨.hbm, 271, rfl⟩
abbrev main_cst_39 : Ref sig .tc := ⟨.hbm, 272, rfl⟩
abbrev main_v186 : Ref sig .tc := ⟨.hbm, 273, rfl⟩
abbrev main_v187 : Ref sig .tc := ⟨.hbm, 274, rfl⟩
abbrev main_v188 : Ref sig .tc := ⟨.hbm, 275, rfl⟩
abbrev main_v189 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_v193 : Ref sig .tc := ⟨.hbm, 280, rfl⟩
abbrev main_v194 : Ref sig .tc := ⟨.hbm, 281, rfl⟩
abbrev main_v195 : Ref sig .tc := ⟨.hbm, 282, rfl⟩
abbrev main_cst_40 : Ref sig .tc := ⟨.hbm, 283, rfl⟩
abbrev main_v196 : Ref sig .tc := ⟨.hbm, 284, rfl⟩
abbrev main_v197 : Ref sig .tc := ⟨.hbm, 285, rfl⟩
abbrev main_cst_41 : Ref sig .tc := ⟨.hbm, 286, rfl⟩
abbrev main_v198 : Ref sig .tc := ⟨.hbm, 287, rfl⟩
abbrev main_v199 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_v203 : Ref sig .tc := ⟨.hbm, 292, rfl⟩
abbrev main_v204 : Ref sig .tc := ⟨.hbm, 293, rfl⟩
abbrev main_v205 : Ref sig .tc := ⟨.hbm, 294, rfl⟩
abbrev main_v206 : Ref sig .tc := ⟨.hbm, 295, rfl⟩
abbrev main_v207 : Ref sig .tc := ⟨.hbm, 296, rfl⟩
abbrev main_v208 : Ref sig .tc := ⟨.hbm, 297, rfl⟩
abbrev main_v209 : Ref sig .tc := ⟨.hbm, 298, rfl⟩
abbrev main_v210 : Ref sig .tc := ⟨.hbm, 299, rfl⟩
abbrev main_v211 : Ref sig .tc := ⟨.hbm, 300, rfl⟩

abbrev nD : Nat := 1
abbrev τ : Topo := Topo.v7x

variable {F : FTy → Type} [FloatOps F]
-- ==== Merge.lean ====
abbrev S16384x2048 : Shape := ⟨2, ![16384, 2048]⟩
abbrev S16384x9728 : Shape := ⟨2, ![16384, 9728]⟩
abbrev S16384x1024 : Shape := ⟨2, ![16384, 1024]⟩
abbrev S1024x2048 : Shape := ⟨2, ![1024, 2048]⟩
abbrev S2048x2048 : Shape := ⟨2, ![2048, 2048]⟩
abbrev S256x2048 : Shape := ⟨2, ![256, 2048]⟩
abbrev S256x1024 : Shape := ⟨2, ![256, 1024]⟩

abbrev nBuf : Space → Nat
  | .hbm => 11
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S16384x9728, .f32⟩
  | .hbm, ⟨2, _⟩ => ⟨S16384x1024, .f32⟩
  | .hbm, ⟨3, _⟩ => ⟨S16384x1024, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S1024x2048, .bf16⟩
  | .hbm, ⟨8, _⟩ => ⟨S1024x2048, .bf16⟩
  | .hbm, ⟨9, _⟩ => ⟨S2048x2048, .bf16⟩
  | .hbm, ⟨10, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S256x2048, .f32⟩
  | .local _ .vmem, ⟨14, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S16384x2048 : Shape := ⟨2, ![16384, 2048]⟩
abbrev S16384x9728 : Shape := ⟨2, ![16384, 9728]⟩
abbrev S16384x1024 : Shape := ⟨2, ![16384, 1024]⟩
abbrev S1024x2048 : Shape := ⟨2, ![1024, 2048]⟩
abbrev S2048x2048 : Shape := ⟨2, ![2048, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x9728, .f32⟩
  | .hbm, ⟨2, _⟩ => ⟨S16384x1024, .f32⟩
  | .hbm, ⟨3, _⟩ => ⟨S16384x1024, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Moe.lean ====
abbrev S16384x2048 : Shape := ⟨2, ![16384, 2048]⟩
abbrev S16384x128 : Shape := ⟨2, ![16384, 128]⟩
abbrev S16x2048x512 : Shape := ⟨3, ![16, 2048, 512]⟩
abbrev S16x512x2048 : Shape := ⟨3, ![16, 512, 2048]⟩
abbrev S2048 : Shape := ⟨1, ![2048]⟩
abbrev S1x2048 : Shape := ⟨2, ![1, 2048]⟩
abbrev S1024x2048 : Shape := ⟨2, ![1024, 2048]⟩
abbrev S1024x128 : Shape := ⟨2, ![1024, 128]⟩
abbrev S1x2048x512 : Shape := ⟨3, ![1, 2048, 512]⟩
abbrev S1x512x2048 : Shape := ⟨3, ![1, 512, 2048]⟩
abbrev S352x2048 : Shape := ⟨2, ![352, 2048]⟩
abbrev S352x128 : Shape := ⟨2, ![352, 128]⟩
abbrev S1024x176 : Shape := ⟨2, ![1024, 176]⟩
abbrev S1 : Shape := ⟨1, ![1]⟩
abbrev S512x512 : Shape := ⟨2, ![512, 512]⟩
abbrev S512x128 : Shape := ⟨2, ![512, 128]⟩
abbrev S512x1 : Shape := ⟨2, ![512, 1]⟩
abbrev S1x512x1 : Shape := ⟨3, ![1, 512, 1]⟩
abbrev S1x1x1 : Shape := ⟨3, ![1, 1, 1]⟩
abbrev S128x512 : Shape := ⟨2, ![128, 512]⟩
abbrev S1x512 : Shape := ⟨2, ![1, 512]⟩
abbrev S176x512 : Shape := ⟨2, ![176, 512]⟩
abbrev S512x176 : Shape := ⟨2, ![512, 176]⟩
abbrev S512x2048 : Shape := ⟨2, ![512, 2048]⟩
abbrev S176x2048 : Shape := ⟨2, ![176, 2048]⟩
abbrev S176x128 : Shape := ⟨2, ![176, 128]⟩
abbrev S352 : Shape := ⟨1, ![352]⟩
abbrev S352x1 : Shape := ⟨2, ![352, 1]⟩
abbrev S2048x512 : Shape := ⟨2, ![2048, 512]⟩
abbrev S352x512 : Shape := ⟨2, ![352, 512]⟩
abbrev S1024 : Shape := ⟨1, ![1024]⟩
abbrev S1024x1 : Shape := ⟨2, ![1024, 1]⟩
abbrev S1024x512 : Shape := ⟨2, ![1024, 512]⟩

abbrev nBuf : Space → Nat
  | .hbm => 12
  | .vmem => 17
  | .smem => 1
  | _ => 0

abbrev bufTy : (tb : Table) → Fin (tcTables nBuf tb) → BufTy
  | .hbm, ⟨0, _⟩ => ⟨S16384x2048, .bf16⟩
  | .hbm, ⟨1, _⟩ => ⟨S16384x128, .f32⟩
  | .hbm, ⟨2, _⟩ => ⟨S16384x2048, .f32⟩
  | .hbm, ⟨3, _⟩ => ⟨S16x2048x512, .f32⟩
  | .hbm, ⟨4, _⟩ => ⟨S16x2048x512, .f32⟩
  | .hbm, ⟨5, _⟩ => ⟨S16x512x2048, .f32⟩
  | .hbm, ⟨6, _⟩ => ⟨S2048, .f32⟩
  | .hbm, ⟨7, _⟩ => ⟨S16x2048x512, .bf16⟩
  | .hbm, ⟨8, _⟩ => ⟨S16x2048x512, .bf16⟩
  | .hbm, ⟨9, _⟩ => ⟨S16x512x2048, .bf16⟩
  | .hbm, ⟨10, _⟩ => ⟨S1x2048, .f32⟩
  | .hbm, ⟨11, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x128, .f32⟩
  | .local _ .vmem, ⟨3, _⟩ => ⟨S1024x128, .f32⟩
  | .local _ .vmem, ⟨4, _⟩ => ⟨S1024x2048, .f32⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x512x2048, .bf16⟩
  | .local _ .vmem, ⟨10, _⟩ => ⟨S1x512x2048, .bf16⟩
  | .local _ .vmem, ⟨11, _⟩ => ⟨S1x2048, .f32⟩
  | .local _ .vmem, ⟨12, _⟩ => ⟨S1024x2048, .f32⟩
  | .local _ .vmem, ⟨13, _⟩ => ⟨S352x2048, .bf16⟩
  | .local _ .vmem, ⟨14, _⟩ => ⟨S352x128, .f32⟩
  | .local _ .vmem, ⟨15, _⟩ => ⟨S352x2048, .f32⟩
  | .local _ .vmem, ⟨16, _⟩ => ⟨S1024x176, .bf16⟩
  | .local _ .smem, ⟨0, _⟩ => ⟨S1, .i32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== MoeRefIdeal.lean ====
abbrev S16384x2048 : Shape := ⟨2, ![16384, 2048]⟩
abbrev S16384x128 : Shape := ⟨2, ![16384, 128]⟩
abbrev S16x2048x512 : Shape := ⟨3, ![16, 2048, 512]⟩
abbrev S16x512x2048 : Shape := ⟨3, ![16, 512, 2048]⟩
abbrev S2048 : Shape := ⟨1, ![2048]⟩
abbrev S16384x16x512 : Shape := ⟨3, ![16384, 16, 512]⟩
abbrev S_ : Shape := ⟨0, ![]⟩
abbrev S16384x16 : Shape := ⟨2, ![16384, 16]⟩
abbrev S16384x16x1 : Shape := ⟨3, ![16384, 16, 1]⟩
abbrev S16384 : Shape := ⟨1, ![16384]⟩
abbrev S16384x1 : Shape := ⟨2, ![16384, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x128, .f32⟩
  | .hbm, ⟨2, _⟩ => ⟨S16384x2048, .f32⟩
  | .hbm, ⟨3, _⟩ => ⟨S16x2048x512, .f32⟩
  | .hbm, ⟨4, _⟩ => ⟨S16x2048x512, .f32⟩
  | .hbm, ⟨5, _⟩ => ⟨S16x512x2048, .f32⟩
  | .hbm, ⟨6, _⟩ => ⟨S2048, .f32⟩
  | .hbm, ⟨7, _⟩ => ⟨S16384x2048, .f32⟩
  | .hbm, ⟨8, _⟩ => ⟨S16384x16x512, .f32⟩
  | .hbm, ⟨9, _⟩ => ⟨S16384x16x512, .f32⟩
  | .hbm, ⟨10, _⟩ => ⟨S16384x16x512, .f32⟩
  | .hbm, ⟨11, _⟩ => ⟨S_, .f32⟩
  | .hbm, ⟨12, _⟩ => ⟨S16384x16x512, .f32⟩
  | .hbm, ⟨13, _⟩ => ⟨S16384x16x512, .f32⟩
  | .hbm, ⟨14, _⟩ => ⟨S_, .f32⟩
  | .hbm, ⟨15, _⟩ => ⟨S16384x16x512, .f32⟩
  | .hbm, ⟨16, _⟩ => ⟨S16384x16x512, .f32⟩
  | .hbm, ⟨17, _⟩ => ⟨S16384x16x512, .f32⟩
  | .hbm, ⟨18, _⟩ => ⟨S16384x16x512, .f32⟩
  | .hbm, ⟨19, _⟩ => ⟨S16384x16x512, .f32⟩
  | .hbm, ⟨20, _⟩ => ⟨S16384x16, .f32⟩
  | .hbm, ⟨21, _⟩ => ⟨S16384x16x1, .f32⟩
  | .hbm, ⟨22, _⟩ => ⟨S16384x16x512, .f32⟩
  | .hbm, ⟨23, _⟩ => ⟨S16384x16x512, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x2048, .f32⟩
  | .hbm, ⟨38, _⟩ => ⟨S16384x2048, .f32⟩
  | .hbm, ⟨39, _⟩ => ⟨S1x2048, .f32⟩
  | .hbm, ⟨40, _⟩ => ⟨S16384x2048, .f32⟩
  | .hbm, ⟨41, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]
-- ==== Proof.MoeRun.lean ====
module

public import proofs.«01_k».proof.Proof.Gen.MoeIdeal.Skeleton
public import proofs.«01_k».proof.Proof.Gen.MoeIdeal.Frame

/-! # The six branches of the expert kernel's body

The body of the expert kernel is a chain of six branches over one set of buffers: the output block, the gathered rows,
their weights, the sums over the slots, the table that scatters them back, and the count that says whether the rows fit
the slots. Each branch is taken here as a program over the program that follows it, with the contents it leaves as a
function of the contents it finds, over any float values. -/

@[expose] public section

set_option maxRecDepth 16384

noncomputable section

namespace Cert.MoeIdeal.Run

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The rectangles the body reads and writes -/

abbrev rO : Rect S1024x2048 := Rect.unit (s := S1024x2048) ![0, 0] S1024x2048.size inb_S1024x2048_S1024x2048_0_0
abbrev rO0 : Rect S1024x2048 := Rect.unit (s := S1024x2048) ![0, 0] S512x2048.size inb_S1024x2048_S512x2048_0_0
abbrev rO1 : Rect S1024x2048 := Rect.unit (s := S1024x2048) ![512, 0] S512x2048.size inb_S1024x2048_S512x2048_512_0
abbrev rW : Rect S1024x128 := Rect.unit (s := S1024x128) ![0, 0] S1024x128.size inb_S1024x128_S1024x128_0_0
abbrev rW0 : Rect S1024x128 := Rect.unit (s := S1024x128) ![0, 0] S512x128.size inb_S1024x128_S512x128_0_0
abbrev rW1 : Rect S1024x128 := Rect.unit (s := S1024x128) ![512, 0] S512x128.size inb_S1024x128_S512x128_512_0
abbrev rT0 : Rect S1024x176 := Rect.unit (s := S1024x176) ![0, 0] S512x176.size inb_S1024x176_S512x176_0_0
abbrev rT1 : Rect S1024x176 := Rect.unit (s := S1024x176) ![512, 0] S512x176.size inb_S1024x176_S512x176_512_0
abbrev rX : Rect S352x2048 := Rect.unit (s := S352x2048) ![0, 0] S352x2048.size inb_S352x2048_S352x2048_0_0
abbrev rX0 : Rect S352x2048 := Rect.unit (s := S352x2048) ![0, 0] S176x2048.size inb_S352x2048_S176x2048_0_0
abbrev rX1 : Rect S352x2048 := Rect.unit (s := S352x2048) ![176, 0] S176x2048.size inb_S352x2048_S176x2048_176_0
abbrev rC : Rect S352x128 := Rect.unit (s := S352x128) ![0, 0] S352x128.size inb_S352x128_S352x128_0_0
abbrev rC0 : Rect S352x128 := Rect.unit (s := S352x128) ![0, 0] S176x128.size inb_S352x128_S176x128_0_0
abbrev rC1 : Rect S352x128 := Rect.unit (s := S352x128) ![176, 0] S176x128.size inb_S352x128_S176x128_176_0
abbrev rN : Rect S1 := Rect.unit (s := S1) ![0] S1.size inb_S1_S1_0
abbrev rG : Rect S1x2048x512 := Rect.unit (s := S1x2048x512) ![0, 0, 0] S1x2048x512.size inb_S1x2048x512_S1x2048x512_0_0_0
abbrev rD : Rect S1x512x2048 := Rect.unit (s := S1x512x2048) ![0, 0, 0] S1x512x2048.size inb_S1x512x2048_S1x512x2048_0_0_0
abbrev rV : Rect S1x2048 := Rect.unit (s := S1x2048) ![0, 0] S1x2048.size inb_S1x2048_S1x2048_0_0

/-! ## What each branch leaves -/

/-- The output block after the first branch: the residual at the first expert, else as it was. -/
def out1 (v : BitVec 1) (h o : Vec F S1024x2048 .f32) : Vec F S1024x2048 .f32 :=
  if v = 1#1 then View.canon (Val := Elt F) [⟨rO, View.ld h rO⟩] else o

/-- The scatter table after the second branch. -/
def table2 (q : BitVec 32) (v : BitVec 1) (w : Vec F S1024x128 .f32) (st : Vec F S1024x176 .bf16) : Vec F S1024x176 .bf16 :=
  if v = 1#1 then View.canon (Val := Elt F)
    [⟨rT1, k0_pay20 (k0_pay4 (F := F)) (k0_pay14 q (View.ld w rW1)) (k0_pay15 q (View.ld w rW1))⟩,
      ⟨rT0, k0_pay11 (F := F) (k0_pay10 q (View.ld w rW0))⟩] else st

/-- The gathered rows after the second branch. -/
def rows2 (q : BitVec 32) (v : BitVec 1) (xn : Vec F S1024x2048 .bf16) (w : Vec F S1024x128 .f32) (xc : Vec F S352x2048 .bf16) :
    Vec F S352x2048 .bf16 :=
  if v = 1#1 then View.canon (Val := Elt F)
    [⟨rX1, k0_pay21 (k0_pay4 (F := F)) (k0_pay15 q (View.ld w rW1)) (View.ld xn rO1)⟩,
      ⟨rX0, k0_pay12 (k0_pay9 q (View.ld w rW0)) (View.ld xn rO0)⟩] else xc

/-- The gathered weights after the second branch. -/
def weights2 (q : BitVec 32) (v : BitVec 1) (w : Vec F S1024x128 .f32) (cc : Vec F S352x128 .f32) : Vec F S352x128 .f32 :=
  if v = 1#1 then View.canon (Val := Elt F)
    [⟨rC1, k0_pay25 (View.ld w rW1) (k0_pay19 (k0_pay4 (F := F)) (k0_pay15 q (View.ld w rW1))) (k0_pay22 (View.ld w rW1))⟩,
      ⟨rC0, k0_pay13 (View.ld w rW0) (k0_pay9 q (View.ld w rW0))⟩] else cc

/-- The count after the second branch. -/
def count2 (q : BitVec 32) (v : BitVec 1) (w : Vec F S1024x128 .f32) (n : Vec F S1 .i32) : Vec F S1 .i32 :=
  if v = 1#1 then View.canon (Val := Elt F)
    [⟨rN, fun _ => Scalar.fptosi 32 (k0_pay17 (k0_pay7 q (View.ld w rW0)) (k0_pay16 q (View.ld w rW1)))⟩] else n

/-- The sums over the slots after the second branch: cleared at the first expert of a group. -/
def sums2 (v : BitVec 1) (oc : Vec F S352x2048 .f32) : Vec F S352x2048 .f32 :=
  if v = 1#1 then View.canon (Val := Elt F) [⟨rX, k0_pay26 (F := F)⟩] else oc

/-- The sums over the slots after the third branch: the expert on the gathered rows, where they fit. -/
def sums3 (a : BitVec 32) (v : BitVec 1) (oc : Vec F S352x2048 .f32) (xc : Vec F S352x2048 .bf16) (cc : Vec F S352x128 .f32)
    (wg wu : Vec F S1x2048x512 .bf16) (wd : Vec F S1x512x2048 .bf16) : Vec F S352x2048 .f32 :=
  if v = 1#1 then View.canon (Val := Elt F)
    [⟨rX, k0_pay23 a (View.ld oc rX) (View.ld xc rX) (View.ld cc rC) (View.ld wg rG) (View.ld wu rG) (View.ld wd rD)⟩] else oc

/-- The output block after the fourth branch: the expert on every row, where the members do not fit. -/
def out4 (a : BitVec 32) (v : BitVec 1) (o : Vec F S1024x2048 .f32) (xn : Vec F S1024x2048 .bf16) (w : Vec F S1024x128 .f32)
    (wg wu : Vec F S1x2048x512 .bf16) (wd : Vec F S1x512x2048 .bf16) : Vec F S1024x2048 .f32 :=
  if v = 1#1 then View.canon (Val := Elt F)
    [⟨rO, k0_pay24 a (View.ld o rO) (View.ld xn rO) (View.ld w rW) (View.ld wg rG) (View.ld wu rG) (View.ld wd rD)⟩] else o

/-- The output block after the fifth branch: the slots' sums scattered back and added. -/
def out5 (v : BitVec 1) (oc : Vec F S352x2048 .f32) (o : Vec F S1024x2048 .f32) (st : Vec F S1024x176 .bf16) :
    Vec F S1024x2048 .f32 :=
  if v = 1#1 then View.canon (Val := Elt F)
    [⟨rO1, k0_pay2 (View.ld oc rX1) (View.ld o rO1) (View.ld st rT1) (View.ld st rT1)⟩,
      ⟨rO0, k0_pay1 (View.ld oc rX0) (View.ld o rO0) (View.ld st rT0) (View.ld st rT0)⟩] else o

/-- The output block after the last branch: normalised at the last expert. -/
def out6 (v : BitVec 1) (o : Vec F S1024x2048 .f32) (g : Vec F S1x2048 .f32) : Vec F S1024x2048 .f32 :=
  if v = 1#1 then View.canon (Val := Elt F) [⟨rO, k0_pay3 (View.ld o rO) (View.ld g rV)⟩] else o

/-! ## The branches as programs -/

/-- The first branch: at the first expert of a row block the output block starts from the residual. -/
def seg1 (i : grid0.Coords) (arg2 : Memref sig .tc .vmem S1024x2048 .bf16) (harg2 : arg2.IsWhole) (arg3 : Memref sig .tc .vmem S1024x128 .f32) (harg3 : arg3.IsWhole) (arg4 : Memref sig .tc .vmem S1024x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S352x2048 .bf16) (harg10 : arg10.IsWhole) (arg11 : Memref sig .tc .vmem S352x128 .f32) (harg11 : arg11.IsWhole) (arg12 : Memref sig .tc .vmem S352x2048 .f32) (harg12 : arg12.IsWhole) (arg13 : Memref sig .tc .vmem S1024x176 .bf16) (harg13 : arg13.IsWhole) (arg14 : Memref sig .tc .smem S1 .i32) (harg14 : arg14.IsWhole) (v19 : BitVec 1)
    {α : Type} (rest : Prog (TpuEff nD τ sig (Elt F) Λ₀ .tc) α) : Prog (TpuEff nD τ sig (Elt F) Λ₀ .tc) α := do
  if k0_h1 : v19 = 1#1 then do
    let v57 : Vec F S1024x2048 .f32 ← Prog.lift (.load arg4 (Rect.unit (s := S1024x2048) ![0, 0] S1024x2048.size inb_S1024x2048_S1024x2048_0_0).toLoadRect (View.loadsAt_vmem h_S1024x2048))
    let v58 : Vec F S1024x2048 .f32 ← Prog.lift (.load arg9 (Rect.unit (s := S1024x2048) ![0, 0] S1024x2048.size inb_S1024x2048_S1024x2048_0_0).toLoadRect (View.loadsAt_vmem h_S1024x2048))
    Prog.lift (.store arg9 (Rect.unit (s := S1024x2048) ![0, 0] S1024x2048.size inb_S1024x2048_S1024x2048_0_0) v57 Finset.univ (View.stores_vmem_bits_univ h_S1024x2048 rfl) (.inl rfl))
    rest
  else do
    rest

/-- The second branch: at the first expert of a group the members are ranked and gathered, the count is kept and the sum over the slots is cleared. -/
def seg2 (i : grid0.Coords) (arg2 : Memref sig .tc .vmem S1024x2048 .bf16) (harg2 : arg2.IsWhole) (arg3 : Memref sig .tc .vmem S1024x128 .f32) (harg3 : arg3.IsWhole) (arg4 : Memref sig .tc .vmem S1024x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S352x2048 .bf16) (harg10 : arg10.IsWhole) (arg11 : Memref sig .tc .vmem S352x128 .f32) (harg11 : arg11.IsWhole) (arg12 : Memref sig .tc .vmem S352x2048 .f32) (harg12 : arg12.IsWhole) (arg13 : Memref sig .tc .vmem S1024x176 .bf16) (harg13 : arg13.IsWhole) (arg14 : Memref sig .tc .smem S1 .i32) (harg14 : arg14.IsWhole) (v16 : BitVec 32) (v32 : BitVec 1)
    {α : Type} (rest : Prog (TpuEff nD τ sig (Elt F) Λ₀ .tc) α) : Prog (TpuEff nD τ sig (Elt F) Λ₀ .tc) α := do
  if k0_h2 : v32 = 1#1 then do
    let ⟨v63, v64, v79, v97, v104⟩ : Σ' (v63 : FVec F S512x512 .bf16) (v64 : Vec F S512x128 .f32) (v79 : F .f32) (v97 : FVec F S176x512 .bf16), IVec S512x176 1 ← k0_part1 i arg2 harg2 arg3 harg3 arg4 harg4 arg5 harg5 arg6 harg6 arg7 harg7 arg8 harg8 arg9 harg9 arg10 harg10 arg11 harg11 arg12 harg12 arg13 harg13 arg14 harg14 v16
    let ⟨v133, v137, v142, v143⟩ : Σ' (v133 : Vec F S512x128 .f32) (v137 : IVec S512x1 1) (v142 : FVec F S512x128 .f32), FVec F S512x1 .f32 ← k0_part2 i arg2 harg2 arg3 harg3 arg4 harg4 arg5 harg5 arg6 harg6 arg7 harg7 arg8 harg8 arg9 harg9 arg10 harg10 arg11 harg11 arg12 harg12 arg13 harg13 arg14 harg14 v16 v64 v97 v104
    let ⟨v148, v166, v187⟩ : Σ' (v148 : F .f32) (v166 : FVec F S176x512 .bf16), FVec F S512x128 .bf16 ← k0_part3 i arg2 harg2 arg3 harg3 arg4 harg4 arg5 harg5 arg6 harg6 arg7 harg7 arg8 harg8 arg9 harg9 arg10 harg10 arg11 harg11 arg12 harg12 arg13 harg13 arg14 harg14 v63 v79 v133 v137 v142 v143
    let v199 : Vec F S176x128 .f32 ← Prog.lift (.load arg11 (Rect.unit (s := S352x128) ![176, 0] S176x128.size inb_S352x128_S176x128_176_0).toLoadRect (View.loadsAt_vmem h_S176x128))
    Prog.lift (.store arg11 (Rect.unit (s := S352x128) ![176, 0] S176x128.size inb_S352x128_S176x128_176_0) (k0_pay25 v133 v166 v187) Finset.univ (View.stores_vmem_bits_univ h_S176x128 rfl) (.inl rfl))
    let v202 : BitVec 32 := Scalar.fptosi 32 v148
    let v203 : Elt F .i32 ← smemLoad arg14 (Rect.unit (s := S1) ![0] S1.size inb_S1_S1_0) numel1_S1 rfl
    Prog.lift (.store arg14 (Rect.unit (s := S1) ![0] S1.size inb_S1_S1_0) (fun _ => v202) Finset.univ (View.stores_smem_one rfl numel1_S1) (.inl rfl))
    let v205 : Vec F S352x2048 .f32 ← Prog.lift (.load arg12 (Rect.unit (s := S352x2048) ![0, 0] S352x2048.size inb_S352x2048_S352x2048_0_0).toLoadRect (View.loadsAt_vmem h_S352x2048))
    Prog.lift (.store arg12 (Rect.unit (s := S352x2048) ![0, 0] S352x2048.size inb_S352x2048_S352x2048_0_0) (k0_pay26 (F := F)) Finset.univ (View.stores_vmem_bits_univ h_S352x2048 rfl) (.inl rfl))
    rest
  else do
    rest

/-- The third branch: where the members fit the slots, the expert runs on the gathered rows. -/
def seg3 (i : grid0.Coords) (arg2 : Memref sig .tc .vmem S1024x2048 .bf16) (harg2 : arg2.IsWhole) (arg3 : Memref sig .tc .vmem S1024x128 .f32) (harg3 : arg3.IsWhole) (arg4 : Memref sig .tc .vmem S1024x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S352x2048 .bf16) (harg10 : arg10.IsWhole) (arg11 : Memref sig .tc .vmem S352x128 .f32) (harg11 : arg11.IsWhole) (arg12 : Memref sig .tc .vmem S352x2048 .f32) (harg12 : arg12.IsWhole) (arg13 : Memref sig .tc .vmem S1024x176 .bf16) (harg13 : arg13.IsWhole) (arg14 : Memref sig .tc .smem S1 .i32) (harg14 : arg14.IsWhole) (arg1 : BitVec 32) (v36 : BitVec 1)
    {α : Type} (rest : Prog (TpuEff nD τ sig (Elt F) Λ₀ .tc) α) : Prog (TpuEff nD τ sig (Elt F) Λ₀ .tc) α := do
  if v36 = 1#1 then do
    let v91 : FVec F S352x2048 .f32 ← k0_part4 i arg2 harg2 arg3 harg3 arg4 harg4 arg5 harg5 arg6 harg6 arg7 harg7 arg8 harg8 arg9 harg9 arg10 harg10 arg11 harg11 arg12 harg12 arg13 harg13 arg14 harg14 arg1
    Prog.lift (.store arg12 (Rect.unit (s := S352x2048) ![0, 0] S352x2048.size inb_S352x2048_S352x2048_0_0) v91 Finset.univ (View.stores_vmem_bits_univ h_S352x2048 rfl) (.inl rfl))
    rest
  else do
    rest

/-- The fourth branch: where they do not, the expert runs on every row. -/
def seg4 (i : grid0.Coords) (arg2 : Memref sig .tc .vmem S1024x2048 .bf16) (harg2 : arg2.IsWhole) (arg3 : Memref sig .tc .vmem S1024x128 .f32) (harg3 : arg3.IsWhole) (arg4 : Memref sig .tc .vmem S1024x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S352x2048 .bf16) (harg10 : arg10.IsWhole) (arg11 : Memref sig .tc .vmem S352x128 .f32) (harg11 : arg11.IsWhole) (arg12 : Memref sig .tc .vmem S352x2048 .f32) (harg12 : arg12.IsWhole) (arg13 : Memref sig .tc .vmem S1024x176 .bf16) (harg13 : arg13.IsWhole) (arg14 : Memref sig .tc .smem S1 .i32) (harg14 : arg14.IsWhole) (arg1 : BitVec 32) (v39 : BitVec 1)
    {α : Type} (rest : Prog (TpuEff nD τ sig (Elt F) Λ₀ .tc) α) : Prog (TpuEff nD τ sig (Elt F) Λ₀ .tc) α := do
  if v39 = 1#1 then do
    k0_part5 i arg2 harg2 arg3 harg3 arg4 harg4 arg5 harg5 arg6 harg6 arg7 harg7 arg8 harg8 arg9 harg9 arg10 harg10 arg11 harg11 arg12 harg12 arg13 harg13 arg14 harg14 arg1
    rest
  else do
    rest

/-- The fifth branch: at the last expert of a group the slots are scattered back to their rows. -/
def seg5 (i : grid0.Coords) (arg2 : Memref sig .tc .vmem S1024x2048 .bf16) (harg2 : arg2.IsWhole) (arg3 : Memref sig .tc .vmem S1024x128 .f32) (harg3 : arg3.IsWhole) (arg4 : Memref sig .tc .vmem S1024x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S352x2048 .bf16) (harg10 : arg10.IsWhole) (arg11 : Memref sig .tc .vmem S352x128 .f32) (harg11 : arg11.IsWhole) (arg12 : Memref sig .tc .vmem S352x2048 .f32) (harg12 : arg12.IsWhole) (arg13 : Memref sig .tc .vmem S1024x176 .bf16) (harg13 : arg13.IsWhole) (arg14 : Memref sig .tc .smem S1 .i32) (harg14 : arg14.IsWhole) (v53 : BitVec 1)
    {α : Type} (rest : Prog (TpuEff nD τ sig (Elt F) Λ₀ .tc) α) : Prog (TpuEff nD τ sig (Elt F) Λ₀ .tc) α := do
  if v53 = 1#1 then do
    let v57 : Vec F S176x2048 .f32 ← Prog.lift (.load arg12 (Rect.unit (s := S352x2048) ![0, 0] S176x2048.size inb_S352x2048_S176x2048_0_0).toLoadRect (View.loadsAt_vmem h_S176x2048))
    let v62 : Vec F S512x2048 .f32 ← Prog.lift (.load arg9 (Rect.unit (s := S1024x2048) ![0, 0] S512x2048.size inb_S1024x2048_S512x2048_0_0).toLoadRect (View.loadsAt_vmem h_S512x2048))
    let v64 : Vec F S512x176 .bf16 ← Prog.lift (.load arg13 (Rect.unit (s := S1024x176) ![0, 0] S512x176.size inb_S1024x176_S512x176_0_0).toLoadRect (View.loadsAt_vmem h_S512x176))
    let v66 : Vec F S512x176 .bf16 ← Prog.lift (.load arg13 (Rect.unit (s := S1024x176) ![0, 0] S512x176.size inb_S1024x176_S512x176_0_0).toLoadRect (View.loadsAt_vmem h_S512x176))
    let v70 : Vec F S512x2048 .f32 ← Prog.lift (.load arg9 (Rect.unit (s := S1024x2048) ![0, 0] S512x2048.size inb_S1024x2048_S512x2048_0_0).toLoadRect (View.loadsAt_vmem h_S512x2048))
    Prog.lift (.store arg9 (Rect.unit (s := S1024x2048) ![0, 0] S512x2048.size inb_S1024x2048_S512x2048_0_0) (k0_pay1 v57 v62 v64 v66) Finset.univ (View.stores_vmem_bits_univ h_S512x2048 rfl) (.inl rfl))
    let v71 : Vec F S176x2048 .f32 ← Prog.lift (.load arg12 (Rect.unit (s := S352x2048) ![176, 0] S176x2048.size inb_S352x2048_S176x2048_176_0).toLoadRect (View.loadsAt_vmem h_S176x2048))
    let v76 : Vec F S512x2048 .f32 ← Prog.lift (.load arg9 (Rect.unit (s := S1024x2048) ![512, 0] S512x2048.size inb_S1024x2048_S512x2048_512_0).toLoadRect (View.loadsAt_vmem h_S512x2048))
    let v78 : Vec F S512x176 .bf16 ← Prog.lift (.load arg13 (Rect.unit (s := S1024x176) ![512, 0] S512x176.size inb_S1024x176_S512x176_512_0).toLoadRect (View.loadsAt_vmem h_S512x176))
    let v80 : Vec F S512x176 .bf16 ← Prog.lift (.load arg13 (Rect.unit (s := S1024x176) ![512, 0] S512x176.size inb_S1024x176_S512x176_512_0).toLoadRect (View.loadsAt_vmem h_S512x176))
    let v84 : Vec F S512x2048 .f32 ← Prog.lift (.load arg9 (Rect.unit (s := S1024x2048) ![512, 0] S512x2048.size inb_S1024x2048_S512x2048_512_0).toLoadRect (View.loadsAt_vmem h_S512x2048))
    Prog.lift (.store arg9 (Rect.unit (s := S1024x2048) ![512, 0] S512x2048.size inb_S1024x2048_S512x2048_512_0) (k0_pay2 v71 v76 v78 v80) Finset.univ (View.stores_vmem_bits_univ h_S512x2048 rfl) (.inl rfl))
    rest
  else do
    rest

/-- The last branch: at the last expert the row block is normalised. -/
def seg6 (i : grid0.Coords) (arg2 : Memref sig .tc .vmem S1024x2048 .bf16) (harg2 : arg2.IsWhole) (arg3 : Memref sig .tc .vmem S1024x128 .f32) (harg3 : arg3.IsWhole) (arg4 : Memref sig .tc .vmem S1024x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S352x2048 .bf16) (harg10 : arg10.IsWhole) (arg11 : Memref sig .tc .vmem S352x128 .f32) (harg11 : arg11.IsWhole) (arg12 : Memref sig .tc .vmem S352x2048 .f32) (harg12 : arg12.IsWhole) (arg13 : Memref sig .tc .vmem S1024x176 .bf16) (harg13 : arg13.IsWhole) (arg14 : Memref sig .tc .smem S1 .i32) (harg14 : arg14.IsWhole) (v56 : BitVec 1)
    {α : Type} (rest : Prog (TpuEff nD τ sig (Elt F) Λ₀ .tc) α) : Prog (TpuEff nD τ sig (Elt F) Λ₀ .tc) α := do
  if k0_h6 : v56 = 1#1 then do
    let v57 : Vec F S1024x2048 .f32 ← Prog.lift (.load arg9 (Rect.unit (s := S1024x2048) ![0, 0] S1024x2048.size inb_S1024x2048_S1024x2048_0_0).toLoadRect (View.loadsAt_vmem h_S1024x2048))
    let v69 : Vec F S1x2048 .f32 ← Prog.lift (.load arg8 (Rect.unit (s := S1x2048) ![0, 0] S1x2048.size inb_S1x2048_S1x2048_0_0).toLoadRect (View.loadsAt_vmem h_S1x2048))
    let v73 : Vec F S1024x2048 .f32 ← Prog.lift (.load arg9 (Rect.unit (s := S1024x2048) ![0, 0] S1024x2048.size inb_S1024x2048_S1024x2048_0_0).toLoadRect (View.loadsAt_vmem h_S1024x2048))
    Prog.lift (.store arg9 (Rect.unit (s := S1024x2048) ![0, 0] S1024x2048.size inb_S1024x2048_S1024x2048_0_0) (k0_pay3 v57 v69) Finset.univ (View.stores_vmem_bits_univ h_S1024x2048 rfl) (.inl rfl))
    rest
  else do
    rest

/-! ## Each branch runs -/

/-- A load of a whole buffer known to hold `X` reads `X` at the rectangle's indices. -/
theorem readAt_unread {sp : Space} {s : Shape} {e : EltTy} {m : Memref sig .tc sp s e} (h : m.IsWhole) (X : s.Idx → Elt F e) (r : Rect s) :
    m.view.readAt (Elt F) r.toLoadRect (h.unread X) = View.ld X r := by
  rw [View.readAt_eq_ld, h.read_unread]

set_option maxHeartbeats 1000000 in
/-- The first branch runs and leaves what is said above. -/
theorem wp_seg1 (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1024x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S352x2048 .bf16) (harg10 : arg10.IsWhole) (arg11 : Memref sig .tc .vmem S352x128 .f32) (harg11 : arg11.IsWhole) (arg12 : Memref sig .tc .vmem S352x2048 .f32) (harg12 : arg12.IsWhole) (arg13 : Memref sig .tc .vmem S1024x176 .bf16) (harg13 : arg13.IsWhole) (arg14 : Memref sig .tc .smem S1 .i32) (harg14 : arg14.IsWhole) (v19 : BitVec 1)
    (h : Vec F S1024x2048 .f32) (o : Vec F S1024x2048 .f32) (E : Set ℕ)
    {α : Type} (rest : Prog (TpuEff nD τ sig (Elt F) Λ₀ .tc) α) (K : α → sProp 𝕄) :
    iprop(owns (c : Thread nD τ) arg4 fullShare h ∗ owns (c : Thread nD τ) arg9 fullShare o
        ∗ (iprop(owns (c : Thread nD τ) arg4 fullShare h ∗ owns (c : Thread nD τ) arg9 fullShare (out1 v19 h o)) -∗ wp frame (wpE (defs₀ (F := F)) Variants.none c none) E rest K))
      ⊢ wp frame (wpE (defs₀ (F := F)) Variants.none c none) E (seg1 i arg2 harg2 arg3 harg3 arg4 harg4 arg5 harg5 arg6 harg6 arg7 harg7 arg8 harg8 arg9 harg9 arg10 harg10 arg11 harg11 arg12 harg12 arg13 harg13 arg14 harg14 v19 rest) K := by
  unfold seg1
  by_cases hv : v19 = 1#1
  · rw [dif_pos hv]
    unfold owns
    iintro ⟨⟨%f4, %h4, H4⟩, ⟨%f9, %h9, H9⟩, Hk⟩
    obtain rfl := harg4.eq_unread h4; obtain rfl := harg9.eq_unread h9
    sl_exec
    iapply Hk
    isplitl [H4]
    · iexists _; isplitr; rotate_left
      · iexact H4
      ipureintro; exact harg4.read_unread _
    iexists _; isplitr; rotate_left
    · iexact H9
    ipureintro; unfold out1; rw [if_pos hv]
    refine (View.read_writes_eq_canon _ _ _ ?_).trans ?_
    · exact View.cover_of_tiledL _ S1024x2048.size (by sl_kernel_rfl)
    · first | with_reducible rfl | (simp only [readAt_unread])
  · rw [dif_neg hv]
    unfold out1
    simp only [if_neg hv]
    iintro ⟨H4, H9, Hk⟩
    iapply Hk
    isplitl [H4]; · iexact H4
    iexact H9

set_option maxHeartbeats 1000000 in
/-- The second branch runs and leaves what is said above. -/
theorem wp_seg2 (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1024x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S352x2048 .bf16) (harg10 : arg10.IsWhole) (arg11 : Memref sig .tc .vmem S352x128 .f32) (harg11 : arg11.IsWhole) (arg12 : Memref sig .tc .vmem S352x2048 .f32) (harg12 : arg12.IsWhole) (arg13 : Memref sig .tc .vmem S1024x176 .bf16) (harg13 : arg13.IsWhole) (arg14 : Memref sig .tc .smem S1 .i32) (harg14 : arg14.IsWhole) (v16 : BitVec 32) (v32 : BitVec 1)
    (xn : Vec F S1024x2048 .bf16) (w : Vec F S1024x128 .f32) (xc : Vec F S352x2048 .bf16) (cc : Vec F S352x128 .f32) (oc : Vec F S352x2048 .f32) (st : Vec F S1024x176 .bf16) (n : Vec F S1 .i32) (E : Set ℕ)
    {α : Type} (rest : Prog (TpuEff nD τ sig (Elt F) Λ₀ .tc) α) (K : α → sProp 𝕄) :
    iprop(owns (c : Thread nD τ) arg2 fullShare xn ∗ owns (c : Thread nD τ) arg3 fullShare w ∗ owns (c : Thread nD τ) arg10 fullShare xc ∗ owns (c : Thread nD τ) arg11 fullShare cc ∗ owns (c : Thread nD τ) arg12 fullShare oc ∗ owns (c : Thread nD τ) arg13 fullShare st ∗ owns (c : Thread nD τ) arg14 fullShare n
        ∗ (iprop(owns (c : Thread nD τ) arg2 fullShare xn ∗ owns (c : Thread nD τ) arg3 fullShare w ∗ owns (c : Thread nD τ) arg10 fullShare (rows2 v16 v32 xn w xc) ∗ owns (c : Thread nD τ) arg11 fullShare (weights2 v16 v32 w cc) ∗ owns (c : Thread nD τ) arg12 fullShare (sums2 v32 oc) ∗ owns (c : Thread nD τ) arg13 fullShare (table2 v16 v32 w st) ∗ owns (c : Thread nD τ) arg14 fullShare (count2 v16 v32 w n)) -∗ wp frame (wpE (defs₀ (F := F)) Variants.none c none) E rest K))
      ⊢ wp frame (wpE (defs₀ (F := F)) Variants.none c none) E (seg2 i arg2 harg2 arg3 harg3 arg4 harg4 arg5 harg5 arg6 harg6 arg7 harg7 arg8 harg8 arg9 harg9 arg10 harg10 arg11 harg11 arg12 harg12 arg13 harg13 arg14 harg14 v16 v32 rest) K := by
  unfold seg2
  by_cases hv : v32 = 1#1
  · rw [dif_pos hv]
    simp only [k0_part1_eq_skeleton, k0_part2_eq_skeleton, k0_part3_eq_skeleton]
    unfold owns
    iintro ⟨⟨%f2, %h2, H2⟩, ⟨%f3, %h3, H3⟩, ⟨%f10, %h10, H10⟩, ⟨%f11, %h11, H11⟩, ⟨%f12, %h12, H12⟩, ⟨%f13, %h13, H13⟩, ⟨%f14, %h14, H14⟩, Hk⟩
    obtain rfl := harg2.eq_unread h2; obtain rfl := harg3.eq_unread h3; obtain rfl := harg10.eq_unread h10; obtain rfl := harg11.eq_unread h11; obtain rfl := harg12.eq_unread h12; obtain rfl := harg13.eq_unread h13; obtain rfl := harg14.eq_unread h14
    sl_exec
    iapply Hk
    isplitl [H2]
    · iexists _; isplitr; rotate_left
      · iexact H2
      ipureintro; exact harg2.read_unread _
    isplitl [H3]
    · iexists _; isplitr; rotate_left
      · iexact H3
      ipureintro; exact harg3.read_unread _
    isplitl [H10]
    · iexists _; isplitr; rotate_left
      · iexact H10
      ipureintro; unfold rows2; rw [if_pos hv]
      refine (View.read_writes_eq_canon _ _ _ ?_).trans ?_
      · exact View.cover_of_tiledL _ S176x2048.size (by sl_kernel_rfl)
      · first | with_reducible rfl | ((try delta wp_seg2.sl.r_10); (try delta wp_seg2.sl.r_9); (try delta wp_seg2.sl.r_8); (try delta wp_seg2.sl.r_7); (try delta wp_seg2.sl.r_6); (try delta wp_seg2.sl.r_5); (try delta wp_seg2.sl.r_4); (try delta wp_seg2.sl.r_3); (try delta wp_seg2.sl.r_2); (try delta wp_seg2.sl.r_1); (try delta wp_seg2.sl.r); simp only [readAt_unread])
    isplitl [H11]
    · iexists _; isplitr; rotate_left
      · iexact H11
      ipureintro; unfold weights2; rw [if_pos hv]
      refine (View.read_writes_eq_canon _ _ _ ?_).trans ?_
      · exact View.cover_of_tiledL _ S176x128.size (by sl_kernel_rfl)
      · first | with_reducible rfl | ((try delta wp_seg2.sl.r_10); (try delta wp_seg2.sl.r_9); (try delta wp_seg2.sl.r_8); (try delta wp_seg2.sl.r_7); (try delta wp_seg2.sl.r_6); (try delta wp_seg2.sl.r_5); (try delta wp_seg2.sl.r_4); (try delta wp_seg2.sl.r_3); (try delta wp_seg2.sl.r_2); (try delta wp_seg2.sl.r_1); (try delta wp_seg2.sl.r); simp only [readAt_unread])
    isplitl [H12]
    · iexists _; isplitr; rotate_left
      · iexact H12
      ipureintro; unfold sums2; rw [if_pos hv]
      refine (View.read_writes_eq_canon _ _ _ ?_).trans ?_
      · exact View.cover_of_tiledL _ S352x2048.size (by sl_kernel_rfl)
      · first | with_reducible rfl | ((try delta wp_seg2.sl.r_10); (try delta wp_seg2.sl.r_9); (try delta wp_seg2.sl.r_8); (try delta wp_seg2.sl.r_7); (try delta wp_seg2.sl.r_6); (try delta wp_seg2.sl.r_5); (try delta wp_seg2.sl.r_4); (try delta wp_seg2.sl.r_3); (try delta wp_seg2.sl.r_2); (try delta wp_seg2.sl.r_1); (try delta wp_seg2.sl.r); simp only [readAt_unread])
    isplitl [H13]
    · iexists _; isplitr; rotate_left
      · iexact H13
      ipureintro; unfold table2; rw [if_pos hv]
      refine (View.read_writes_eq_canon _ _ _ ?_).trans ?_
      · exact View.cover_of_tiledL _ S512x176.size (by sl_kernel_rfl)
      · first | with_reducible rfl | ((try delta wp_seg2.sl.r_10); (try delta wp_seg2.sl.r_9); (try delta wp_seg2.sl.r_8); (try delta wp_seg2.sl.r_7); (try delta wp_seg2.sl.r_6); (try delta wp_seg2.sl.r_5); (try delta wp_seg2.sl.r_4); (try delta wp_seg2.sl.r_3); (try delta wp_seg2.sl.r_2); (try delta wp_seg2.sl.r_1); (try delta wp_seg2.sl.r); simp only [readAt_unread])
    iexists _; isplitr; rotate_left
    · iexact H14
    ipureintro; unfold count2; rw [if_pos hv]
    refine (View.read_writes_eq_canon _ _ _ ?_).trans ?_
    · exact View.cover_of_tiledL _ S1.size (by sl_kernel_rfl)
    · first | with_reducible rfl | ((try delta wp_seg2.sl.r_10); (try delta wp_seg2.sl.r_9); (try delta wp_seg2.sl.r_8); (try delta wp_seg2.sl.r_7); (try delta wp_seg2.sl.r_6); (try delta wp_seg2.sl.r_5); (try delta wp_seg2.sl.r_4); (try delta wp_seg2.sl.r_3); (try delta wp_seg2.sl.r_2); (try delta wp_seg2.sl.r_1); (try delta wp_seg2.sl.r); simp only [readAt_unread])
  · rw [dif_neg hv]
    unfold rows2 weights2 sums2 table2 count2
    simp only [if_neg hv]
    iintro ⟨H2, H3, H10, H11, H12, H13, H14, Hk⟩
    iapply Hk
    isplitl [H2]; · iexact H2
    isplitl [H3]; · iexact H3
    isplitl [H10]; · iexact H10
    isplitl [H11]; · iexact H11
    isplitl [H12]; · iexact H12
    isplitl [H13]; · iexact H13
    iexact H14

set_option maxHeartbeats 1000000 in
/-- The third branch runs and leaves what is said above. -/
theorem wp_seg3 (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1024x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S352x2048 .bf16) (harg10 : arg10.IsWhole) (arg11 : Memref sig .tc .vmem S352x128 .f32) (harg11 : arg11.IsWhole) (arg12 : Memref sig .tc .vmem S352x2048 .f32) (harg12 : arg12.IsWhole) (arg13 : Memref sig .tc .vmem S1024x176 .bf16) (harg13 : arg13.IsWhole) (arg14 : Memref sig .tc .smem S1 .i32) (harg14 : arg14.IsWhole) (arg1 : BitVec 32) (v36 : BitVec 1)
    (wg : Vec F S1x2048x512 .bf16) (wu : Vec F S1x2048x512 .bf16) (wd : Vec F S1x512x2048 .bf16) (xc : Vec F S352x2048 .bf16) (cc : Vec F S352x128 .f32) (oc : Vec F S352x2048 .f32) (E : Set ℕ)
    {α : Type} (rest : Prog (TpuEff nD τ sig (Elt F) Λ₀ .tc) α) (K : α → sProp 𝕄) :
    iprop(owns (c : Thread nD τ) arg5 fullShare wg ∗ owns (c : Thread nD τ) arg6 fullShare wu ∗ owns (c : Thread nD τ) arg7 fullShare wd ∗ owns (c : Thread nD τ) arg10 fullShare xc ∗ owns (c : Thread nD τ) arg11 fullShare cc ∗ owns (c : Thread nD τ) arg12 fullShare oc
        ∗ (iprop(owns (c : Thread nD τ) arg5 fullShare wg ∗ owns (c : Thread nD τ) arg6 fullShare wu ∗ owns (c : Thread nD τ) arg7 fullShare wd ∗ owns (c : Thread nD τ) arg10 fullShare xc ∗ owns (c : Thread nD τ) arg11 fullShare cc ∗ owns (c : Thread nD τ) arg12 fullShare (sums3 arg1 v36 oc xc cc wg wu wd)) -∗ wp frame (wpE (defs₀ (F := F)) Variants.none c none) E rest K))
      ⊢ wp frame (wpE (defs₀ (F := F)) Variants.none c none) E (seg3 i arg2 harg2 arg3 harg3 arg4 harg4 arg5 harg5 arg6 harg6 arg7 harg7 arg8 harg8 arg9 harg9 arg10 harg10 arg11 harg11 arg12 harg12 arg13 harg13 arg14 harg14 arg1 v36 rest) K := by
  unfold seg3
  by_cases hv : v36 = 1#1
  · rw [if_pos hv]
    simp only [k0_part4_eq_skeleton]
    unfold owns
    iintro ⟨⟨%f5, %h5, H5⟩, ⟨%f6, %h6, H6⟩, ⟨%f7, %h7, H7⟩, ⟨%f10, %h10, H10⟩, ⟨%f11, %h11, H11⟩, ⟨%f12, %h12, H12⟩, Hk⟩
    obtain rfl := harg5.eq_unread h5; obtain rfl := harg6.eq_unread h6; obtain rfl := harg7.eq_unread h7; obtain rfl := harg10.eq_unread h10; obtain rfl := harg11.eq_unread h11; obtain rfl := harg12.eq_unread h12
    sl_exec
    iapply Hk
    isplitl [H5]
    · iexists _; isplitr; rotate_left
      · iexact H5
      ipureintro; exact harg5.read_unread _
    isplitl [H6]
    · iexists _; isplitr; rotate_left
      · iexact H6
      ipureintro; exact harg6.read_unread _
    isplitl [H7]
    · iexists _; isplitr; rotate_left
      · iexact H7
      ipureintro; exact harg7.read_unread _
    isplitl [H10]
    · iexists _; isplitr; rotate_left
      · iexact H10
      ipureintro; exact harg10.read_unread _
    isplitl [H11]
    · iexists _; isplitr; rotate_left
      · iexact H11
      ipureintro; exact harg11.read_unread _
    iexists _; isplitr; rotate_left
    · iexact H12
    ipureintro; unfold sums3; rw [if_pos hv]
    refine (View.read_writes_eq_canon _ _ _ ?_).trans ?_
    · exact View.cover_of_tiledL _ S352x2048.size (by sl_kernel_rfl)
    · first | with_reducible rfl | (delta wp_seg3.sl.r; simp only [readAt_unread])
  · rw [if_neg hv]
    unfold sums3
    simp only [if_neg hv]
    iintro ⟨H5, H6, H7, H10, H11, H12, Hk⟩
    iapply Hk
    isplitl [H5]; · iexact H5
    isplitl [H6]; · iexact H6
    isplitl [H7]; · iexact H7
    isplitl [H10]; · iexact H10
    isplitl [H11]; · iexact H11
    iexact H12

set_option maxHeartbeats 1000000 in
/-- The fourth branch runs and leaves what is said above. -/
theorem wp_seg4 (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1024x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S352x2048 .bf16) (harg10 : arg10.IsWhole) (arg11 : Memref sig .tc .vmem S352x128 .f32) (harg11 : arg11.IsWhole) (arg12 : Memref sig .tc .vmem S352x2048 .f32) (harg12 : arg12.IsWhole) (arg13 : Memref sig .tc .vmem S1024x176 .bf16) (harg13 : arg13.IsWhole) (arg14 : Memref sig .tc .smem S1 .i32) (harg14 : arg14.IsWhole) (arg1 : BitVec 32) (v39 : BitVec 1)
    (xn : Vec F S1024x2048 .bf16) (w : Vec F S1024x128 .f32) (wg : Vec F S1x2048x512 .bf16) (wu : Vec F S1x2048x512 .bf16) (wd : Vec F S1x512x2048 .bf16) (o : Vec F S1024x2048 .f32) (E : Set ℕ)
    {α : Type} (rest : Prog (TpuEff nD τ sig (Elt F) Λ₀ .tc) α) (K : α → sProp 𝕄) :
    iprop(owns (c : Thread nD τ) arg2 fullShare xn ∗ owns (c : Thread nD τ) arg3 fullShare w ∗ owns (c : Thread nD τ) arg5 fullShare wg ∗ owns (c : Thread nD τ) arg6 fullShare wu ∗ owns (c : Thread nD τ) arg7 fullShare wd ∗ owns (c : Thread nD τ) arg9 fullShare o
        ∗ (iprop(owns (c : Thread nD τ) arg2 fullShare xn ∗ owns (c : Thread nD τ) arg3 fullShare w ∗ owns (c : Thread nD τ) arg5 fullShare wg ∗ owns (c : Thread nD τ) arg6 fullShare wu ∗ owns (c : Thread nD τ) arg7 fullShare wd ∗ owns (c : Thread nD τ) arg9 fullShare (out4 arg1 v39 o xn w wg wu wd)) -∗ wp frame (wpE (defs₀ (F := F)) Variants.none c none) E rest K))
      ⊢ wp frame (wpE (defs₀ (F := F)) Variants.none c none) E (seg4 i arg2 harg2 arg3 harg3 arg4 harg4 arg5 harg5 arg6 harg6 arg7 harg7 arg8 harg8 arg9 harg9 arg10 harg10 arg11 harg11 arg12 harg12 arg13 harg13 arg14 harg14 arg1 v39 rest) K := by
  unfold seg4
  by_cases hv : v39 = 1#1
  · rw [if_pos hv]
    simp only [k0_part5_eq_skeleton]
    unfold owns
    iintro ⟨⟨%f2, %h2, H2⟩, ⟨%f3, %h3, H3⟩, ⟨%f5, %h5, H5⟩, ⟨%f6, %h6, H6⟩, ⟨%f7, %h7, H7⟩, ⟨%f9, %h9, H9⟩, Hk⟩
    obtain rfl := harg2.eq_unread h2; obtain rfl := harg3.eq_unread h3; obtain rfl := harg5.eq_unread h5; obtain rfl := harg6.eq_unread h6; obtain rfl := harg7.eq_unread h7; obtain rfl := harg9.eq_unread h9
    sl_exec
    iapply Hk
    isplitl [H2]
    · iexists _; isplitr; rotate_left
      · iexact H2
      ipureintro; exact harg2.read_unread _
    isplitl [H3]
    · iexists _; isplitr; rotate_left
      · iexact H3
      ipureintro; exact harg3.read_unread _
    isplitl [H5]
    · iexists _; isplitr; rotate_left
      · iexact H5
      ipureintro; exact harg5.read_unread _
    isplitl [H6]
    · iexists _; isplitr; rotate_left
      · iexact H6
      ipureintro; exact harg6.read_unread _
    isplitl [H7]
    · iexists _; isplitr; rotate_left
      · iexact H7
      ipureintro; exact harg7.read_unread _
    iexists _; isplitr; rotate_left
    · iexact H9
    ipureintro; unfold out4; rw [if_pos hv]
    refine (View.read_writes_eq_canon _ _ _ ?_).trans ?_
    · exact View.cover_of_tiledL _ S1024x2048.size (by sl_kernel_rfl)
    · first | with_reducible rfl | (simp only [readAt_unread])
  · rw [if_neg hv]
    unfold out4
    simp only [if_neg hv]
    iintro ⟨H2, H3, H5, H6, H7, H9, Hk⟩
    iapply Hk
    isplitl [H2]; · iexact H2
    isplitl [H3]; · iexact H3
    isplitl [H5]; · iexact H5
    isplitl [H6]; · iexact H6
    isplitl [H7]; · iexact H7
    iexact H9

set_option maxHeartbeats 1000000 in
/-- The fifth branch runs and leaves what is said above. -/
theorem wp_seg5 (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1024x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S352x2048 .bf16) (harg10 : arg10.IsWhole) (arg11 : Memref sig .tc .vmem S352x128 .f32) (harg11 : arg11.IsWhole) (arg12 : Memref sig .tc .vmem S352x2048 .f32) (harg12 : arg12.IsWhole) (arg13 : Memref sig .tc .vmem S1024x176 .bf16) (harg13 : arg13.IsWhole) (arg14 : Memref sig .tc .smem S1 .i32) (harg14 : arg14.IsWhole) (v53 : BitVec 1)
    (o : Vec F S1024x2048 .f32) (oc : Vec F S352x2048 .f32) (st : Vec F S1024x176 .bf16) (E : Set ℕ)
    {α : Type} (rest : Prog (TpuEff nD τ sig (Elt F) Λ₀ .tc) α) (K : α → sProp 𝕄) :
    iprop(owns (c : Thread nD τ) arg9 fullShare o ∗ owns (c : Thread nD τ) arg12 fullShare oc ∗ owns (c : Thread nD τ) arg13 fullShare st
        ∗ (iprop(owns (c : Thread nD τ) arg9 fullShare (out5 v53 oc o st) ∗ owns (c : Thread nD τ) arg12 fullShare oc ∗ owns (c : Thread nD τ) arg13 fullShare st) -∗ wp frame (wpE (defs₀ (F := F)) Variants.none c none) E rest K))
      ⊢ wp frame (wpE (defs₀ (F := F)) Variants.none c none) E (seg5 i arg2 harg2 arg3 harg3 arg4 harg4 arg5 harg5 arg6 harg6 arg7 harg7 arg8 harg8 arg9 harg9 arg10 harg10 arg11 harg11 arg12 harg12 arg13 harg13 arg14 harg14 v53 rest) K := by
  unfold seg5
  by_cases hv : v53 = 1#1
  · rw [if_pos hv]
    unfold owns
    iintro ⟨⟨%f9, %h9, H9⟩, ⟨%f12, %h12, H12⟩, ⟨%f13, %h13, H13⟩, Hk⟩
    obtain rfl := harg9.eq_unread h9; obtain rfl := harg12.eq_unread h12; obtain rfl := harg13.eq_unread h13
    sl_exec
    iapply Hk
    isplitl [H9]
    · iexists _; isplitr; rotate_left
      · iexact H9
      ipureintro; unfold out5; rw [if_pos hv]
      refine (View.read_writes_eq_canon _ _ _ ?_).trans ?_
      · exact View.cover_of_tiledL _ S512x2048.size (by sl_kernel_rfl)
      · first | with_reducible rfl | (delta wp_seg5.sl.v76; simp only [readAt_unread])
    isplitl [H12]
    · iexists _; isplitr; rotate_left
      · iexact H12
      ipureintro; exact harg12.read_unread _
    iexists _; isplitr; rotate_left
    · iexact H13
    ipureintro; exact harg13.read_unread _
  · rw [if_neg hv]
    unfold out5
    simp only [if_neg hv]
    iintro ⟨H9, H12, H13, Hk⟩
    iapply Hk
    isplitl [H9]; · iexact H9
    isplitl [H12]; · iexact H12
    iexact H13

set_option maxHeartbeats 1000000 in
/-- The last branch runs and leaves what is said above. -/
theorem wp_seg6 (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1024x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S352x2048 .bf16) (harg10 : arg10.IsWhole) (arg11 : Memref sig .tc .vmem S352x128 .f32) (harg11 : arg11.IsWhole) (arg12 : Memref sig .tc .vmem S352x2048 .f32) (harg12 : arg12.IsWhole) (arg13 : Memref sig .tc .vmem S1024x176 .bf16) (harg13 : arg13.IsWhole) (arg14 : Memref sig .tc .smem S1 .i32) (harg14 : arg14.IsWhole) (v56 : BitVec 1)
    (g : Vec F S1x2048 .f32) (o : Vec F S1024x2048 .f32) (E : Set ℕ)
    {α : Type} (rest : Prog (TpuEff nD τ sig (Elt F) Λ₀ .tc) α) (K : α → sProp 𝕄) :
    iprop(owns (c : Thread nD τ) arg8 fullShare g ∗ owns (c : Thread nD τ) arg9 fullShare o
        ∗ (iprop(owns (c : Thread nD τ) arg8 fullShare g ∗ owns (c : Thread nD τ) arg9 fullShare (out6 v56 o g)) -∗ wp frame (wpE (defs₀ (F := F)) Variants.none c none) E rest K))
      ⊢ wp frame (wpE (defs₀ (F := F)) Variants.none c none) E (seg6 i arg2 harg2 arg3 harg3 arg4 harg4 arg5 harg5 arg6 harg6 arg7 harg7 arg8 harg8 arg9 harg9 arg10 harg10 arg11 harg11 arg12 harg12 arg13 harg13 arg14 harg14 v56 rest) K := by
  unfold seg6
  by_cases hv : v56 = 1#1
  · rw [dif_pos hv]
    unfold owns
    iintro ⟨⟨%f8, %h8, H8⟩, ⟨%f9, %h9, H9⟩, Hk⟩
    obtain rfl := harg8.eq_unread h8; obtain rfl := harg9.eq_unread h9
    sl_exec
    iapply Hk
    isplitl [H8]
    · iexists _; isplitr; rotate_left
      · iexact H8
      ipureintro; exact harg8.read_unread _
    iexists _; isplitr; rotate_left
    · iexact H9
    ipureintro; unfold out6; rw [if_pos hv]
    refine (View.read_writes_eq_canon _ _ _ ?_).trans ?_
    · exact View.cover_of_tiledL _ S1024x2048.size (by sl_kernel_rfl)
    · first | with_reducible rfl | (simp only [readAt_unread])
  · rw [dif_neg hv]
    unfold out6
    simp only [if_neg hv]
    iintro ⟨H8, H9, Hk⟩
    iapply Hk
    isplitl [H8]; · iexact H8
    iexact H9

/-- The count the body reads. -/
def cnt (n : Vec F S1 .i32) : BitVec 32 := View.ld (Val := Elt F) n rN (Shape.Idx.first (by decide))

/-- Reading the count leaves it as it was. -/
theorem wp_count (c : Dev nD) (arg14 : Memref sig .tc .smem S1 .i32) (harg14 : arg14.IsWhole) (n : Vec F S1 .i32) (E : Set ℕ)
    (K : Elt F .i32 → sProp 𝕄) :
    iprop(owns (c : Thread nD τ) arg14 fullShare n ∗ (owns (c : Thread nD τ) arg14 fullShare n -∗ K (cnt n)))
      ⊢ wp frame (wpE (defs₀ (F := F)) Variants.none c none) E
          (smemLoad arg14 (Rect.unit (s := S1) ![0] S1.size inb_S1_S1_0) numel1_S1 rfl) K := by
  unfold cnt owns
  iintro ⟨⟨%f, %hf, H⟩, Hk⟩
  obtain rfl := harg14.eq_unread hf
  sl_exec
  sl_step
  rw [readAt_unread]
  iapply Hk
  iexists _; isplitr; rotate_left
  · iexact H
  ipureintro; exact harg14.read_unread _

end Cert.MoeIdeal.Run

end
-- ==== Proof.MoeFrame.lean ====
module

public import proofs.«01_k».proof.Proof.MoeRun
public import Idealize.ShloMosaic.Lib.Claim

/-! # The expert kernel runs

One point of the grid takes the six buffers the body writes from what the point before left in them to what `step` says;
the first point of a row block forgets what it finds. The points composed are the whole run: the argument arrays end as
launched, and no semaphore counter is left raised. All of it is over any float values. -/

@[expose] public section

set_option maxRecDepth 16384

noncomputable section

namespace Cert.MoeIdeal.Run

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions -/

/-- The expert of a point, as the body counts it. -/
def expert (i : grid0.Coords) : BitVec 32 := BitVec.ofNat 32 (i 1).val

/-- The group of a point: the expert over four. -/
def group (i : grid0.Coords) : BitVec 32 :=
  let arg1 : BitVec 32 := expert i
  let v0 : BitVec 32 := Scalar.divsi arg1 4#32
  let v1 : BitVec 1 := Scalar.cmpi .sgt arg1 0#32
  let v2 : BitVec 32 := Scalar.extui v1
  let v3 : BitVec 1 := Scalar.cmpi .slt arg1 0#32
  let v4 : BitVec 32 := Scalar.extui v3
  let v5 : BitVec 32 := Scalar.subi v2 v4
  let v6 : BitVec 1 := Scalar.cmpi .sgt 4#32 0#32
  let v7 : BitVec 32 := Scalar.extui v6
  let v8 : BitVec 1 := Scalar.cmpi .slt 4#32 0#32
  let v9 : BitVec 32 := Scalar.extui v8
  let v10 : BitVec 32 := Scalar.subi v7 v9
  let v11 : BitVec 1 := Scalar.cmpi .ne v5 v10
  let v12 : BitVec 32 := Scalar.remsi arg1 4#32
  let v13 : BitVec 1 := Scalar.cmpi .ne v12 0#32
  let v14 : BitVec 1 := Scalar.andi v11 v13
  let v15 : BitVec 32 := Scalar.subi v0 1#32
  let v16 : BitVec 32 := Scalar.select v14 v15 v0
  v16

/-- Whether a point is at the first expert. -/
def isFirst (i : grid0.Coords) : BitVec 1 :=
  let arg1 : BitVec 32 := expert i
  let v17 : BitVec 1 := Scalar.cmpi .eq arg1 0#32
  let v18 : BitVec 32 := Scalar.extui v17
  let v19 : BitVec 1 := Scalar.cmpi .ne v18 0#32
  v19

/-- Whether a point is at the first expert of a group. -/
def opensGroup (i : grid0.Coords) : BitVec 1 :=
  let arg1 : BitVec 32 := expert i
  let v20 : BitVec 1 := Scalar.cmpi .eq 4#32 0#32
  let v21 : BitVec 32 := Scalar.select v20 1#32 4#32
  let v22 : BitVec 32 := Scalar.remsi arg1 v21
  let v23 : BitVec 1 := Scalar.cmpi .ne v22 0#32
  let v24 : BitVec 1 := Scalar.cmpi .slt v22 0#32
  let v25 : BitVec 1 := Scalar.cmpi .slt v21 0#32
  let v26 : BitVec 1 := Scalar.xori v24 v25
  let v27 : BitVec 1 := Scalar.andi v26 v23
  let v28 : BitVec 32 := Scalar.addi v22 v21
  let v29 : BitVec 32 := Scalar.select v27 v28 v22
  let v30 : BitVec 1 := Scalar.cmpi .eq v29 0#32
  let v31 : BitVec 32 := Scalar.extui v30
  let v32 : BitVec 1 := Scalar.cmpi .ne v31 0#32
  v32

/-- Whether a point is at the last expert of a group. -/
def closesGroup (arg1 : BitVec 32) : BitVec 1 :=
  let v40 : BitVec 1 := Scalar.cmpi .eq 4#32 0#32
  let v41 : BitVec 32 := Scalar.select v40 1#32 4#32
  let v42 : BitVec 32 := Scalar.remsi arg1 v41
  let v43 : BitVec 1 := Scalar.cmpi .ne v42 0#32
  let v44 : BitVec 1 := Scalar.cmpi .slt v42 0#32
  let v45 : BitVec 1 := Scalar.cmpi .slt v41 0#32
  let v46 : BitVec 1 := Scalar.xori v44 v45
  let v47 : BitVec 1 := Scalar.andi v46 v43
  let v48 : BitVec 32 := Scalar.addi v42 v41
  let v49 : BitVec 32 := Scalar.select v47 v48 v42
  let v50 : BitVec 1 := Scalar.cmpi .eq v49 3#32
  v50

/-- Whether a point is at the last expert. -/
def isLast (arg1 : BitVec 32) : BitVec 1 :=
  Scalar.cmpi .ne (Scalar.extui (Scalar.cmpi .eq arg1 15#32)) 0#32

/-- Whether a count of members fits the slots. -/
def fits (n : BitVec 32) : BitVec 1 := Scalar.cmpi .sle n 176#32

/-! ## One point -/

/-- What the six buffers the body writes hold: the output block, the gathered rows, their weights, the sums over the
    slots, the scatter table, the count. -/
structure St (F : FTy → Type) where
  o : Vec F S1024x2048 .f32
  xc : Vec F S352x2048 .bf16
  cc : Vec F S352x128 .f32
  oc : Vec F S352x2048 .f32
  st : Vec F S1024x176 .bf16
  n : Vec F S1 .i32

/-- One point of the grid, on the contents of the six buffers. -/
def step (i : grid0.Coords) (xn : Vec F S1024x2048 .bf16) (w : Vec F S1024x128 .f32) (h : Vec F S1024x2048 .f32) (wg wu : Vec F S1x2048x512 .bf16)
    (wd : Vec F S1x512x2048 .bf16) (g : Vec F S1x2048 .f32) (S : St F) : St F where
  xc := rows2 (group i) (opensGroup i) xn w S.xc
  cc := weights2 (group i) (opensGroup i) w S.cc
  st := table2 (group i) (opensGroup i) w S.st
  n := count2 (group i) (opensGroup i) w S.n
  oc := sums3 (expert i) (Scalar.cmpi .ne (Scalar.extui (fits (cnt (count2 (group i) (opensGroup i) w S.n)))) 0#32) (sums2 (opensGroup i) S.oc) (rows2 (group i) (opensGroup i) xn w S.xc) (weights2 (group i) (opensGroup i) w S.cc) wg wu wd
  o := out6 (isLast (expert i)) (out5 (Scalar.cmpi .ne (Scalar.extui (Scalar.andi (fits (cnt (count2 (group i) (opensGroup i) w S.n))) (closesGroup (expert i)))) 0#32) (sums3 (expert i) (Scalar.cmpi .ne (Scalar.extui (fits (cnt (count2 (group i) (opensGroup i) w S.n)))) 0#32) (sums2 (opensGroup i) S.oc) (rows2 (group i) (opensGroup i) xn w S.xc) (weights2 (group i) (opensGroup i) w S.cc) wg wu wd) (out4 (expert i) (Scalar.cmpi .ne (Scalar.extui (Scalar.xori (fits (cnt (count2 (group i) (opensGroup i) w S.n))) 1#1)) 0#32) (out1 (isFirst i) h S.o) xn w wg wu wd) (table2 (group i) (opensGroup i) w S.st)) g

/-- At the first expert of a row block a point forgets what it finds. -/
theorem step_reset (i : grid0.Coords) (xn : Vec F S1024x2048 .bf16) (w : Vec F S1024x128 .f32) (h : Vec F S1024x2048 .f32) (wg wu : Vec F S1x2048x512 .bf16)
    (wd : Vec F S1x512x2048 .bf16) (g : Vec F S1x2048 .f32) (h1 : isFirst i = 1#1) (h2 : opensGroup i = 1#1) (S S' : St F) :
    step i xn w h wg wu wd g S = step i xn w h wg wu wd g S' := by
  unfold step out1 rows2 weights2 sums2 table2 count2
  simp only [if_pos h1, if_pos h2]

/-! ## The body as its branches -/

set_option maxRecDepth 65536 in
set_option maxHeartbeats 1000000 in
/-- The first part of the body is its first two branches, then the count read. -/
theorem part_eq (i : grid0.Coords) (arg2 : Memref sig .tc .vmem S1024x2048 .bf16) (harg2 : arg2.IsWhole) (arg3 : Memref sig .tc .vmem S1024x128 .f32) (harg3 : arg3.IsWhole) (arg4 : Memref sig .tc .vmem S1024x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S352x2048 .bf16) (harg10 : arg10.IsWhole) (arg11 : Memref sig .tc .vmem S352x128 .f32) (harg11 : arg11.IsWhole) (arg12 : Memref sig .tc .vmem S352x2048 .f32) (harg12 : arg12.IsWhole) (arg13 : Memref sig .tc .vmem S1024x176 .bf16) (harg13 : arg13.IsWhole) (arg14 : Memref sig .tc .smem S1 .i32) (harg14 : arg14.IsWhole) :
    k0_part6 (F := F) i arg2 harg2 arg3 harg3 arg4 harg4 arg5 harg5 arg6 harg6 arg7 harg7 arg8 harg8 arg9 harg9 arg10 harg10 arg11 harg11 arg12 harg12 arg13 harg13 arg14 harg14 =
      seg1 i arg2 harg2 arg3 harg3 arg4 harg4 arg5 harg5 arg6 harg6 arg7 harg7 arg8 harg8 arg9 harg9 arg10 harg10 arg11 harg11 arg12 harg12 arg13 harg13 arg14 harg14 (isFirst i) (seg2 i arg2 harg2 arg3 harg3 arg4 harg4 arg5 harg5 arg6 harg6 arg7 harg7 arg8 harg8 arg9 harg9 arg10 harg10 arg11 harg11 arg12 harg12 arg13 harg13 arg14 harg14 (group i) (opensGroup i) (do
          let v33 : Elt F .i32 ← smemLoad arg14 (Rect.unit (s := S1) ![0] S1.size inb_S1_S1_0) numel1_S1 rfl
          pure ⟨expert i, fits v33, Scalar.extui (fits v33), 0#32⟩)) := by
  rw [k0_part6_eq_skeleton]
  unfold k0_part6_skel seg1 seg2
  first | rfl | fail "X1"

set_option maxRecDepth 65536 in
set_option maxHeartbeats 1000000 in
/-- The body is its first part, then the four branches over what it returns. -/
theorem body_eq (i : grid0.Coords) (arg2 : Memref sig .tc .vmem S1024x2048 .bf16) (harg2 : arg2.IsWhole) (arg3 : Memref sig .tc .vmem S1024x128 .f32) (harg3 : arg3.IsWhole) (arg4 : Memref sig .tc .vmem S1024x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S352x2048 .bf16) (harg10 : arg10.IsWhole) (arg11 : Memref sig .tc .vmem S352x128 .f32) (harg11 : arg11.IsWhole) (arg12 : Memref sig .tc .vmem S352x2048 .f32) (harg12 : arg12.IsWhole) (arg13 : Memref sig .tc .vmem S1024x176 .bf16) (harg13 : arg13.IsWhole) (arg14 : Memref sig .tc .smem S1 .i32) (harg14 : arg14.IsWhole) :
    cc0_moe (F := F) i arg2 harg2 arg3 harg3 arg4 harg4 arg5 harg5 arg6 harg6 arg7 harg7 arg8 harg8 arg9 harg9 arg10 harg10 arg11 harg11 arg12 harg12 arg13 harg13 arg14 harg14 = (k0_part6 i arg2 harg2 arg3 harg3 arg4 harg4 arg5 harg5 arg6 harg6 arg7 harg7 arg8 harg8 arg9 harg9 arg10 harg10 arg11 harg11 arg12 harg12 arg13 harg13 arg14 harg14 >>= fun r =>
      seg3 i arg2 harg2 arg3 harg3 arg4 harg4 arg5 harg5 arg6 harg6 arg7 harg7 arg8 harg8 arg9 harg9 arg10 harg10 arg11 harg11 arg12 harg12 arg13 harg13 arg14 harg14 r.1 (Scalar.cmpi .ne r.2.2.1 r.2.2.2) (seg4 i arg2 harg2 arg3 harg3 arg4 harg4 arg5 harg5 arg6 harg6 arg7 harg7 arg8 harg8 arg9 harg9 arg10 harg10 arg11 harg11 arg12 harg12 arg13 harg13 arg14 harg14 r.1 (Scalar.cmpi .ne (Scalar.extui (Scalar.xori r.2.1 1#1)) 0#32)
        (seg5 i arg2 harg2 arg3 harg3 arg4 harg4 arg5 harg5 arg6 harg6 arg7 harg7 arg8 harg8 arg9 harg9 arg10 harg10 arg11 harg11 arg12 harg12 arg13 harg13 arg14 harg14 (Scalar.cmpi .ne (Scalar.extui (Scalar.andi r.2.1 (closesGroup r.1))) 0#32) (seg6 i arg2 harg2 arg3 harg3 arg4 harg4 arg5 harg5 arg6 harg6 arg7 harg7 arg8 harg8 arg9 harg9 arg10 harg10 arg11 harg11 arg12 harg12 arg13 harg13 arg14 harg14 (isLast r.1) (pure ⟨⟩))))) := by
  rw [cc0_moe_eq_skeleton]
  unfold cc0_moe_skel
  refine congrArg _ (funext fun r => ?_)
  obtain ⟨a, b, v, z⟩ := r
  first | rfl | fail "X2"

set_option maxHeartbeats 2000000 in
/-- The body runs from any contents `S` of the six buffers to what `step` says, the blocks it reads left as they were. -/
theorem wp_body (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1024x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S352x2048 .bf16) (harg10 : arg10.IsWhole) (arg11 : Memref sig .tc .vmem S352x128 .f32) (harg11 : arg11.IsWhole) (arg12 : Memref sig .tc .vmem S352x2048 .f32) (harg12 : arg12.IsWhole) (arg13 : Memref sig .tc .vmem S1024x176 .bf16) (harg13 : arg13.IsWhole) (arg14 : Memref sig .tc .smem S1 .i32) (harg14 : arg14.IsWhole)
    (xn : Vec F S1024x2048 .bf16) (w : Vec F S1024x128 .f32) (h : Vec F S1024x2048 .f32) (wg wu : Vec F S1x2048x512 .bf16)
    (wd : Vec F S1x512x2048 .bf16) (g : Vec F S1x2048 .f32) (S : St F) (E : Set ℕ) (K : PUnit → sProp 𝕄) :
    iprop(owns (c : Thread nD τ) arg2 fullShare xn ∗ owns (c : Thread nD τ) arg3 fullShare w ∗ owns (c : Thread nD τ) arg4 fullShare h ∗ owns (c : Thread nD τ) arg5 fullShare wg ∗ owns (c : Thread nD τ) arg6 fullShare wu ∗ owns (c : Thread nD τ) arg7 fullShare wd ∗ owns (c : Thread nD τ) arg8 fullShare g ∗ owns (c : Thread nD τ) arg9 fullShare S.o ∗ owns (c : Thread nD τ) arg10 fullShare S.xc ∗ owns (c : Thread nD τ) arg11 fullShare S.cc ∗ owns (c : Thread nD τ) arg12 fullShare S.oc ∗ owns (c : Thread nD τ) arg13 fullShare S.st ∗ owns (c : Thread nD τ) arg14 fullShare S.n
        ∗ (iprop(owns (c : Thread nD τ) arg2 fullShare xn ∗ owns (c : Thread nD τ) arg3 fullShare w ∗ owns (c : Thread nD τ) arg4 fullShare h ∗ owns (c : Thread nD τ) arg5 fullShare wg ∗ owns (c : Thread nD τ) arg6 fullShare wu ∗ owns (c : Thread nD τ) arg7 fullShare wd ∗ owns (c : Thread nD τ) arg8 fullShare g ∗ owns (c : Thread nD τ) arg9 fullShare (step i xn w h wg wu wd g S).o ∗ owns (c : Thread nD τ) arg10 fullShare (step i xn w h wg wu wd g S).xc ∗ owns (c : Thread nD τ) arg11 fullShare (step i xn w h wg wu wd g S).cc ∗ owns (c : Thread nD τ) arg12 fullShare (step i xn w h wg wu wd g S).oc ∗ owns (c : Thread nD τ) arg13 fullShare (step i xn w h wg wu wd g S).st ∗ owns (c : Thread nD τ) arg14 fullShare (step i xn w h wg wu wd g S).n) -∗ K ⟨⟩))
      ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14) K := by
  rw [body_eq, wp_bind, part_eq]
  unfold step
  dsimp only
  iintro ⟨H2, H3, H4, H5, H6, H7, H8, H9, H10, H11, H12, H13, H14, Hk⟩
  iapply (wp_seg1 c i arg2 harg2 arg3 harg3 arg4 harg4 arg5 harg5 arg6 harg6 arg7 harg7 arg8 harg8 arg9 harg9 arg10 harg10 arg11 harg11 arg12 harg12 arg13 harg13 arg14 harg14 _ _ _ E _ _)
  isplitl [H4]; · iexact H4
  isplitl [H9]; · iexact H9
  iintro ⟨H4, H9⟩
  iapply (wp_seg2 c i arg2 harg2 arg3 harg3 arg4 harg4 arg5 harg5 arg6 harg6 arg7 harg7 arg8 harg8 arg9 harg9 arg10 harg10 arg11 harg11 arg12 harg12 arg13 harg13 arg14 harg14 _ _ _ _ _ _ _ _ _ E _ _)
  isplitl [H2]; · iexact H2
  isplitl [H3]; · iexact H3
  isplitl [H10]; · iexact H10
  isplitl [H11]; · iexact H11
  isplitl [H12]; · iexact H12
  isplitl [H13]; · iexact H13
  isplitl [H14]; · iexact H14
  iintro ⟨H2, H3, H10, H11, H12, H13, H14⟩
  simp only [wp_bind]
  iapply (wp_count c arg14 harg14 _ E _)
  isplitl [H14]; · iexact H14
  iintro H14
  sl_step
  iapply (wp_seg3 c i arg2 harg2 arg3 harg3 arg4 harg4 arg5 harg5 arg6 harg6 arg7 harg7 arg8 harg8 arg9 harg9 arg10 harg10 arg11 harg11 arg12 harg12 arg13 harg13 arg14 harg14 _ _ _ _ _ _ _ _ E _ _)
  isplitl [H5]; · iexact H5
  isplitl [H6]; · iexact H6
  isplitl [H7]; · iexact H7
  isplitl [H10]; · iexact H10
  isplitl [H11]; · iexact H11
  isplitl [H12]; · iexact H12
  iintro ⟨H5, H6, H7, H10, H11, H12⟩
  iapply (wp_seg4 c i arg2 harg2 arg3 harg3 arg4 harg4 arg5 harg5 arg6 harg6 arg7 harg7 arg8 harg8 arg9 harg9 arg10 harg10 arg11 harg11 arg12 harg12 arg13 harg13 arg14 harg14 _ _ _ _ _ _ _ _ E _ _)
  isplitl [H2]; · iexact H2
  isplitl [H3]; · iexact H3
  isplitl [H5]; · iexact H5
  isplitl [H6]; · iexact H6
  isplitl [H7]; · iexact H7
  isplitl [H9]; · iexact H9
  iintro ⟨H2, H3, H5, H6, H7, H9⟩
  iapply (wp_seg5 c i arg2 harg2 arg3 harg3 arg4 harg4 arg5 harg5 arg6 harg6 arg7 harg7 arg8 harg8 arg9 harg9 arg10 harg10 arg11 harg11 arg12 harg12 arg13 harg13 arg14 harg14 _ _ _ _ E _ _)
  isplitl [H9]; · iexact H9
  isplitl [H12]; · iexact H12
  isplitl [H13]; · iexact H13
  iintro ⟨H9, H12, H13⟩
  iapply (wp_seg6 c i arg2 harg2 arg3 harg3 arg4 harg4 arg5 harg5 arg6 harg6 arg7 harg7 arg8 harg8 arg9 harg9 arg10 harg10 arg11 harg11 arg12 harg12 arg13 harg13 arg14 harg14 _ _ _ E _ _)
  isplitl [H8]; · iexact H8
  isplitl [H9]; · iexact H9
  iintro ⟨H8, H9⟩
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-! ## The points composed -/

variable (m : (ℓ : Loc nD τ sig) → Buf (Elt F) ℓ) (ρ : Dev nD → PrngReg)

abbrev scM0_0 := Memref.whole cc0_scratch0
abbrev scM0_1 := Memref.whole cc0_scratch1
abbrev scM0_2 := Memref.whole cc0_scratch2
abbrev scM0_3 := Memref.whole cc0_scratch3
abbrev scM0_4 := Memref.whole cc0_scratch4

/-- The points at the first expert are the multiples of sixteen. -/
theorem isFirst_of : ∀ t : Fin cfg0.N, t.val % 16 = 0 → isFirst (grid0.coords t) = 1#1 := by decide +kernel

/-- There a group opens too. -/
theorem opensGroup_of : ∀ t : Fin cfg0.N, t.val % 16 = 0 → opensGroup (grid0.coords t) = 1#1 := by decide +kernel

/-- One point of core `c`, on the blocks the windows stage there. -/
def stepAt (c : Dev nD) (t : Fin cfg0.N) (S : St F) : St F := step (grid0.coords t) (iblk m c 0 t) (iblk m c 1 t) (iblk m c 2 t) (iblk m c 3 t) (iblk m c 4 t) (iblk m c 5 t) (iblk m c 6 t) S

/-- Some contents of the six buffers: the first point forgets them. -/
def junk : St F :=
  ⟨View.canon (Val := Elt F) [], View.canon (Val := Elt F) [], View.canon (Val := Elt F) [], View.canon (Val := Elt F) [],
    View.canon (Val := Elt F) [], View.canon (Val := Elt F) []⟩

/-- What the six buffers hold after point `n`. -/
def stAt (c : Dev nD) : (n : ℕ) → n < cfg0.N → St F
  | 0, h => stepAt m c ⟨0, h⟩ junk
  | n + 1, h => stepAt m c ⟨n + 1, h⟩ (stAt c n (Nat.lt_of_succ_lt h))

theorem stAt_pos (c : Dev nD) (t : Fin cfg0.N) (h : t.val ≠ 0) :
    stAt m c t.val t.isLt = stepAt m c t (stAt m c (t.val - 1) (Nat.lt_of_le_of_lt (Nat.sub_le _ _) t.isLt)) := by
  obtain ⟨n, hn⟩ := t
  cases n with
  | zero => exact absurd rfl h
  | succ n => rfl

/-- At the first expert of a row block the state is the point's, whatever it finds. -/
theorem stAt_reset (c : Dev nD) (t : Fin cfg0.N) (h : t.val % 16 = 0) (S : St F) : stAt m c t.val t.isLt = stepAt m c t S := by
  by_cases h0 : t.val = 0
  · obtain ⟨n, hn⟩ := t
    subst h0
    exact step_reset _ _ _ _ _ _ _ _ (isFirst_of _ h) (opensGroup_of _ h) _ _
  · rw [stAt_pos m c t h0]
    exact step_reset _ _ _ _ _ _ _ _ (isFirst_of _ h) (opensGroup_of _ h) _ _

/-- The buffers the pipeline does not stage, each at some contents, with the generator register. -/
theorem PhiA0_eq (c : Dev nD) : (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA
  rw [scopedRest0_eq]
  simp only [scM0_0, scM0_1, scM0_2, scM0_3, scM0_4, owns_whole]
  try rfl

/-- The invariant before point `n`: at the first the buffers at anything, afterwards at what the point before left. -/
def PhiS (c : Dev nD) : (n : ℕ) → n ≤ cfg0.N → sProp 𝕄
  | 0, _ => Pipeline.ΦA spec0 c
  | n + 1, hn => iprop(iprop(owns (c : Thread nD τ) scM0_0 fullShare (stAt m c n hn).xc ∗ owns (c : Thread nD τ) scM0_1 fullShare (stAt m c n hn).cc ∗ owns (c : Thread nD τ) scM0_2 fullShare (stAt m c n hn).oc ∗ owns (c : Thread nD τ) scM0_3 fullShare (stAt m c n hn).st ∗ owns (c : Thread nD τ) scM0_4 fullShare (stAt m c n hn).n) ∗ (∃ r, prngReg c r))

theorem PhiS_pos (c : Dev nD) (n : ℕ) (h : n ≤ cfg0.N) (hz : n ≠ 0) :
    PhiS m c n h = iprop(iprop(owns (c : Thread nD τ) scM0_0 fullShare (stAt m c (n - 1) (by omega)).xc ∗ owns (c : Thread nD τ) scM0_1 fullShare (stAt m c (n - 1) (by omega)).cc ∗ owns (c : Thread nD τ) scM0_2 fullShare (stAt m c (n - 1) (by omega)).oc ∗ owns (c : Thread nD τ) scM0_3 fullShare (stAt m c (n - 1) (by omega)).st ∗ owns (c : Thread nD τ) scM0_4 fullShare (stAt m c (n - 1) (by omega)).n) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (stAt m c t.val t.isLt).o
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (stAt m c t.val t.isLt).o := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Off the first expert of a row block the output block is what the point before left. -/
theorem before0_7 (c : Dev nD) (t : Fin cfg0.N) (h : t.val % 16 ≠ 0) (d) :
    (dats m 0 c).before 7 t d = (stAt m c (t.val - 1) (Nat.lt_of_le_of_lt (Nat.sub_le _ _) t.isLt)).o := by
  have hz : t.val ≠ 0 := fun h0 => h (by rw [h0])
  refine ((dats m 0 c).before_out_kept 7 rfl t hz ?_ (fun _ => rfl) (fun _ _ => rfl) d).trans (after0_7 m c _)
  rw [← Bool.not_eq_true, flush0_7]
  show ¬ (t.val - 1) % 16 = 15
  omega

/-- What the body finds at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1600000 in
/-- The body at any point: the windows hold their blocks, the carried buffers what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = iprop(iprop(owns (c : Thread nD τ) scM0_0 fullShare (stAt m c t.val t.isLt).xc ∗ owns (c : Thread nD τ) scM0_1 fullShare (stAt m c t.val t.isLt).cc ∗ owns (c : Thread nD τ) scM0_2 fullShare (stAt m c t.val t.isLt).oc ∗ owns (c : Thread nD τ) scM0_3 fullShare (stAt m c t.val t.isLt).st ∗ owns (c : Thread nD τ) scM0_4 fullShare (stAt m c t.val t.isLt).n) ∗ (∃ r, prngReg c r)) from rfl,
    show (dats m 0 c).owesAt () t.succ = (dats m 0 c).owesAt () t.castSucc from rfl,
    after0_0, after0_1, after0_2, after0_3, after0_4, after0_5, after0_6, after0_7, PhiS_castSucc]
  by_cases hz : t.val = 0
  · rw [show PhiS m c t.val (Nat.le_of_lt t.isLt) = Pipeline.ΦA spec0 c from by
      obtain ⟨n, hn⟩ := t; subst hz; rfl, PhiA0_eq]
    iintro ⟨⟨⟨⟨%e0, S0⟩, ⟨%e1, S1⟩, ⟨%e2, S2⟩, ⟨%e3, S3⟩, ⟨%e4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (wp_body c (grid0.coords t) _ _ _ _ _ _ _ _ _ _ _ _ _ _ _ _ _ _ _ _ _ _ _ _ _ _ _ _ _ _ _ _ _ ⟨_, e0, e1, e2, e3, e4⟩ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S4]; · iexact S4
    iintro ⟨H0, H1, H2, H3, H4, H5, H6, H7, S0, S1, S2, S3, S4⟩
    rw [stAt_reset m c t (by omega) ⟨(dats m 0 c).before 7 t d7, e0, e1, e2, e3, e4⟩]
    isplitl [S0 S1 S2 S3 S4 Hg]
    · isplitr [Hg]; rotate_left
      · iexact Hg
      isplitl [S0]; · iexact S0
      isplitl [S1]; · iexact S1
      isplitl [S2]; · iexact S2
      isplitl [S3]; · iexact S3
      iexact S4
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_pos m c _ _ hz]
    iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    by_cases h16 : t.val % 16 = 0
    · iapply (wp_body c (grid0.coords t) _ _ _ _ _ _ _ _ _ _ _ _ _ _ _ _ _ _ _ _ _ _ _ _ _ _ _ _ _ _ _ _ _ { (stAt m c (t.val - 1) (Nat.lt_of_le_of_lt (Nat.sub_le _ _) t.isLt)) with o := (dats m 0 c).before 7 t d7 } Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [S0]; · iexact S0
      isplitl [S1]; · iexact S1
      isplitl [S2]; · iexact S2
      isplitl [S3]; · iexact S3
      isplitl [S4]; · iexact S4
      iintro ⟨H0, H1, H2, H3, H4, H5, H6, H7, S0, S1, S2, S3, S4⟩
      rw [stAt_reset m c t h16 { (stAt m c (t.val - 1) (Nat.lt_of_le_of_lt (Nat.sub_le _ _) t.isLt)) with o := (dats m 0 c).before 7 t d7 }]
      isplitl [S0 S1 S2 S3 S4 Hg]
      · isplitr [Hg]; rotate_left
        · iexact Hg
        isplitl [S0]; · iexact S0
        isplitl [S1]; · iexact S1
        isplitl [S2]; · iexact S2
        isplitl [S3]; · iexact S3
        iexact S4
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [before0_7 m c t h16 d7]
      iapply (wp_body c (grid0.coords t) _ _ _ _ _ _ _ _ _ _ _ _ _ _ _ _ _ _ _ _ _ _ _ _ _ _ _ _ _ _ _ _ _ (stAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [S0]; · iexact S0
      isplitl [S1]; · iexact S1
      isplitl [S2]; · iexact S2
      isplitl [S3]; · iexact S3
      isplitl [S4]; · iexact S4
      iintro ⟨H0, H1, H2, H3, H4, H5, H6, H7, S0, S1, S2, S3, S4⟩
      rw [stAt_pos m c t hz]
      isplitl [S0 S1 S2 S3 S4 Hg]
      · isplitr [Hg]; rotate_left
        · iexact Hg
        isplitl [S0]; · iexact S0
        isplitl [S1]; · iexact S1
        isplitl [S2]; · iexact S2
        isplitl [S3]; · iexact S3
        iexact S4
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := .rfl

/-- After the last point the invariant gives it back, the contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), PhiA0_eq]
  iintro ⟨⟨S0, S1, S2, S3, S4⟩, Hg⟩
  isplitr [Hg]; rotate_left
  · iexact Hg
  isplitl [S0]; · iexists _; iexact S0
  isplitl [S1]; · iexists _; iexact S1
  isplitl [S2]; · iexists _; iexact S2
  isplitl [S3]; · iexists _; iexact S3
  iexists _; iexact S4

/-! ## The run and the frame -/

-- the launch theorem's implicit arguments are found by unifying its conclusion with this one
set_option backward.isDefEq.respectTransparency.types false in
/-- The run: every array of the pipeline ends at what the proof data say, and no counter is left raised. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame over any float values: the argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.MoeIdeal.Run

end
-- ==== Proof.Words.lean ====
module
public import proofs.«01_k».proof.Proof.Gen.KernelIdeal.Value

/-! The block of the attention kernel in words: each stage of one grid point's work as a function of the blocks it
reads, at any width `n` of keys, in the kernel's own operations. Nothing is proved about values here. -/

@[expose] public section

noncomputable section

namespace Cert.Nsa

open Idealize.ShloMosaic Idealize.SL.Sem

/-- A matrix shape. -/
abbrev Mat (a b : ℕ) : Shape := ⟨2, ![a, b]⟩
/-- A vector shape. -/
abbrev Vect (a : ℕ) : Shape := ⟨1, ![a]⟩
/-- A matrix of extended reals. -/
abbrev RMat (a b : ℕ) : Type := FVec Ideal (Mat a b) .f32
/-- The same at the narrow format, whose ideal reading is the same extended reals. -/
abbrev HMat (a b : ℕ) : Type := FVec Ideal (Mat a b) .bf16
/-- A matrix of truth values. -/
abbrev BMat (a b : ℕ) : Type := IVec (Mat a b) 1
/-- A matrix of words. -/
abbrev WMat (a b : ℕ) : Type := IVec (Mat a b) 32

/-! ## Shape facts, at any width -/

theorem red (n : ℕ) : (Mat 128 n).Reduces [1] (Vect 128) :=
  ⟨rfl, by decide, fun b => by match b with | ⟨0, _⟩ => rfl⟩

theorem bcol (m n : ℕ) : (Mat m 1).Broadcasts (Mat m n) :=
  ⟨le_refl _, fun a => by match a with | ⟨0, _⟩ => exact Or.inr fun _ => rfl | ⟨1, _⟩ => exact Or.inl rfl⟩

theorem brow (m n : ℕ) : (Mat 1 n).Broadcasts (Mat m n) :=
  ⟨le_refl _, fun a => by match a with | ⟨0, _⟩ => exact Or.inl rfl | ⟨1, _⟩ => exact Or.inr fun _ => rfl⟩

theorem slices {M N m n : ℕ} (a b : ℕ) (h0 : a + m ≤ M) (h1 : b + n ≤ N) : (Mat M N).Slices ![a, b] (Mat m n) :=
  ⟨rfl, fun c => by match c with | ⟨0, _⟩ => exact h0 | ⟨1, _⟩ => exact h1⟩

theorem inb {M N m n : ℕ} (a b : ℕ) (h0 : a + m ≤ M) (h1 : b + n ≤ N) :
    ∀ c, (![a, b] : Fin 2 → ℕ) c + (![m, n] : Fin 2 → ℕ) c ≤ (Mat M N).size c :=
  fun c => by match c with | ⟨0, _⟩ => exact h0 | ⟨1, _⟩ => exact h1

theorem stack4 (m n : ℕ) : Shape.Concatenates [Mat m n, Mat m n, Mat m n, Mat m n] (Mat (m + (m + (m + m))) n) 0 :=
  ⟨by show 2 ≤ 4; omega, fun s hs => by
    have : s = Mat m n := by simpa using hs
    subst this
    exact ⟨rfl, fun b hb => by match b with | ⟨0, _⟩ => exact absurd rfl hb | ⟨1, _⟩ => rfl⟩, rfl⟩

theorem rowsPad : Shape.Concatenates [Mat 32 128, Mat 96 128] (Mat 128 128) 0 := by decide

theorem beside5 : Shape.Concatenates [Mat 128 128, Mat 128 128, Mat 128 128, Mat 128 128, Mat 128 128] (Mat 128 640) 1 := by decide

theorem stack5 : Shape.Concatenates [Mat 128 128, Mat 128 128, Mat 128 128, Mat 128 128, Mat 128 128] (Mat 640 128) 0 := by decide

theorem iota2 (m n : ℕ) (a : Fin 2) : (Mat m n).Iotas .tc 32 [a] :=
  ⟨List.nodup_singleton _, fun _ => ⟨Or.inr rfl, le_refl _⟩, fun h => absurd rfl h⟩

theorem bits : FTy.bits .bf16 < FTy.bits .f32 := by decide

theorem casts (m : ℕ) : (Vect m).ShapeCasts (Mat m 1) := by
  simp [Shape.ShapeCasts, Shape.numel, Fin.prod_univ_two]

/-! ## Masked softmax over the rows of a score matrix, four heads stacked -/

/-- The scores of head `r` with the masked ones at the named mask value. -/
def shut {n : ℕ} (s : RMat 512 n) (mask : BMat 128 n) (r : Fin 4) : RMat 128 n :=
  select mask (extractStridedSlice (Mat 128 n) ![128 * r.val, 0] s (slices _ _ (by omega) (by omega)))
    (broadcast (Mat 128 n) (Named.named (F := Ideal) Cert.KernelIdeal.κ "mask" 0xF149F2CA#32))

/-- The exponentials of head `r`, zero where masked. -/
def weights {n : ℕ} (s : RMat 512 n) (mask : BMat 128 n) (r : Fin 4) : RMat 128 n :=
  select mask
    (exp (subf (shut s mask r) (broadcastTo (Mat 128 n) (shapeCast (Mat 128 1)
      (multiReduction .maximumf [1] (Vect 128) (shut s mask r) 0xFF800000#32 (red n) (.inl rfl) rfl) (casts 128)) (bcol 128 n))))
    (broadcast (Mat 128 n) (Scalar.ofBits (F := Ideal) .f32 0x00000000#32))

/-- Their row sums. -/
def sums {n : ℕ} (s : RMat 512 n) (mask : BMat 128 n) (r : Fin 4) : RMat 128 1 :=
  shapeCast (Mat 128 1) (multiReduction .add [1] (Vect 128) (weights s mask r) 0x00000000#32 (red n) (.inl rfl) rfl) (casts 128)

/-- The quotient `p / max(l, 10⁻³⁰)`. -/
def quot {n : ℕ} (s : RMat 512 n) (mask : BMat 128 n) (r : Fin 4) : RMat 128 n :=
  divf (weights s mask r) (broadcastTo (Mat 128 n)
    (maximumf (sums s mask r) (broadcast (Mat 128 1) (Scalar.ofBits (F := Ideal) .f32 0x0DA24260#32))) (bcol 128 n))

/-- Scaled scores of four stacked heads against `n` keys. -/
def scores {n : ℕ} (qg : HMat 512 128) (k : HMat n 128) : RMat 512 n :=
  mulf (matmul (DotDims.transposedRhs 512 128 n) none qg k (constant (F := Ideal) (Mat 512 n) .f32 0x00000000#32))
    (broadcast (Mat 512 n) (Scalar.ofBits (F := Ideal) .f32 0x3DB504F3#32))

/-- Attention of four stacked heads over `n` keys: weighted values over the row sums. -/
def attend {n : ℕ} (qg : HMat 512 128) (k v : HMat n 128) (mask : BMat 128 n) : RMat 512 128 :=
  divf
    (matmul (DotDims.plain 512 n 128) none
      (concatenate (Mat 512 n) 0 [⟨Mat 128 n, truncf .bf16 (weights (scores qg k) mask 0) bits⟩,
        ⟨Mat 128 n, truncf .bf16 (weights (scores qg k) mask 1) bits⟩,
        ⟨Mat 128 n, truncf .bf16 (weights (scores qg k) mask 2) bits⟩,
        ⟨Mat 128 n, truncf .bf16 (weights (scores qg k) mask 3) bits⟩] (stack4 128 n) : HMat 512 n)
      v (constant (F := Ideal) (Mat 512 128) .f32 0x00000000#32))
    (broadcastTo (Mat 512 128)
      (maximumf
        (concatenate (Mat 512 1) 0 [⟨Mat 128 1, sums (scores qg k) mask 0⟩, ⟨Mat 128 1, sums (scores qg k) mask 1⟩,
          ⟨Mat 128 1, sums (scores qg k) mask 2⟩, ⟨Mat 128 1, sums (scores qg k) mask 3⟩] (stack4 128 1) : RMat 512 1)
        (broadcast (Mat 512 1) (Scalar.ofBits (F := Ideal) .f32 0x0DA24260#32))) (bcol 512 128))

/-! ## Positions and masks -/

/-- The query positions of block `k`, as a column. -/
def qcol (k : Fin 16) : WMat 128 1 :=
  addi (broadcast (Mat 128 1) (Scalar.muli (BitVec.ofNat 32 k.val) 128#32)) (iota .tc (Mat 128 1) 32 [0] (iota2 _ _ _))

/-- The query positions of block `k`, as a row. -/
def qrow (k : Fin 16) : WMat 1 128 :=
  addi (broadcast (Mat 1 128) (Scalar.muli (BitVec.ofNat 32 k.val) 128#32)) (iota .tc (Mat 1 128) 32 [1] (iota2 _ _ _))

/-- A compressed key may be read once its last position is past. -/
def cmask (k : Fin 16) : BMat 128 128 :=
  cmpi .sle
    (broadcastTo (Mat 128 128)
      (addi (muli (iota .tc (Mat 1 128) 32 [1] (iota2 _ _ _)) (broadcast (Mat 1 128) 16#32)) (broadcast (Mat 1 128) 31#32)) (brow 128 128))
    (broadcastTo (Mat 128 128) (qcol k) (bcol 128 128))

/-- Which compressed keys overlap which selection block, as zeros and ones. -/
def cover : HMat 128 128 :=
  truncf .bf16
    (select
      (andi (andi (andi
        (cmpi .slt (muli (iota .tc (Mat 128 128) 32 [1] (iota2 _ _ _)) (broadcast (Mat 128 128) 16#32))
          (addi (muli (iota .tc (Mat 128 128) 32 [0] (iota2 _ _ _)) (broadcast (Mat 128 128) 64#32)) (broadcast (Mat 128 128) 64#32)))
        (cmpi .sgt (addi (muli (iota .tc (Mat 128 128) 32 [1] (iota2 _ _ _)) (broadcast (Mat 128 128) 16#32)) (broadcast (Mat 128 128) 32#32))
          (muli (iota .tc (Mat 128 128) 32 [0] (iota2 _ _ _)) (broadcast (Mat 128 128) 64#32))))
        (cmpi .slt (iota .tc (Mat 128 128) 32 [1] (iota2 _ _ _)) (broadcast (Mat 128 128) 127#32)))
        (cmpi .slt (iota .tc (Mat 128 128) 32 [0] (iota2 _ _ _)) (broadcast (Mat 128 128) 32#32)))
      (broadcast (Mat 128 128) (Scalar.ofBits (F := Ideal) .f32 0x3F800000#32))
      (broadcast (Mat 128 128) (Scalar.ofBits (F := Ideal) .f32 0x00000000#32))) bits

/-- Which selection block a token lies in, as zeros and ones. -/
def expand (n : ℕ) : HMat 128 n :=
  truncf .bf16
    (select (cmpi .eq (shrsi (iota .tc (Mat 128 n) 32 [1] (iota2 _ _ _)) (broadcast (Mat 128 n) 6#32)) (iota .tc (Mat 128 n) 32 [0] (iota2 _ _ _)))
      (broadcast (Mat 128 n) (Scalar.ofBits (F := Ideal) .f32 0x3F800000#32))
      (broadcast (Mat 128 n) (Scalar.ofBits (F := Ideal) .f32 0x00000000#32))) bits

/-- The gates: the logistic function of the gate scores. -/
def gates (x : RMat 128 128) : RMat 128 128 :=
  divf (broadcast (Mat 128 128) (Scalar.ofBits (F := Ideal) .f32 0x3F800000#32))
    (addf (broadcast (Mat 128 128) (Scalar.ofBits (F := Ideal) .f32 0x3F800000#32))
      (exp (subf (broadcast (Mat 128 128) (Scalar.ofBits (F := Ideal) .f32 0x00000000#32)) x)))

/-! ## The selection of blocks -/

/-- What the first part of a split leaves. -/
def rest (x : RMat 128 128) : RMat 128 128 := subf x (extf .f32 (truncf .bf16 x bits : HMat 128 128) bits)

/-- A matrix of zeros and ones against the rows of `x`, taken whole. -/
def against (c : HMat 128 128) (x : RMat 128 128) : RMat 128 128 :=
  matmul (DotDims.transposedRhs 128 128 128) none c (truncf .bf16 x bits : HMat 128 128)
    (constant (F := Ideal) (Mat 128 128) .f32 0x00000000#32)

/-- The blocks' importance: the summed probabilities gathered by overlap. -/
def importance (x : RMat 128 128) : RMat 32 128 :=
  extractStridedSlice (Mat 32 128) ![0, 0]
    (addf (addf (against cover x) (against cover (rest x))) (against cover (rest (rest x)))) (slices _ _ (by omega) (by omega))

/-- The block a query lies in. -/
def cur (k : Fin 16) : WMat 1 128 := shrsi (qrow k) (broadcast (Mat 1 128) 6#32)

/-- The block's number. -/
def blk : WMat 32 128 := iota .tc (Mat 32 128) 32 [0] (iota2 _ _ _)

/-- Blocks not past the query's own. -/
def past (k : Fin 16) : BMat 32 128 := cmpi .sle blk (broadcastTo (Mat 32 128) (cur k) (brow 32 128))

/-- The first block, the query's own and the one before it are always taken. -/
def forced (k : Fin 16) : BMat 32 128 :=
  ori (cmpi .eq blk (broadcast (Mat 32 128) 0#32))
    (andi (cmpi .sle blk (broadcastTo (Mat 32 128) (cur k) (brow 32 128)))
      (cmpi .sgt blk (broadcastTo (Mat 32 128) (subi (cur k) (broadcast (Mat 1 128) 2#32)) (brow 32 128))))

/-- The score a block is ranked by. -/
def rankScore (k : Fin 16) (x : RMat 128 128) : RMat 32 128 :=
  select (past k)
    (addf (importance x)
      (mulf (broadcast (Mat 32 128) (Scalar.ofBits (F := Ideal) .f32 0x461C4000#32))
        (select (forced k) (broadcast (Mat 32 128) (Scalar.ofBits (F := Ideal) .f32 0x3F800000#32))
          (broadcast (Mat 32 128) (Scalar.ofBits (F := Ideal) .f32 0x00000000#32)))))
    (broadcast (Mat 32 128) (Named.named (F := Ideal) Cert.KernelIdeal.κ "mask" 0xF149F2CA#32))

/-- One block's contribution to the ranks: one where block `i` goes before. -/
def rankStep (s : RMat 32 128) (i : ℕ) (h : i < 32) : RMat 32 128 :=
  select
    (ori (cmpf .ogt (broadcastTo (Mat 32 128) (extractStridedSlice (Mat 1 128) ![i, 0] s (slices _ _ (by omega) (by omega))) (brow 32 128)) s)
      (andi (cmpf .oeq (broadcastTo (Mat 32 128) (extractStridedSlice (Mat 1 128) ![i, 0] s (slices _ _ (by omega) (by omega))) (brow 32 128)) s)
        (cmpi .sgt blk (broadcast (Mat 32 128) (BitVec.ofNat 32 i)))))
    (broadcast (Mat 32 128) (Scalar.ofBits (F := Ideal) .f32 0x3F800000#32))
    (broadcast (Mat 32 128) (Scalar.ofBits (F := Ideal) .f32 0x00000000#32))

/-- How many of the first `m` blocks go before each block. -/
def rankTo (s : RMat 32 128) (m : ℕ) : m ≤ 32 → RMat 32 128 :=
  Nat.rec (motive := fun m => m ≤ 32 → RMat 32 128)
    (fun _ => broadcast (Mat 32 128) (Scalar.ofBits (F := Ideal) .f32 0x00000000#32))
    (fun i ih h => addf (ih (Nat.le_of_succ_le h)) (rankStep s i h)) m

/-- The chosen blocks, as zeros and ones, a row per query. -/
def chosen (s : RMat 32 128) : HMat 128 128 :=
  truncf .bf16
    (transpose (Mat 128 128) [1, 0]
      (concatenate (Mat 128 128) 0
        [⟨Mat 32 128, select (cmpf .olt (rankTo s 32 (le_refl _)) (broadcast (Mat 32 128) (Scalar.ofBits (F := Ideal) .f32 0x41800000#32)))
            (broadcast (Mat 32 128) (Scalar.ofBits (F := Ideal) .f32 0x3F800000#32))
            (broadcast (Mat 32 128) (Scalar.ofBits (F := Ideal) .f32 0x00000000#32))⟩,
          ⟨Mat 96 128, broadcast (Mat 96 128) (Scalar.ofBits (F := Ideal) .f32 0x00000000#32)⟩] rowsPad : RMat 128 128)
      (by decide)) bits

/-- The tokens the chosen blocks let a query read, among the first `n`. -/
def tokens (n : ℕ) (k : Fin 16) (c : HMat 128 128) : BMat 128 n :=
  andi
    (cmpf .ogt (matmul (DotDims.plain 128 128 n) none c (expand n) (constant (F := Ideal) (Mat 128 n) .f32 0x00000000#32))
      (broadcast (Mat 128 n) (Scalar.ofBits (F := Ideal) .f32 0x3F000000#32)))
    (cmpi .sle (broadcastTo (Mat 128 n) (iota .tc (Mat 1 n) 32 [1] (iota2 _ _ _)) (brow 128 n))
      (broadcastTo (Mat 128 n) (qcol k) (bcol 128 n)))

/-! ## The sliding window -/

/-- The window's `w`-th block of keys, before clamping at the array's start. -/
def wblock (k : Fin 16) (w : ℕ) : BitVec 32 := Scalar.addi (Scalar.subi (BitVec.ofNat 32 k.val) 4#32) (BitVec.ofNat 32 w)

/-- Where it is read. -/
def wstart (k : Fin 16) (w : ℕ) : ℕ :=
  (Scalar.indexCast (Scalar.muli (Scalar.maxsi (wblock k w) 0#32) 128#32)).toNat

theorem wstart_le : ∀ (k : Fin 16) (w : Fin 5), wstart k w.val + 128 ≤ 2048 := by decide +kernel

/-- Its positions. -/
def wpos (k : Fin 16) (w : ℕ) : WMat 1 128 :=
  addi (broadcast (Mat 1 128) (Scalar.muli (wblock k w) 128#32)) (iota .tc (Mat 1 128) 32 [1] (iota2 _ _ _))

/-- Which of its keys a query may read, as zeros and ones. -/
def wpart (k : Fin 16) (w : ℕ) : RMat 128 128 :=
  select
    (andi (andi (cmpi .sle (broadcastTo (Mat 128 128) (wpos k w) (brow 128 128)) (broadcastTo (Mat 128 128) (qcol k) (bcol 128 128)))
        (cmpi .sgt (broadcastTo (Mat 128 128) (wpos k w) (brow 128 128))
          (broadcastTo (Mat 128 128) (subi (qcol k) (broadcast (Mat 128 1) 512#32)) (bcol 128 128))))
      (broadcastTo (Mat 128 128) (cmpi .sge (wpos k w) (broadcast (Mat 1 128) 0#32)) (brow 128 128)))
    (broadcast (Mat 128 128) (Scalar.ofBits (F := Ideal) .f32 0x3F800000#32))
    (broadcast (Mat 128 128) (Scalar.ofBits (F := Ideal) .f32 0x00000000#32))

/-- The window's mask over its five blocks. -/
def wmask (k : Fin 16) : BMat 128 640 :=
  cmpf .ogt
    (concatenate (Mat 128 640) 1 [⟨Mat 128 128, wpart k 0⟩, ⟨Mat 128 128, wpart k 1⟩, ⟨Mat 128 128, wpart k 2⟩,
      ⟨Mat 128 128, wpart k 3⟩, ⟨Mat 128 128, wpart k 4⟩] beside5 : RMat 128 640)
    (broadcast (Mat 128 640) (Scalar.ofBits (F := Ideal) .f32 0x3F000000#32))

/-- The `w`-th block of the window's keys (or values), from column `c` on. -/
def wload (k : Fin 16) (x : RMat 2048 512) (c : Fin 4) (w : Fin 5) : HMat 128 128 :=
  truncf .bf16 (View.ld (Val := Elt Ideal) (e' := .f32) x (Rect.unit (s := Mat 2048 512) ![wstart k w.val, 128 * c.val] ![128, 128]
    (inb _ _ (wstart_le k w) (by omega))) : RMat 128 128) bits

/-- Its five blocks. -/
def wstack (k : Fin 16) (x : RMat 2048 512) (c : Fin 4) : HMat 640 128 :=
  concatenate (Mat 640 128) 0 [⟨Mat 128 128, wload k x c 0⟩, ⟨Mat 128 128, wload k x c 1⟩, ⟨Mat 128 128, wload k x c 2⟩,
    ⟨Mat 128 128, wload k x c 3⟩, ⟨Mat 128 128, wload k x c 4⟩] stack5

/-! ## One grid point -/

/-- A block of columns. -/
def cols {M N : ℕ} (m : ℕ) (x : RMat M N) (c : ℕ) (hm : 0 + m ≤ M) (h : 128 * c + 128 ≤ N) : RMat m 128 :=
  View.ld (Val := Elt Ideal) (e' := .f32) x (Rect.unit (s := Mat M N) ![0, 128 * c] ![m, 128] (inb _ _ hm h))

/-- Column `128 c` on of the group's keys and values. -/
def kcol (g : Fin 2) : Fin 4 := ⟨2 * g.val, by omega⟩
/-- The values' column. -/
def vcol (g : Fin 2) : Fin 4 := ⟨2 * g.val + 1, by omega⟩

/-- The group's four query heads, stacked. -/
def heads (x0 : RMat 128 1024) (g : Fin 2) : HMat 512 128 :=
  truncf .bf16
    (concatenate (Mat 512 128) 0 [⟨Mat 128 128, cols 128 x0 (4 * g.val + 0) (by omega) (by omega)⟩,
      ⟨Mat 128 128, cols 128 x0 (4 * g.val + 1) (by omega) (by omega)⟩,
      ⟨Mat 128 128, cols 128 x0 (4 * g.val + 2) (by omega) (by omega)⟩,
      ⟨Mat 128 128, cols 128 x0 (4 * g.val + 3) (by omega) (by omega)⟩] (stack4 128 128) : RMat 512 128) bits

/-- Scores against the compressed keys. -/
def cscores (x0 : RMat 128 1024) (x2 : RMat 128 512) (g : Fin 2) : RMat 512 128 :=
  scores (heads x0 g) (truncf .bf16 (cols 128 x2 (kcol g).val (by omega) (by omega)) bits)

/-- The compressed branch. -/
def oc (k : Fin 16) (x0 : RMat 128 1024) (x2 : RMat 128 512) (g : Fin 2) : RMat 512 128 :=
  matmul (DotDims.plain 512 128 128) none
    (truncf .bf16
      (concatenate (Mat 512 128) 0 [⟨Mat 128 128, quot (cscores x0 x2 g) (cmask k) 0⟩, ⟨Mat 128 128, quot (cscores x0 x2 g) (cmask k) 1⟩,
        ⟨Mat 128 128, quot (cscores x0 x2 g) (cmask k) 2⟩, ⟨Mat 128 128, quot (cscores x0 x2 g) (cmask k) 3⟩] (stack4 128 128) : RMat 512 128) bits
      : HMat 512 128)
    (truncf .bf16 (cols 128 x2 (vcol g).val (by omega) (by omega)) bits : HMat 128 128)
    (constant (F := Ideal) (Mat 512 128) .f32 0x00000000#32)

/-- The probabilities of the four heads, added. -/
def psum (k : Fin 16) (x0 : RMat 128 1024) (x2 : RMat 128 512) (g : Fin 2) : RMat 128 128 :=
  addf (addf (addf (quot (cscores x0 x2 g) (cmask k) 0) (quot (cscores x0 x2 g) (cmask k) 1)) (quot (cscores x0 x2 g) (cmask k) 2))
    (quot (cscores x0 x2 g) (cmask k) 3)

/-- The selected branch, over the first `n` tokens. -/
def os (n : ℕ) (hn : n ≤ 2048) (k : Fin 16) (x0 : RMat 128 1024) (x2 : RMat 128 512) (x3 : RMat 2048 512) (g : Fin 2) : RMat 512 128 :=
  attend (heads x0 g) (truncf .bf16 (cols n x3 (kcol g).val (by omega) (by omega)) bits)
    (truncf .bf16 (cols n x3 (vcol g).val (by omega) (by omega)) bits) (tokens n k (chosen (rankScore k (psum k x0 x2 g))))

/-- The window's branch. -/
def ow (k : Fin 16) (x0 : RMat 128 1024) (x4 : RMat 2048 512) (g : Fin 2) : RMat 512 128 :=
  attend (heads x0 g) (wstack k x4 (kcol g)) (wstack k x4 (vcol g)) (wmask k)

/-- A branch's head `r`, times its gate. -/
def gated (x1 : RMat 128 128) (c : ℕ) (h : c + 1 ≤ 128) (o : RMat 512 128) (r : Fin 4) : RMat 128 128 :=
  mulf (broadcastTo (Mat 128 128) (extractStridedSlice (Mat 128 1) ![0, c] (gates (cols 128 x1 0 (by omega) (by omega))) (slices _ _ (by omega) h)) (bcol 128 128))
    (extractStridedSlice (Mat 128 128) ![128 * r.val, 0] o (slices _ _ (by omega) (by omega)))

/-- What the grid point stores for head `r` of group `g`. -/
def headOut (n : ℕ) (hn : n ≤ 2048) (k : Fin 16) (x0 : RMat 128 1024) (x1 : RMat 128 128) (x2 : RMat 128 512)
    (x3 x4 : RMat 2048 512) (g : Fin 2) (r : Fin 4) : RMat 128 128 :=
  addf (addf (gated x1 (3 * (4 * g.val + r.val)) (by omega) (oc k x0 x2 g) r)
      (gated x1 (3 * (4 * g.val + r.val) + 1) (by omega) (os n hn k x0 x2 x3 g) r))
    (gated x1 (3 * (4 * g.val + r.val) + 2) (by omega) (ow k x0 x4 g) r)

end Cert.Nsa

end
-- ==== Proof.Spec.lean ====
module
public import Idealize.ShloMosaic.Lib.Pointwise
public import Idealize.ShloMosaic.Lib.IdealHost

/-! Masked attention of one query over the extended reals: the weights of the keys a mask lets through, their
normalised shares, and the shares' sum of the values. The shares are always real, the whole depends only on the keys let
through, and dividing before or after summing is the same. -/

@[expose] public section

noncomputable section

namespace Cert.Nsa

open Idealize.ShloMosaic

/-- The least divisor of a softmax, `10⁻³⁰` as a 32-bit float. -/
def tiny : EReal := Ideal.ofBits .f32 0x0DA24260#32

theorem tiny_pos : 0 < tiny := by
  unfold tiny; simp [Ideal.ofBits, Ideal.ieee, -EReal.coe_mul]

theorem tiny_ne_top : tiny ≠ ⊤ := by
  unfold tiny; simp [Ideal.ofBits, Ideal.ieee, -EReal.coe_mul]

variable {ι κ : Type*} [Fintype ι] [Fintype κ]

/-- The largest score let through. -/
def peak (m : ι → Prop) [DecidablePred m] (s : ι → EReal) : EReal := Finset.univ.sup fun j => if m j then s j else ⊥

/-- The weight of a key. -/
def wt (m : ι → Prop) [DecidablePred m] (s : ι → EReal) (j : ι) : EReal := if m j then Ideal.exp (s j - peak m s) else 0

/-- The divisor. -/
def den (m : ι → Prop) [DecidablePred m] (s : ι → EReal) : EReal := max (∑ j, wt m s j) tiny

/-- The share of a key. -/
def share (m : ι → Prop) [DecidablePred m] (s : ι → EReal) (j : ι) : EReal := Ideal.div (wt m s j) (den m s)

/-- Attention: the shares' sum of the values. -/
def att (m : ι → Prop) [DecidablePred m] (s v : ι → EReal) : EReal := ∑ j, share m s j * v j

theorem exp_nonneg (x : EReal) : 0 ≤ Ideal.exp x := by
  induction x with
  | bot => exact le_refl _
  | top => exact le_top
  | coe r => exact EReal.coe_nonneg.2 (Real.exp_pos r).le

theorem exp_le_one {x : EReal} (h : x ≤ 0) : Ideal.exp x ≤ 1 := by
  induction x with
  | bot => exact zero_le_one
  | top => exact absurd h (by simp)
  | coe r =>
    have hr : r ≤ 0 := EReal.coe_nonpos.1 h
    exact EReal.coe_le_coe_iff.2 (Real.exp_le_one_iff.2 hr)

theorem le_peak (m : ι → Prop) [DecidablePred m] (s : ι → EReal) {j : ι} (h : m j) : s j ≤ peak m s := by
  have := Finset.le_sup (f := fun j => if m j then s j else ⊥) (Finset.mem_univ j)
  rw [if_pos h] at this
  exact this

theorem wt_nonneg (m : ι → Prop) [DecidablePred m] (s : ι → EReal) (j : ι) : 0 ≤ wt m s j := by
  unfold wt; split
  · exact exp_nonneg _
  · exact le_refl _

theorem wt_le_one (m : ι → Prop) [DecidablePred m] (s : ι → EReal) (j : ι) : wt m s j ≤ 1 := by
  unfold wt; split
  · next h => exact exp_le_one (EReal.sub_nonpos.2 (le_peak m s h))
  · exact zero_le_one

theorem one_ne_top : (1 : EReal) ≠ ⊤ := EReal.coe_ne_top 1

/-- A finite sum of numbers at most one is not infinite. -/
theorem sum_ne_top {f : ι → EReal} (h1 : ∀ j, f j ≤ 1) : ∑ j, f j ≠ ⊤ := by
  classical
  have : ∀ S : Finset ι, ∑ j ∈ S, f j ≠ ⊤ := by
    intro S
    induction S using Finset.induction_on with
    | empty => simp
    | insert a S ha ih =>
      rw [Finset.sum_insert ha]
      exact (EReal.add_lt_top (ne_top_of_le_ne_top one_ne_top (h1 a)) ih).ne
  exact this _

theorem den_pos (m : ι → Prop) [DecidablePred m] (s : ι → EReal) : 0 < den m s := lt_max_of_lt_right tiny_pos

theorem den_ne_top (m : ι → Prop) [DecidablePred m] (s : ι → EReal) : den m s ≠ ⊤ := by
  unfold den
  rcases max_choice (∑ j, wt m s j) tiny with h | h <;> rw [h]
  · exact sum_ne_top (wt_le_one m s)
  · exact tiny_ne_top

theorem div_eq {x y : EReal} (h : 0 < y) : Ideal.div x y = x * y⁻¹ := by
  unfold Ideal.div; rw [if_neg h.ne']

theorem share_eq (m : ι → Prop) [DecidablePred m] (s : ι → EReal) (j : ι) : share m s j = wt m s j * (den m s)⁻¹ := div_eq (den_pos m s)

theorem share_nonneg (m : ι → Prop) [DecidablePred m] (s : ι → EReal) (j : ι) : 0 ≤ share m s j := by
  rw [share_eq]
  exact mul_nonneg (wt_nonneg m s j) (EReal.inv_nonneg_of_nonneg (den_pos m s).le)

/-- A share is never infinite. -/
theorem share_ne_top (m : ι → Prop) [DecidablePred m] (s : ι → EReal) (j : ι) : share m s j ≠ ⊤ := by
  rw [share_eq]
  have hw : wt m s j ≠ ⊤ := ne_top_of_le_ne_top one_ne_top (wt_le_one m s j)
  have hi : (den m s)⁻¹ ≠ ⊤ := (EReal.inv_lt_top _).ne
  have hb : (den m s)⁻¹ ≠ ⊥ := (EReal.bot_lt_inv _).ne'
  have hwb : wt m s j ≠ ⊥ := fun h => by have := wt_nonneg m s j; rw [h] at this; simp at this
  lift wt m s j to ℝ using ⟨hw, hwb⟩ with w
  lift (den m s)⁻¹ to ℝ using ⟨hi, hb⟩ with d
  rw [← EReal.coe_mul]
  exact EReal.coe_ne_top _

theorem share_masked (m : ι → Prop) [DecidablePred m] (s : ι → EReal) {j : ι} (h : ¬m j) : share m s j = 0 := by
  rw [share_eq, wt, if_neg h, zero_mul]

/-- A sum of products by one real is the product of the sum. -/
theorem sum_mul_real {c : EReal} (h0 : 0 ≤ c) (ht : c ≠ ⊤) (f : ι → EReal) : (∑ j, f j) * c = ∑ j, f j * c := by
  classical
  have : ∀ S : Finset ι, (∑ j ∈ S, f j) * c = ∑ j ∈ S, f j * c := by
    intro S
    induction S using Finset.induction_on with
    | empty => simp
    | insert a S ha ih => rw [Finset.sum_insert ha, Finset.sum_insert ha, EReal.right_distrib_of_nonneg_of_ne_top h0 ht, ih]
  exact this _

/-- Dividing after the sum is dividing before it. -/
theorem att_eq (m : ι → Prop) [DecidablePred m] (s v : ι → EReal) :
    Ideal.div (∑ j, wt m s j * v j) (den m s) = att m s v := by
  rw [div_eq (den_pos m s), sum_mul_real (EReal.inv_nonneg_of_nonneg (den_pos m s).le) (EReal.inv_lt_top _).ne]
  refine Finset.sum_congr rfl fun j _ => ?_
  rw [share_eq, mul_assoc, mul_comm (v j), ← mul_assoc]

/-! ## Only the keys let through matter -/

/-- A sum over the keys let through, the same keys under other names. -/
theorem sum_transfer (f : κ → ι) (mκ : κ → Prop) (mι : ι → Prop) [DecidablePred mκ] [DecidablePred mι]
    (hm : ∀ k, mκ k → mι (f k)) (hi : ∀ k k', mκ k → mκ k' → f k = f k' → k = k') (hs : ∀ i, mι i → ∃ k, mκ k ∧ f k = i)
    {F : κ → EReal} {G : ι → EReal} (hFG : ∀ k, mκ k → F k = G (f k)) (hF : ∀ k, ¬mκ k → F k = 0) (hG : ∀ i, ¬mι i → G i = 0) :
    ∑ k, F k = ∑ i, G i := by
  classical
  rw [← Finset.sum_filter_add_sum_filter_not Finset.univ mκ F, ← Finset.sum_filter_add_sum_filter_not Finset.univ mι G,
    Finset.sum_eq_zero (s := Finset.univ.filter fun k => ¬mκ k) (fun k hk => hF k (Finset.mem_filter.1 hk).2),
    Finset.sum_eq_zero (s := Finset.univ.filter fun i => ¬mι i) (fun i hk => hG i (Finset.mem_filter.1 hk).2), add_zero, add_zero]
  refine Finset.sum_nbij f (fun k hk => ?_) (fun k hk k' hk' e => ?_) (fun i hi' => ?_) (fun k hk => ?_)
  · exact Finset.mem_filter.2 ⟨Finset.mem_univ _, hm k (Finset.mem_filter.1 hk).2⟩
  · exact hi k k' (Finset.mem_filter.1 hk).2 (Finset.mem_filter.1 hk').2 e
  · obtain ⟨k, hk, e⟩ := hs i (Finset.mem_filter.1 hi').2
    exact ⟨k, Finset.mem_coe.2 (Finset.mem_filter.2 ⟨Finset.mem_univ _, hk⟩), e⟩
  · exact hFG k (Finset.mem_filter.1 hk).2

/-- The largest score let through, the same keys under other names. -/
theorem peak_transfer (f : κ → ι) (mκ : κ → Prop) (mι : ι → Prop) [DecidablePred mκ] [DecidablePred mι]
    (hm : ∀ k, mκ k → mι (f k)) (hs : ∀ i, mι i → ∃ k, mκ k ∧ f k = i)
    {sκ : κ → EReal} {sι : ι → EReal} (h : ∀ k, mκ k → sκ k = sι (f k)) : peak mκ sκ = peak mι sι := by
  apply le_antisymm
  · refine Finset.sup_le fun k _ => ?_
    split
    · next hk => rw [h k hk]; exact le_peak mι sι (hm k hk)
    · exact bot_le
  · refine Finset.sup_le fun i _ => ?_
    split
    · next hi =>
      obtain ⟨k, hk, rfl⟩ := hs i hi
      rw [← h k hk]; exact le_peak mκ sκ hk
    · exact bot_le

/-- Attention over the same keys under other names. -/
theorem att_transfer (f : κ → ι) (mκ : κ → Prop) (mι : ι → Prop) [DecidablePred mκ] [DecidablePred mι]
    (hm : ∀ k, mκ k → mι (f k)) (hi : ∀ k k', mκ k → mκ k' → f k = f k' → k = k') (hs : ∀ i, mι i → ∃ k, mκ k ∧ f k = i)
    {sκ vκ : κ → EReal} {sι vι : ι → EReal} (h : ∀ k, mκ k → sκ k = sι (f k)) (hv : ∀ k, mκ k → vκ k = vι (f k)) :
    (∀ k, mκ k → share mκ sκ k = share mι sι (f k)) ∧ att mκ sκ vκ = att mι sι vι := by
  have hp := peak_transfer f mκ mι hm hs h
  have hw : ∀ k, mκ k → wt mκ sκ k = wt mι sι (f k) := fun k hk => by
    unfold wt; rw [if_pos hk, if_pos (hm k hk), h k hk, hp]
  have hd : den mκ sκ = den mι sι := by
    unfold den
    rw [sum_transfer f mκ mι hm hi hs hw (fun k hk => by rw [wt, if_neg hk]) (fun i hk => by rw [wt, if_neg hk])]
  have hq : ∀ k, mκ k → share mκ sκ k = share mι sι (f k) := fun k hk => by unfold share; rw [hw k hk, hd]
  refine ⟨hq, ?_⟩
  unfold att
  exact sum_transfer f mκ mι hm hi hs (fun k hk => by rw [hq k hk, hv k hk])
    (fun k hk => by rw [share_masked _ _ hk, zero_mul]) (fun i hk => by rw [share_masked _ _ hk, zero_mul])

/-! ## Sparse attention of one token

A token at position `t` of its sequence reads its keys in three ways: the compressed keys whose spans have passed; the
tokens of sixteen blocks chosen by the shares the compressed keys got; and the last 512 tokens. -/

/-- The scale of a score. -/
def scale : EReal := Ideal.ofBits .f32 0x3DB504F3#32

/-- What a block that must be taken has its importance raised by. -/
def bonus : EReal := Ideal.ofBits .f32 0x461C4000#32

/-- Scaled scores of a query against keys. -/
def score (q : Fin 128 → EReal) (k : ι → Fin 128 → EReal) (j : ι) : EReal := (∑ e, q e * k j e) * scale

/-- The compressed key's span has passed. -/
def cseen (t : ℕ) (j : Fin 128) : Prop := 16 * j.val + 31 ≤ t

instance (t : ℕ) : DecidablePred (cseen t) := fun _ => inferInstanceAs (Decidable (_ ≤ _))

/-- The compressed key's span meets the block. -/
def covers (b : Fin 32) (j : Fin 128) : Prop := 16 * j.val < 64 * b.val + 64 ∧ 64 * b.val < 16 * j.val + 32 ∧ j.val < 127

instance (b : Fin 32) : DecidablePred (covers b) := fun _ => inferInstanceAs (Decidable (_ ∧ _))

/-- The first block, the token's own and the one before it are always wanted. -/
def wanted (t : ℕ) (b : Fin 32) : Prop := b.val = 0 ∨ (b.val ≤ t / 64 ∧ t / 64 < b.val + 2)

instance (t : ℕ) : DecidablePred (wanted t) := fun _ => inferInstanceAs (Decidable (_ ∨ _))

/-- The block's importance: the shares of the compressed keys that meet it, over the four heads. -/
def worth (p : Fin 4 → Fin 128 → EReal) (b : Fin 32) : EReal := ∑ j, (if covers b j then 1 else 0) * ∑ r, p r j

/-- What blocks are ranked by. -/
def standing (t : ℕ) (p : Fin 4 → Fin 128 → EReal) (b : Fin 32) : EReal :=
  if b.val ≤ t / 64 then worth p b + bonus * (if wanted t b then 1 else 0) else ⊥

/-- Block `i` is ranked before block `b`: it stands higher, or as high and comes first. -/
def ahead (s : Fin 32 → EReal) (i b : Fin 32) : Prop := s b < s i ∨ (s i = s b ∧ i < b)

instance (s : Fin 32 → EReal) (i b : Fin 32) : Decidable (ahead s i b) := Classical.dec _

/-- The block is one of the sixteen ranked first. -/
def picked (s : Fin 32 → EReal) (b : Fin 32) : Prop := (Finset.univ.filter fun i => ahead s i b).card < 16

instance (s : Fin 32 → EReal) : DecidablePred (picked s) := fun _ => inferInstanceAs (Decidable (_ < _))

/-- The block a token lies in. -/
def home (j : Fin 2048) : Fin 32 := ⟨j.val / 64, by omega⟩

/-- The token may be read: its block is picked and it is not past. -/
def sseen (t : ℕ) (s : Fin 32 → EReal) (j : Fin 2048) : Prop := picked s (home j) ∧ j.val ≤ t

instance (t : ℕ) (s : Fin 32 → EReal) : DecidablePred (sseen t s) := fun _ => inferInstanceAs (Decidable (_ ∧ _))

/-- The token is one of the last 512. -/
def wseen (t : ℕ) (j : Fin 2048) : Prop := j.val ≤ t ∧ t < j.val + 512

instance (t : ℕ) : DecidablePred (wseen t) := fun _ => inferInstanceAs (Decidable (_ ∧ _))

/-- A gate: the logistic function. -/
def gate (x : EReal) : EReal := Ideal.div 1 (1 + Ideal.exp (0 - x))

/-- The shares of the compressed keys. -/
def cshare (t : ℕ) (q : Fin 4 → Fin 128 → EReal) (kc : Fin 128 → Fin 128 → EReal) (r : Fin 4) (j : Fin 128) : EReal :=
  share (cseen t) (score (q r) kc) j

/-- Lane `d` of head `r` of a group, for the token at position `t`: `q` are the queries of the group's heads, the
others the group's keys and values, and `gn` the head's gate scores. -/
def nsa (t : ℕ) (q : Fin 4 → Fin 128 → EReal) (kc vc : Fin 128 → Fin 128 → EReal) (ks vs kw vw : Fin 2048 → Fin 128 → EReal)
    (gn : Fin 3 → EReal) (r : Fin 4) (d : Fin 128) : EReal :=
  gate (gn 0) * att (cseen t) (score (q r) kc) (fun j => vc j d)
    + gate (gn 1) * att (sseen t (standing t (cshare t q kc))) (score (q r) ks) (fun j => vs j d)
    + gate (gn 2) * att (wseen t) (score (q r) kw) (fun j => vw j d)

end Cert.Nsa

end
-- ==== Proof.Softmax.lean ====
module
public import proofs.«01_k».proof.Proof.Words
public import proofs.«01_k».proof.Proof.Spec
public import Idealize.ShloMosaic.Lib.MatmulPlain
public import Idealize.ShloMosaic.Lib.Pipeline.Value
public import Idealize.ShloMosaic.Lib.ValueLayoutCasts

/-! The kernel's masked softmax and attention, read entry by entry: the row maximum, the weights, their sums and the
quotients are those of `Spec` at the row's mask and scores, whatever the number of keys. -/

@[expose] public section

noncomputable section

namespace Cert.Nsa

open Idealize.ShloMosaic hiding ix0 ix1 ix2 ix3 ix4 ix5 eq_ix2
open Idealize.ShloMosaic.ValueIdx Idealize.SL.Sem

/-! ## Reading two-dimensional rearrangements -/

section Layout
variable {α : Type}

theorem bcol_apply {m n : ℕ} (x : (Mat m 1).Idx → α) (a : Fin m) (j : Fin n) :
    broadcastTo (Mat m n) x (bcol m n) (ix2 a j) = x (ix2 a 0) :=
  broadcastTo_apply x _ _ _ fun c => by
    match c with
    | ⟨0, _⟩ =>
      show a.val = if m = 1 then 0 else a.val
      split
      · omega
      · rfl
    | ⟨1, _⟩ => rfl

theorem brow_apply {m n : ℕ} (x : (Mat 1 n).Idx → α) (a : Fin m) (j : Fin n) :
    broadcastTo (Mat m n) x (brow m n) (ix2 a j) = x (ix2 0 j) :=
  broadcastTo_apply x _ _ _ fun c => by
    match c with
    | ⟨0, _⟩ => rfl
    | ⟨1, _⟩ =>
      show j.val = if n = 1 then 0 else j.val
      split
      · omega
      · rfl

theorem slice_apply {M N m n : ℕ} (p q : ℕ) (x : (Mat M N).Idx → α) (h0 : p + m ≤ M) (h1 : q + n ≤ N) (a : Fin m) (j : Fin n) :
    extractStridedSlice (Mat m n) ![p, q] x (slices p q h0 h1) (ix2 a j) = x (ix2 ⟨p + a.val, by omega⟩ ⟨q + j.val, by omega⟩) :=
  extractStridedSlice_apply _ _ _ _ _ fun c => by
    match c with
    | ⟨0, _⟩ => rfl
    | ⟨1, _⟩ => rfl

theorem column_apply {m : ℕ} (x : (Vect m).Idx → α) (a : Fin m) (b : Fin 1) :
    shapeCast (Mat m 1) x (casts m) (ix2 a b) = x (ix1 a) :=
  shapeCast_apply _ _ _ _ (by
    rw [Shape.rowMajor_val_one, Shape.rowMajor_val_two]
    have := b.isLt
    show a.val = a.val * 1 + b.val
    omega)

/-- Four matrices stacked: row `128 r + a` is row `a` of the `r`-th. -/
theorem stack4_apply {n : ℕ} (x : Fin 4 → (Mat 128 n).Idx → α) (r : Fin 4) (a : Fin 128) (j : Fin n) :
    concatenate (Mat 512 n) 0 [⟨Mat 128 n, x 0⟩, ⟨Mat 128 n, x 1⟩, ⟨Mat 128 n, x 2⟩, ⟨Mat 128 n, x 3⟩] (stack4 128 n)
      (ix2 ⟨128 * r.val + a.val, by omega⟩ j) = x r (ix2 a j) := by
  refine concatenate_apply_piece (t := Mat 512 n) 0 _ _ _ r.val (by simp) (Mat 128 n) (x r) ?_ rfl (128 * r.val) ?_ _ ?_ ?_
  · fin_cases r <;> rfl
  · fin_cases r <;> rfl
  · intro b hb
    match b with
    | ⟨0, _⟩ => exact absurd rfl hb
    | ⟨1, _⟩ => rfl
  · rfl

theorem red_lift {n : ℕ} (a : Fin 128) (j : Fin n) : (red n).lift (ix1 a) j = ix2 a j := by
  funext c
  apply Fin.ext
  match c with
  | ⟨0, _⟩ => rfl
  | ⟨1, _⟩ => rfl

end Layout

/-! ## The masked softmax -/

theorem named_mask : Named.named (F := Ideal) (φ := .f32) Cert.KernelIdeal.κ "mask" 0xF149F2CA#32 = (⊥ : EReal) := by
  rfl

section Softmax
variable {n : ℕ} {s : RMat 512 n} {mask : BMat 128 n} {r : Fin 4} {a : Fin 128} {m : Fin n → Prop} [DecidablePred m] {sc : Fin n → EReal}

theorem shut_apply (hm : ∀ j, mask (ix2 a j) = 1#1 ↔ m j) (hs : ∀ j, s (ix2 ⟨128 * r.val + a.val, by omega⟩ j) = sc j) (j : Fin n) :
    shut s mask r (ix2 a j) = if m j then sc j else ⊥ := by
  unfold shut
  rw [select_apply, slice_apply _ _ _ (by omega) (by omega), broadcast_apply, named_mask]
  by_cases h : m j
  · rw [if_pos h, (hm j).2 h, select_one, ← hs j]
    congr 2
    apply Fin.ext; simp
  · rw [if_neg h, eq_zero_of_ne_one (fun e => h ((hm j).1 e)), select_zero]

theorem rowmax_apply (hm : ∀ j, mask (ix2 a j) = 1#1 ↔ m j) (hs : ∀ j, s (ix2 ⟨128 * r.val + a.val, by omega⟩ j) = sc j) :
    multiReduction .maximumf [1] (Vect 128) (shut s mask r) 0xFF800000#32 (red n) (.inl rfl) rfl (ix1 a) = peak m sc := by
  refine (Ideal.multiReduction_maximumf_single (shut s mask r) 0xFF800000#32 (red n) (.inl rfl) rfl (ix1 a)).trans ?_
  have h0 : (FloatOps.ofBits (F := Ideal) .f32 0xFF800000#32 : EReal) = ⊥ := by
    show Ideal.ofBits .f32 0xFF800000#32 = ⊥
    simp [Ideal.ofBits, Ideal.ieee]
  have hf : shut s mask r ∘ (red n).lift (ix1 a) = fun j => if m j then sc j else ⊥ := by
    funext j
    exact (congrArg _ (red_lift a j)).trans (shut_apply hm hs j)
  rw [h0, hf]
  rfl

theorem weights_apply (hm : ∀ j, mask (ix2 a j) = 1#1 ↔ m j) (hs : ∀ j, s (ix2 ⟨128 * r.val + a.val, by omega⟩ j) = sc j) (j : Fin n) :
    weights s mask r (ix2 a j) = wt m sc j := by
  unfold weights wt
  rw [select_apply, broadcast_apply]
  by_cases h : m j
  · rw [if_pos h, (hm j).2 h, select_one]
    show Ideal.exp (shut s mask r (ix2 a j) - broadcastTo (Mat 128 n) _ (bcol 128 n) (ix2 a j)) = _
    rw [shut_apply hm hs, if_pos h, bcol_apply, column_apply, rowmax_apply hm hs]
  · rw [if_neg h, eq_zero_of_ne_one (fun e => h ((hm j).1 e)), select_zero]
    exact Ideal.ofBits_zero_f32

theorem sums_apply (hm : ∀ j, mask (ix2 a j) = 1#1 ↔ m j) (hs : ∀ j, s (ix2 ⟨128 * r.val + a.val, by omega⟩ j) = sc j) (b : Fin 1) :
    sums s mask r (ix2 a b) = ∑ j, wt m sc j := by
  unfold sums
  rw [column_apply]
  refine (Ideal.multiReduction_add_single (weights s mask r) 0x00000000#32 (red n) (.inl rfl) rfl (ix1 a)).trans ?_
  exact Finset.sum_congr rfl fun j _ => (congrArg _ (red_lift a j)).trans (weights_apply hm hs j)

theorem quot_apply (hm : ∀ j, mask (ix2 a j) = 1#1 ↔ m j) (hs : ∀ j, s (ix2 ⟨128 * r.val + a.val, by omega⟩ j) = sc j) (j : Fin n) :
    quot s mask r (ix2 a j) = share m sc j := by
  unfold quot share den
  show Ideal.div (weights s mask r (ix2 a j)) (broadcastTo (Mat 128 n) _ (bcol 128 n) (ix2 a j)) = _
  rw [weights_apply hm hs, bcol_apply]
  show Ideal.div _ (max (sums s mask r (ix2 a 0)) tiny) = _
  rw [sums_apply hm hs]

end Softmax

/-! ## Scores and attention -/

theorem scores_apply {n : ℕ} (qg : HMat 512 128) (k : HMat n 128) (i : Fin 512) (j : Fin n) :
    scores qg k (ix2 i j) = (∑ e : Fin 128, (qg (ix2 i e) : EReal) * (k (ix2 j e) : EReal)) * scale := by
  unfold scores
  refine congrArg (· * scale) ?_
  refine (Ideal.matmul_transposedRhs_apply (M := 512) (K := 128) (N := n) none qg k _ i j).trans ?_
  rw [constant_apply]
  exact (congrArg (· + _) Ideal.ofBits_zero_f32).trans (zero_add _)

theorem attend_apply {n : ℕ} {qg : HMat 512 128} {k v : HMat n 128} {mask : BMat 128 n} {a : Fin 128} (r : Fin 4) (d : Fin 128)
    {m : Fin n → Prop} [DecidablePred m] {sc vc : Fin n → EReal} (hm : ∀ j, mask (ix2 a j) = 1#1 ↔ m j)
    (hs : ∀ j, scores qg k (ix2 ⟨128 * r.val + a.val, by omega⟩ j) = sc j) (hv : ∀ j, v (ix2 j d) = vc j) :
    attend qg k v mask (ix2 ⟨128 * r.val + a.val, by omega⟩ d) = att m sc vc := by
  rw [← att_eq]
  unfold attend
  refine congrArg₂ Ideal.div ?_ ?_
  · refine (Ideal.matmul_plain_apply (M := 512) (K := n) (N := 128) none _ v _ _ d).trans ?_
    rw [constant_apply]
    refine (congrArg (· + _) Ideal.ofBits_zero_f32).trans ((zero_add _).trans (Finset.sum_congr rfl fun j _ => ?_))
    rw [hv j]
    refine congrArg (· * vc j) ?_
    refine (stack4_apply (fun r => truncf (F := Ideal) .bf16 (weights (scores qg k) mask r) bits) r a j).trans ?_
    exact weights_apply hm hs j
  · rw [bcol_apply]
    unfold den
    refine congrArg (max · tiny) ?_
    exact (stack4_apply (fun r => sums (scores qg k) mask r) r a 0).trans (sums_apply hm hs 0)

end Cert.Nsa

end
-- ==== Proof.Select.lean ====
module
public import proofs.«01_k».proof.Proof.Softmax
public import Idealize.ShloMosaic.Lib.Affine

/-! The kernel's masks and its choice of blocks, read entry by entry: the positions, which compressed keys a query sees
and which blocks they meet, the ranks, the sixteen blocks chosen and the tokens they let the query read. -/

@[expose] public section

noncomputable section

namespace Cert.Nsa

open Idealize.ShloMosaic hiding ix0 ix1 ix2 ix3 ix4 ix5 eq_ix2
open Idealize.ShloMosaic.ValueIdx Idealize.SL.Sem

/-! ## Words as integers -/

theorem toInt_nat {n : ℕ} (h : n < 2 ^ 31) : (BitVec.ofNat 32 n).toInt = n := by
  rw [BitVec.toInt_eq_toNat_of_lt (by rw [BitVec.toNat_ofNat]; omega), BitVec.toNat_ofNat]; omega

theorem toInt_add {x y : BitVec 32} {p q : ℤ} (hx : x.toInt = p) (hy : y.toInt = q) (h : -2 ^ 31 ≤ p + q ∧ p + q < 2 ^ 31) :
    (IntOp.addi x y).toInt = p + q := by
  unfold IntOp.addi
  rw [BitVec.toInt_add, hx, hy]; exact Int.bmod_eq_of_le (by omega) (by omega)

theorem toInt_sub {x y : BitVec 32} {p q : ℤ} (hx : x.toInt = p) (hy : y.toInt = q) (h : -2 ^ 31 ≤ p - q ∧ p - q < 2 ^ 31) :
    (IntOp.subi x y).toInt = p - q := by
  unfold IntOp.subi
  rw [BitVec.toInt_sub, hx, hy]; exact Int.bmod_eq_of_le (by omega) (by omega)

theorem toInt_mul {x y : BitVec 32} {p q : ℤ} (hx : x.toInt = p) (hy : y.toInt = q) (h : -2 ^ 31 ≤ p * q ∧ p * q < 2 ^ 31) :
    (IntOp.muli x y).toInt = p * q := by
  unfold IntOp.muli
  rw [BitVec.toInt_mul, hx, hy]; exact Int.bmod_eq_of_le (by omega) (by omega)

theorem lit {s : Shape} {i : s.Idx} {w : BitVec 32} {e : ℤ} (h : w.toInt = e) : (broadcast s w i).toInt = e := h

/-- Dividing by 64. -/
theorem shr6 : ∀ j : Fin 2048, IntOp.shrsi .vector (BitVec.ofNat 32 j.val) 6#32 = BitVec.ofNat 32 (j.val / 64) := by decide +kernel

theorem iotaRow (m n : ℕ) (a : Fin m) (j : Fin n) : iota .tc (Mat m n) 32 [1] (iota2 _ _ _) (ix2 a j) = BitVec.ofNat 32 j.val :=
  iota_single_apply ..

theorem iotaCol (m n : ℕ) (a : Fin m) (j : Fin n) : iota .tc (Mat m n) 32 [0] (iota2 _ _ _) (ix2 a j) = BitVec.ofNat 32 a.val :=
  iota_single_apply ..

theorem qcol_word (k : Fin 16) (a : Fin 128) (b : Fin 1) : qcol k (ix2 a b) = BitVec.ofNat 32 (128 * k.val + a.val) := by
  show BitVec.ofNat 32 k.val * 128#32 + iota .tc (Mat 128 1) 32 [0] (iota2 _ _ _) (ix2 a b) = _
  rw [iotaCol, BitVec.ofNat_add, BitVec.ofNat_mul, BitVec.mul_comm]

theorem qrow_word (k : Fin 16) (a : Fin 128) (b : Fin 1) : qrow k (ix2 b a) = BitVec.ofNat 32 (128 * k.val + a.val) := by
  show BitVec.ofNat 32 k.val * 128#32 + iota .tc (Mat 1 128) 32 [1] (iota2 _ _ _) (ix2 b a) = _
  rw [iotaRow, BitVec.ofNat_add, BitVec.ofNat_mul, BitVec.mul_comm]

theorem qcol_toInt (k : Fin 16) (a : Fin 128) (b : Fin 1) : (qcol k (ix2 a b)).toInt = (128 * k.val + a.val : ℕ) := by
  rw [qcol_word, toInt_nat (by omega)]

/-! ## Constants -/

theorem ofBool_decide {p : Prop} [Decidable p] : BitVec.ofBool (decide p) = 1#1 ↔ p := by
  by_cases h : p <;> simp [h]

theorem one_word : (Scalar.ofBits (F := Ideal) .f32 0x3F800000#32 : EReal) = 1 := Ideal.ofBits_one_f32

theorem zero_word : (Scalar.ofBits (F := Ideal) .f32 0x00000000#32 : EReal) = 0 := Ideal.ofBits_zero_f32

theorem sixteen_word : (Scalar.ofBits (F := Ideal) .f32 0x41800000#32 : EReal) = ((16 : ℕ) : EReal) := by
  show Ideal.ofBits .f32 0x41800000#32 = _
  simp [Ideal.ofBits, Ideal.ieee, -EReal.coe_mul]
  norm_num
  rfl

theorem half_word : (Scalar.ofBits (F := Ideal) .f32 0x3F000000#32 : EReal) = ((1 / 2 : ℝ) : EReal) := by
  show Ideal.ofBits .f32 0x3F000000#32 = _
  simp [Ideal.ofBits, Ideal.ieee, -EReal.coe_mul]
  norm_num

/-- A choice between one and zero by a mask. -/
theorem onehot_apply {s : Shape} (c : IVec s 1) (i : s.Idx) {p : Prop} [Decidable p] (h : c i = 1#1 ↔ p) :
    (select c (broadcast s (Scalar.ofBits (F := Ideal) .f32 0x3F800000#32)) (broadcast s (Scalar.ofBits (F := Ideal) .f32 0x00000000#32)) i : EReal)
      = if p then 1 else 0 := by
  rw [select_apply, broadcast_apply, broadcast_apply]
  by_cases hp : p
  · rw [if_pos hp, h.2 hp, select_one]; exact one_word
  · rw [if_neg hp, eq_zero_of_ne_one (fun e => hp (h.1 e)), select_zero]; exact zero_word

theorem ogt_iff {s : Shape} (x y : FVec Ideal s .f32) (i : s.Idx) : cmpf .ogt x y i = 1#1 ↔ (y i : EReal) < x i := by
  exact ofBool_decide

theorem olt_iff {s : Shape} (x y : FVec Ideal s .f32) (i : s.Idx) : cmpf .olt x y i = 1#1 ↔ (x i : EReal) < y i := by
  exact ofBool_decide

theorem oeq_iff {s : Shape} (x y : FVec Ideal s .f32) (i : s.Idx) : cmpf .oeq x y i = 1#1 ↔ (x i : EReal) = y i := by
  exact ofBool_decide

/-! ## Compressed keys -/

theorem cmask_iff (k : Fin 16) (a j : Fin 128) : cmask k (ix2 a j) = 1#1 ↔ cseen (128 * k.val + a.val) j := by
  unfold cmask cseen
  rw [cmpi, IntOp.cmpi_sle, brow_apply, bcol_apply, qcol_toInt]
  have h : (addi (muli (iota .tc (Mat 1 128) 32 [1] (iota2 _ _ _)) (broadcast (Mat 1 128) 16#32)) (broadcast (Mat 1 128) 31#32) (ix2 0 j)).toInt
      = (16 * j.val + 31 : ℕ) := by
    rw [show ((16 * j.val + 31 : ℕ) : ℤ) = (j.val : ℤ) * 16 + 31 by omega]
    refine toInt_add (toInt_mul ?_ (lit (by decide)) (by omega)) (lit (by decide)) (by omega)
    rw [iotaRow, toInt_nat (by omega)]
  rw [h]; omega

theorem cover_apply (b : Fin 32) (j : Fin 128) : (cover (ix2 ⟨b.val, by omega⟩ j) : EReal) = if covers b j then 1 else 0 := by
  refine onehot_apply _ _ ?_
  have hj : (iota .tc (Mat 128 128) 32 [1] (iota2 _ _ _) (ix2 ⟨b.val, by omega⟩ j)).toInt = (j.val : ℤ) := by
    rw [iotaRow, toInt_nat (by omega)]
  have hb : (iota .tc (Mat 128 128) 32 [0] (iota2 _ _ _) (ix2 ⟨b.val, by omega⟩ j)).toInt = (b.val : ℤ) := by
    rw [iotaCol, toInt_nat (by omega)]
  have h16 : (muli (iota .tc (Mat 128 128) 32 [1] (iota2 _ _ _)) (broadcast (Mat 128 128) 16#32) (ix2 ⟨b.val, by omega⟩ j)).toInt = (j.val : ℤ) * 16 :=
    toInt_mul hj (lit (by decide)) (by omega)
  have h64 : (muli (iota .tc (Mat 128 128) 32 [0] (iota2 _ _ _)) (broadcast (Mat 128 128) 64#32) (ix2 ⟨b.val, by omega⟩ j)).toInt = (b.val : ℤ) * 64 :=
    toInt_mul hb (lit (by decide)) (by omega)
  rw [andi, IntOp.andi_eq_one, andi, IntOp.andi_eq_one, andi, IntOp.andi_eq_one, cmpi, IntOp.cmpi_slt, cmpi, IntOp.cmpi_sgt,
    cmpi, IntOp.cmpi_slt, cmpi, IntOp.cmpi_slt, h16, h64, hj, hb,
    show (addi (muli (iota .tc (Mat 128 128) 32 [0] (iota2 _ _ _)) (broadcast (Mat 128 128) 64#32)) (broadcast (Mat 128 128) 64#32)
      (ix2 ⟨b.val, by omega⟩ j)).toInt = (b.val : ℤ) * 64 + 64 from toInt_add h64 (lit (by decide)) (by omega),
    show (addi (muli (iota .tc (Mat 128 128) 32 [1] (iota2 _ _ _)) (broadcast (Mat 128 128) 16#32)) (broadcast (Mat 128 128) 32#32)
      (ix2 ⟨b.val, by omega⟩ j)).toInt = (j.val : ℤ) * 16 + 32 from toInt_add h16 (lit (by decide)) (by omega),
    broadcast_apply, broadcast_apply, show (127#32 : BitVec 32).toInt = 127 by decide, show (32#32 : BitVec 32).toInt = 32 by decide]
  unfold covers
  omega

theorem against_apply (c : HMat 128 128) (x : RMat 128 128) (b a : Fin 128) :
    (against c x (ix2 b a) : EReal) = ∑ j : Fin 128, (c (ix2 b j) : EReal) * x (ix2 a j) := by
  unfold against
  refine (Ideal.matmul_transposedRhs_apply (M := 128) (K := 128) (N := 128) none c _ _ b a).trans ?_
  exact (congrArg (· + _) Ideal.ofBits_zero_f32).trans (zero_add _)

/-- The importance of a block, where the summed shares are real. -/
theorem importance_apply (x : RMat 128 128) (p : Fin 4 → Fin 128 → EReal) (a : Fin 128) (b : Fin 32)
    (hx : ∀ j, (x (ix2 a j) : EReal) = ∑ r, p r j) (h0 : ∀ r j, 0 ≤ p r j) (ht : ∀ r j, p r j ≠ ⊤) :
    (importance x (ix2 b a) : EReal) = worth p b := by
  unfold importance
  rw [slice_apply _ _ _ (by omega) (by omega)]
  have hz : ∀ j, (rest x (ix2 a j) : EReal) = 0 := fun j => by
    show (x (ix2 a j) : EReal) - x (ix2 a j) = 0
    rw [hx j, Fin.sum_univ_four]
    have n : ∀ {u v : EReal}, 0 ≤ u ∧ u ≠ ⊤ → 0 ≤ v ∧ v ≠ ⊤ → 0 ≤ u + v ∧ u + v ≠ ⊤ := fun hu hv =>
      ⟨add_nonneg hu.1 hv.1, (EReal.add_lt_top hu.2 hv.2).ne⟩
    have := n (n (n ⟨h0 0 j, ht 0 j⟩ ⟨h0 1 j, ht 1 j⟩) ⟨h0 2 j, ht 2 j⟩) ⟨h0 3 j, ht 3 j⟩
    exact EReal.sub_self this.2 (ne_bot_of_gt (lt_of_lt_of_le EReal.bot_lt_zero this.1))
  have hzz : ∀ j, (rest (rest x) (ix2 a j) : EReal) = 0 := fun j => by
    show (rest x (ix2 a j) : EReal) - rest x (ix2 a j) = 0
    rw [hz j]; exact EReal.sub_self (by simp) (by simp)
  have e : ∀ (y : RMat 128 128) , against cover y (ix2 ⟨0 + b.val, by omega⟩ ⟨0 + a.val, by omega⟩)
      = ∑ j : Fin 128, (if covers b j then (1 : EReal) else 0) * y (ix2 a j) := fun y => by
    refine (against_apply cover y _ _).trans (Finset.sum_congr rfl fun j _ => ?_)
    rw [show (⟨0 + b.val, by omega⟩ : Fin 128) = ⟨b.val, by omega⟩ from Fin.ext (by simp), cover_apply,
      show (⟨0 + a.val, by omega⟩ : Fin 128) = a from Fin.ext (by simp)]
  show (against cover x _ + against cover (rest x) _ + against cover (rest (rest x)) _ : EReal) = _
  rw [e, e, e]
  unfold worth
  simp only [hz, hzz, hx, mul_zero, Finset.sum_const_zero, add_zero]

/-! ## The ranks -/

theorem cur_word (k : Fin 16) (a : Fin 128) (b : Fin 1) : (cur k (ix2 b a)) = BitVec.ofNat 32 ((128 * k.val + a.val) / 64) := by
  show IntOp.shrsi .vector (qrow k (ix2 b a)) 6#32 = _
  rw [qrow_word]
  exact shr6 ⟨128 * k.val + a.val, by omega⟩

theorem past_iff (k : Fin 16) (b : Fin 32) (a : Fin 128) : past k (ix2 b a) = 1#1 ↔ b.val ≤ (128 * k.val + a.val) / 64 := by
  unfold past blk
  rw [cmpi, IntOp.cmpi_sle, brow_apply, cur_word, iotaCol, toInt_nat (by omega), toInt_nat (by omega)]
  omega

theorem forced_iff (k : Fin 16) (b : Fin 32) (a : Fin 128) : forced k (ix2 b a) = 1#1 ↔ wanted (128 * k.val + a.val) b := by
  unfold forced wanted blk
  rw [ori, IntOp.ori_eq_one, andi, IntOp.andi_eq_one, cmpi, IntOp.cmpi_eq, cmpi, IntOp.cmpi_sle, cmpi, IntOp.cmpi_sgt, brow_apply, brow_apply,
    cur_word, iotaCol, toInt_nat (by omega), toInt_nat (by omega),
    show (subi (cur k) (broadcast (Mat 1 128) 2#32) (ix2 0 a)).toInt = (((128 * k.val + a.val) / 64 : ℕ) : ℤ) - 2 from
      toInt_sub (by rw [cur_word, toInt_nat (by omega)]) (lit (by decide)) (by omega), broadcast_apply]
  have : BitVec.ofNat 32 b.val = 0#32 ↔ b.val = 0 := by
    rw [← BitVec.toNat_inj, BitVec.toNat_ofNat]
    show b.val % 2 ^ 32 = 0 ↔ _
    omega
  rw [this]; omega

theorem rankScore_apply (k : Fin 16) (x : RMat 128 128) (p : Fin 4 → Fin 128 → EReal) (a : Fin 128) (b : Fin 32)
    (hx : ∀ j, (x (ix2 a j) : EReal) = ∑ r, p r j) (h0 : ∀ r j, 0 ≤ p r j) (ht : ∀ r j, p r j ≠ ⊤) :
    (rankScore k x (ix2 b a) : EReal) = standing (128 * k.val + a.val) p b := by
  unfold rankScore standing
  rw [select_apply]
  by_cases h : b.val ≤ (128 * k.val + a.val) / 64
  · rw [if_pos h, (past_iff k b a).2 h, select_one]
    show (importance x (ix2 b a) + bonus * _ : EReal) = _
    rw [importance_apply x p a b hx h0 ht]
    exact congrArg (fun z => worth p b + bonus * z) (onehot_apply _ _ (forced_iff k b a))
  · rw [if_neg h, eq_zero_of_ne_one (fun e => h ((past_iff k b a).1 e)), select_zero, broadcast_apply]
    exact named_mask

theorem rankStep_apply (s : RMat 32 128) (i : ℕ) (h : i < 32) (b : Fin 32) (a : Fin 128) :
    (rankStep s i h (ix2 b a) : EReal) = if ahead (fun c => s (ix2 c a)) ⟨i, h⟩ b then 1 else 0 := by
  refine onehot_apply _ _ ?_
  rw [ori, IntOp.ori_eq_one, andi, IntOp.andi_eq_one, ogt_iff, oeq_iff, brow_apply, slice_apply _ _ _ (by omega) (by omega), cmpi, IntOp.cmpi_sgt,
    broadcast_apply, blk, iotaCol, toInt_nat (by omega), toInt_nat (by omega)]
  unfold ahead
  have e : (ix2 (⟨i + (0 : Fin 1).val, by simp; omega⟩ : Fin 32) (⟨0 + a.val, by omega⟩ : Fin 128)) = ix2 (⟨i, h⟩ : Fin 32) a := by
    congr 1; exact Fin.ext (by simp)
  rw [e]
  have : ((⟨i, h⟩ : Fin 32) < b) ↔ (i : ℤ) < (b.val : ℤ) := by exact Int.ofNat_lt.symm
  rw [this]

theorem rankTo_apply (s : RMat 32 128) (b : Fin 32) (a : Fin 128) : ∀ (m : ℕ) (h : m ≤ 32),
    (rankTo s m h (ix2 b a) : EReal) = ∑ i : Fin m, if ahead (fun c => s (ix2 c a)) (i.castLE h) b then (1 : EReal) else 0
  | 0, h => by
    rw [Finset.univ_eq_empty, Finset.sum_empty]
    exact zero_word
  | m + 1, h => by
    rw [Fin.sum_univ_castSucc]
    show (rankTo s m _ (ix2 b a) + rankStep s m h (ix2 b a) : EReal) = _
    rw [rankTo_apply s b a m (Nat.le_of_succ_le h), rankStep_apply]
    rfl

theorem chosen_apply (s : RMat 32 128) (a : Fin 128) (c : Fin 32) :
    (chosen s (ix2 a ⟨c.val, by omega⟩) : EReal) = if picked (fun b => s (ix2 b a)) c then 1 else 0 := by
  unfold chosen
  have e : (select (cmpf .olt (rankTo s 32 (le_refl _)) (broadcast (Mat 32 128) (Scalar.ofBits (F := Ideal) .f32 0x41800000#32)))
      (broadcast (Mat 32 128) (Scalar.ofBits (F := Ideal) .f32 0x3F800000#32))
      (broadcast (Mat 32 128) (Scalar.ofBits (F := Ideal) .f32 0x00000000#32)) (ix2 c a) : EReal)
      = if picked (fun b => s (ix2 b a)) c then 1 else 0 := by
    refine onehot_apply _ _ ?_
    rw [olt_iff, rankTo_apply, broadcast_apply, sixteen_word]
    unfold picked
    rw [show (∑ i : Fin 32, if ahead (fun c => s (ix2 c a)) (i.castLE (le_refl 32)) c then (1 : EReal) else 0)
      = ∑ i : Fin 32, if ahead (fun c => s (ix2 c a)) i c then (1 : EReal) else 0 from rfl, Finset.sum_boole]
    exact EReal.natCast_lt_iff
  refine (transpose_apply (s := Mat 128 128) (t := Mat 128 128) [1, 0] _ (by decide) (ix2 a ⟨c.val, by omega⟩) (ix2 ⟨c.val, by omega⟩ a) ?_).trans
    ((concatenate_pair_apply_left (t := Mat 128 128) 0 _ _ rowsPad _ rfl (ix2 c a) ?_).trans e)
  · intro b
    match b with
    | ⟨0, _⟩ => rfl
    | ⟨1, _⟩ => rfl
  · intro b
    match b with
    | ⟨0, _⟩ => rfl
    | ⟨1, _⟩ => rfl

theorem expand_apply (n : ℕ) (hn : n ≤ 2048) (c : Fin 128) (j : Fin n) :
    (expand n (ix2 c j) : EReal) = if c = ⟨j.val / 64, by omega⟩ then 1 else 0 := by
  refine onehot_apply _ _ ?_
  rw [cmpi, IntOp.cmpi_eq, iotaCol, shrsi, iotaRow, broadcast_apply, shr6 ⟨j.val, by omega⟩, ← BitVec.toNat_inj, BitVec.toNat_ofNat, BitVec.toNat_ofNat,
    Fin.ext_iff]
  show (j.val / 64) % 2 ^ 32 = c.val % 2 ^ 32 ↔ c.val = j.val / 64
  omega

/-- The tokens let through: those of a picked block that are not past the query. -/
theorem tokens_iff (n : ℕ) (hn : n ≤ 2048) (k : Fin 16) (s : RMat 32 128) (a : Fin 128) (j : Fin n) :
    tokens n k (chosen s) (ix2 a j) = 1#1 ↔ sseen (128 * k.val + a.val) (fun b => s (ix2 b a)) ⟨j.val, by omega⟩ := by
  unfold tokens sseen
  rw [andi, IntOp.andi_eq_one, ogt_iff, cmpi, IntOp.cmpi_sle, brow_apply, bcol_apply, qcol_toInt, iotaRow, toInt_nat (by omega), broadcast_apply, half_word]
  have e : (matmul (DotDims.plain 128 128 n) none (chosen s) (expand n) (constant (F := Ideal) (Mat 128 n) .f32 0x00000000#32) (ix2 a j) : EReal)
      = if picked (fun b => s (ix2 b a)) (home ⟨j.val, by omega⟩) then 1 else 0 := by
    refine (Ideal.matmul_plain_apply (M := 128) (K := 128) (N := n) none (chosen s) (expand n) _ a j).trans ?_
    refine (congrArg (· + _) Ideal.ofBits_zero_f32).trans ((zero_add _).trans ?_)
    rw [← chosen_apply s a (home ⟨j.val, by omega⟩), Finset.sum_eq_single (⟨j.val / 64, by omega⟩ : Fin 128)]
    · rw [expand_apply n hn, if_pos rfl]; exact mul_one _
    · intro c _ hc
      rw [expand_apply n hn, if_neg hc]; exact mul_zero _
    · exact fun h => absurd (Finset.mem_univ _) h
  rw [e]
  refine and_congr ?_ Int.ofNat_le
  by_cases hp : picked (fun b => s (ix2 b a)) (home ⟨j.val, by omega⟩)
  · simp only [hp, if_true, iff_true]
    exact EReal.coe_lt_coe_iff.2 (by norm_num)
  · simp only [hp, if_false, iff_false, not_lt]
    exact EReal.coe_nonneg.2 (by norm_num)

end Cert.Nsa

end
-- ==== Proof.MoePay.lean ====
module
public import proofs.«01_k».proof.Proof.Gen.MoeIdeal.Skeleton
public import proofs.«01_k».proof.Proof.Select
public import Idealize.ShloMosaic.Lib.Pipeline.ValueKit
public import Idealize.ShloMosaic.Lib.MatmulPlain

/-! What the expert kernel's stores are worth, entry by entry. -/

@[expose] public section

noncomputable section

namespace Cert.Experts

open Idealize.ShloMosaic Idealize.ShloMosaic.TcCoe Idealize.SL.Sem Cert.MoeIdeal Cert.MoeIdeal.Gen

/-- A matrix of extended reals, and a stack of them. -/
abbrev RArr (a b : ℕ) := FVec Ideal ⟨2, ![a, b]⟩ .f32
abbrev HArr (a b : ℕ) := FVec Ideal ⟨2, ![a, b]⟩ .bf16
/-- Stacks of matrices in bfloat16. -/
abbrev HStack (a b c : ℕ) := FVec Ideal ⟨3, ![a, b, c]⟩ .bf16

open Classical

/-- One expert on one row, at one channel: the gated hidden layer times the router's weight, through the last projection. -/
def ffn (x : Fin 2048 → EReal) (w : EReal) (wg wu : Fin 2048 → Fin 512 → EReal) (wd : Fin 512 → Fin 2048 → EReal) (d : Fin 2048) : EReal :=
  ∑ f : Fin 512, ((∑ k : Fin 2048, x k * wg k f) * (Ideal.div 1 (1 + Ideal.exp (0 - ∑ k : Fin 2048, x k * wg k f)))
    * (∑ k : Fin 2048, x k * wu k f) * w) * wd f d

/-- The weight of one expert, picked out of a row by summing what a mask leaves. -/
def weightOf (a : BitVec 32) (w : Fin 128 → EReal) : EReal := ∑ l : Fin 128, if BitVec.ofNat 32 l.val = a then w l else 0

/-- Choosing by a mask that states a proposition. -/
theorem select_ite {α : Type} {c : BitVec 1} {p : Prop} [Decidable p] (h : c = 1#1 ↔ p) (x y : α) : Scalar.select c x y = if p then x else y := by
  unfold Scalar.select
  by_cases hp : p
  · rw [if_pos hp]; exact if_pos (h.2 hp)
  · rw [if_neg hp]; exact if_neg fun hc => hp (h.1 hc)

/-- Choosing by a comparison of words. -/
theorem select_eq {α : Type} (a b : BitVec 32) (x y : α) : Scalar.select (IntOp.cmpi .eq a b) x y = if a = b then x else y := by
  rw [select_ite IntOp.cmpi_eq]

/-- The expert on every row, added to the output block. -/
theorem pay24_apply (a : BitVec 32) (o : RArr 1024 2048) (x : HArr 1024 2048) (w : RArr 1024 128) (wg wu : HStack 1 2048 512)
    (wd : HStack 1 512 2048) (r : Fin 1024) (d : Fin 2048) :
    (k0_pay24 (F := Ideal) a o x w wg wu wd (ix2 r d) : EReal)
      = o (ix2 r d) + ffn (fun k => x (ix2 r k)) (weightOf a fun l => w (ix2 r l)) (fun k f => wg (ix3 0 k f)) (fun k f => wu (ix3 0 k f))
          (fun f d => wd (ix3 0 f d)) d := by
  unfold k0_pay24 ffn weightOf
  pointwise [select_eq]

/-- The expert on the gathered rows, added to the sums over the slots. -/
theorem pay23_apply (a : BitVec 32) (o : RArr 352 2048) (x : HArr 352 2048) (w : RArr 352 128) (wg wu : HStack 1 2048 512)
    (wd : HStack 1 512 2048) (r : Fin 352) (d : Fin 2048) :
    (k0_pay23 (F := Ideal) a o x w wg wu wd (ix2 r d) : EReal)
      = o (ix2 r d) + ffn (fun k => x (ix2 r k)) (weightOf a fun l => w (ix2 r l)) (fun k f => wg (ix3 0 k f)) (fun k f => wu (ix3 0 k f))
          (fun f d => wd (ix3 0 f d)) d := by
  unfold k0_pay23 ffn weightOf
  pointwise [select_eq]

/-- The cleared sums. -/
theorem pay26_apply (r : Fin 352) (d : Fin 2048) : (k0_pay26 (F := Ideal) (ix2 r d) : EReal) = 0 := by
  unfold k0_pay26
  pointwise []

/-- A row divided by its root mean square, times the channel's weight. -/
def normed (o : Fin 2048 → EReal) (g : Fin 2048 → EReal) (d : Fin 2048) : EReal :=
  o d * Ideal.rsqrt (Ideal.div (∑ k : Fin 2048, o k * o k) (Ideal.ofBits .f32 0x45000000#32) + Ideal.ofBits .f32 0x358637BD#32) * g d

/-- The last store of a row block. -/
theorem pay3_apply (o : RArr 1024 2048) (g : RArr 1 2048) (r : Fin 1024) (d : Fin 2048) :
    (k0_pay3 (F := Ideal) o g (ix2 r d) : EReal) = normed (fun k => o (ix2 r k)) (fun k => g (ix2 0 k)) d := by
  unfold k0_pay3 normed
  pointwise []

/-- Scattering the slots back to the rows of a half. -/
theorem pay1_apply (y : RArr 176 2048) (o : RArr 512 2048) (s s' : HArr 512 176) (r : Fin 512) (d : Fin 2048) :
    (k0_pay1 (F := Ideal) y o s s' (ix2 r d) : EReal)
      = o (ix2 r d) + (∑ j : Fin 176, s (ix2 r j) * y (ix2 j d) + ∑ j : Fin 176, s' (ix2 r j) * (y (ix2 j d) - y (ix2 j d))) := by
  unfold k0_pay1
  pointwise []

/-! ## Members, their ranks and their slots -/

/-- Whether a row of a half belongs to a group. -/
def memb (q : BitVec 32) (w : RArr 512 128) (r : Fin 512) : Prop := (w (ix2 r 16) : EReal) = ((q.toInt : ℝ) : EReal)

/-- How many members come before a row. -/
def rank (mem : Fin 512 → Prop) (r : Fin 512) : ℕ := (Finset.univ.filter fun x : Fin 512 => x.val < r.val ∧ mem x).card

/-- One where a row is the member of a slot. -/
def sel (mem : Fin 512 → Prop) (r : Fin 512) (j : Fin 176) : EReal := if mem r ∧ rank mem r = j.val then 1 else 0

/-- Adding ones counts. -/
theorem sum_ones {n : ℕ} (p : Fin n → Prop) [DecidablePred p] : (∑ x : Fin n, if p x then (1 : EReal) else 0) = (((Finset.univ.filter p).card : ℝ) : EReal) := by
  rw [Finset.sum_boole]
  rfl

/-- The triangle of ones: entry `(r, r')` is 1 where `r'` stands before `r`. -/
theorem pay4_apply (r r' : Fin 512) : (k0_pay4 (F := Ideal) (ix2 r r') : EReal) = if r'.val < r.val then 1 else 0 := by
  unfold k0_pay4
  pointwise []
  have h : IntOp.cmpi .sgt (BitVec.ofNat 32 r.val) (BitVec.ofNat 32 r'.val) = 1#1 ↔ r'.val < r.val := by
    rw [IntOp.cmpi_sgt, Cert.Nsa.toInt_nat (by omega), Cert.Nsa.toInt_nat (by omega)]
    omega
  rw [select_ite h]

/-- The mask of the rows in the group. -/
theorem pay5_iff (q : BitVec 32) (w : RArr 512 128) (r : Fin 512) : k0_pay5 (F := Ideal) q w (ix2 r 0) = 1#1 ↔ memb q w r := by
  unfold k0_pay5 memb
  rw [Cert.Nsa.oeq_iff]
  pointwise []

/-- The same mask in numbers. -/
theorem pay6_apply (q : BitVec 32) (w : RArr 512 128) (r : Fin 512) (l : Fin 128) :
    (k0_pay6 (F := Ideal) q w (ix2 r l) : EReal) = if memb q w r then 1 else 0 := by
  unfold k0_pay6
  pointwise []
  exact select_ite (pay5_iff q w r) _ _

/-- The rank, as the kernel computes it. -/
theorem rank_sum (q : BitVec 32) (w : RArr 512 128) (r : Fin 512) :
    (∑ x : Fin 512, (k0_pay4 (F := Ideal) (ix2 r x) : EReal) * k0_pay6 (F := Ideal) q w (ix2 x 0)) = ((rank (memb q w) r : ℝ) : EReal) := by
  unfold rank
  rw [← sum_ones]
  refine Finset.sum_congr rfl fun x _ => ?_
  rw [pay4_apply, pay6_apply]
  by_cases h1 : x.val < r.val <;> by_cases h2 : memb q w x <;> simp [h1, h2]

/-- A count equals a slot's number, converted, exactly where the two naturals are equal. -/
theorem word_eq {a j : ℕ} (hj : j < 2 ^ 31) : ((a : ℝ) : EReal) = FloatOps.sitofp (F := Ideal) .f32 (BitVec.ofNat 32 j) ↔ a = j := by
  show ((a : ℝ) : EReal) = (((BitVec.ofNat 32 j).toInt : ℝ) : EReal) ↔ _
  rw [Cert.Nsa.toInt_nat hj, EReal.coe_eq_coe_iff]
  push_cast
  exact Nat.cast_inj

/-- The gathering table. -/
theorem pay19_apply (q : BitVec 32) (w : RArr 512 128) (j : Fin 176) (r : Fin 512) :
    (k0_pay19 (F := Ideal) k0_pay4 (k0_pay6 q w) (ix2 j r) : EReal) = sel (memb q w) r j := by
  unfold k0_pay19 k0_pay18
  pointwise []
  rw [rank_sum, pay6_apply]
  have h : IntOp.andi (BitVec.ofBool (decide (Ideal.ofBits .f32 0x3F000000#32 < (if memb q w r then (1 : EReal) else 0))))
      (BitVec.ofBool (decide (((rank (memb q w) r : ℝ) : EReal) = FloatOps.sitofp (F := Ideal) .f32 (BitVec.ofNat 32 j.val)))) = 1#1
      ↔ memb q w r ∧ rank (memb q w) r = j.val := by
    rw [IntOp.andi_eq_one, Cert.Nsa.ofBool_decide, Cert.Nsa.ofBool_decide, word_eq (by omega)]
    refine and_congr_left fun _ => ?_
    have hh : Ideal.ofBits .f32 0x3F000000#32 = ((1 / 2 : ℝ) : EReal) := Cert.Nsa.half_word
    rw [hh]
    by_cases hp : memb q w r
    · rw [if_pos hp]
      refine iff_of_true ?_ hp
      rw [← EReal.coe_one, EReal.coe_lt_coe_iff]; norm_num
    · rw [if_neg hp]
      refine iff_of_false ?_ hp
      rw [← EReal.coe_zero, EReal.coe_lt_coe_iff]; norm_num
  unfold sel
  exact select_ite h _ _

/-- The scattering table. -/
theorem pay20_apply (q : BitVec 32) (w : RArr 512 128) (r : Fin 512) (j : Fin 176) :
    (k0_pay20 (F := Ideal) (k0_pay4 (F := Ideal)) (k0_pay5 (F := Ideal) q w) (k0_pay6 (F := Ideal) q w) (ix2 r j) : EReal) = sel (memb q w) r j := by
  unfold k0_pay20 k0_pay18
  pointwise []
  rw [rank_sum]
  have h : IntOp.andi (k0_pay5 (F := Ideal) q w (ix2 r 0))
      (BitVec.ofBool (decide (((rank (memb q w) r : ℝ) : EReal) = FloatOps.sitofp (F := Ideal) .f32 (BitVec.ofNat 32 j.val)))) = 1#1
      ↔ memb q w r ∧ rank (memb q w) r = j.val := by
    rw [IntOp.andi_eq_one, pay5_iff, Cert.Nsa.ofBool_decide, word_eq (by omega)]
  unfold sel
  exact select_ite h _ _

/-- How many rows of a half belong to the group. -/
def count (mem : Fin 512 → Prop) : ℕ := (Finset.univ.filter mem).card

/-- The running maximum of the group's size. -/
theorem pay17_apply (v : EReal) (q : BitVec 32) (w : RArr 512 128) :
    (k0_pay17 (F := Ideal) v (k0_pay16 q w) : EReal) = max v ((count (memb q w) : ℝ) : EReal) := by
  unfold k0_pay17 k0_pay16 count
  rw [← sum_ones]
  pointwise []
  refine congrArg (max v) (Finset.sum_congr rfl fun r _ => ?_)
  exact (Fin.sum_univ_one _).trans (pay6_apply q w r 0)

/-- The gathered rows of a half. -/
theorem pay12_apply (s : HArr 176 512) (x : HArr 512 2048) (j : Fin 176) (k : Fin 2048) :
    (k0_pay12 (F := Ideal) s x (ix2 j k) : EReal) = ∑ r : Fin 512, s (ix2 j r) * x (ix2 r k) := by
  unfold k0_pay12
  pointwise []

/-- The gathered weights of a half, in three parts of which the last two are differences of equal numbers. -/
theorem pay25_apply (w : RArr 512 128) (s : HArr 176 512) (j : Fin 176) (l : Fin 128) :
    (k0_pay25 (F := Ideal) w s (k0_pay22 w) (ix2 j l) : EReal) = ∑ x, s (ix2 j x) * w (ix2 x l) + ∑ x, s (ix2 j x) * (w (ix2 x l) - w (ix2 x l))
      + ∑ x, s (ix2 j x) * (w (ix2 x l) - w (ix2 x l) - (w (ix2 x l) - w (ix2 x l))) := by
  unfold k0_pay25 k0_pay22
  pointwise []

/-! ## What the tables do -/

/-- Two members of one rank are one row. -/
theorem rank_inj {mem : Fin 512 → Prop} {r r' : Fin 512} (h : mem r) (h' : mem r') (e : rank mem r = rank mem r') : r = r' := by
  have key : ∀ {a b : Fin 512}, mem a → a.val < b.val → rank mem a < rank mem b := fun {a b} ha hab => by
    refine Finset.card_lt_card ((Finset.ssubset_iff_of_subset fun x hx => ?_).2 ⟨a, ?_, ?_⟩)
    · rw [Finset.mem_filter] at hx ⊢
      exact ⟨hx.1, hx.2.1.trans hab, hx.2.2⟩
    · rw [Finset.mem_filter]; exact ⟨Finset.mem_univ _, hab, ha⟩
    · rw [Finset.mem_filter]; exact fun hx => lt_irrefl _ hx.2.1
  rcases lt_trichotomy r.val r'.val with hl | hl | hl
  · exact absurd e (key h hl).ne
  · exact Fin.ext hl
  · exact absurd e (key h' hl).ne'

/-- A member's rank is below the number of members. -/
theorem rank_lt {mem : Fin 512 → Prop} {r : Fin 512} (h : mem r) : rank mem r < count mem := by
  refine Finset.card_lt_card ((Finset.ssubset_iff_of_subset fun x hx => ?_).2 ⟨r, ?_, ?_⟩)
  · rw [Finset.mem_filter] at hx ⊢
    exact ⟨hx.1, hx.2.2⟩
  · rw [Finset.mem_filter]; exact ⟨Finset.mem_univ _, h⟩
  · rw [Finset.mem_filter]; exact fun hx => lt_irrefl _ hx.2.1

/-- Gathering reads a slot's member. -/
theorem gather {mem : Fin 512 → Prop} {r : Fin 512} {j : Fin 176} (h : mem r) (e : rank mem r = j.val) (y : Fin 512 → EReal) :
    ∑ x : Fin 512, sel mem x j * y x = y r := by
  refine (Finset.sum_eq_single r (fun x _ hx => ?_) fun hr => absurd (Finset.mem_univ _) hr).trans ?_
  · unfold sel
    rw [if_neg fun hc => hx (rank_inj hc.1 h (hc.2.trans e.symm)), zero_mul]
  · unfold sel
    rw [if_pos ⟨h, e⟩, one_mul]

/-- Scattering reads a member's slot. -/
theorem scatter {mem : Fin 512 → Prop} {r : Fin 512} {j : Fin 176} (h : mem r) (e : rank mem r = j.val) (y : Fin 176 → EReal) :
    ∑ x : Fin 176, sel mem r x * y x = y j := by
  refine (Finset.sum_eq_single j (fun x _ hx => ?_) fun hr => absurd (Finset.mem_univ _) hr).trans ?_
  · unfold sel
    rw [if_neg fun hc => hx (Fin.ext (hc.2.symm.trans e)), zero_mul]
  · unfold sel
    rw [if_pos ⟨h, e⟩, one_mul]

/-- and nothing for a row that is no member. -/
theorem scatter_none {mem : Fin 512 → Prop} {r : Fin 512} (h : ¬ mem r) (y : Fin 176 → EReal) : ∑ x : Fin 176, sel mem r x * y x = 0 :=
  Finset.sum_eq_zero fun x _ => by
    unfold sel
    rw [if_neg fun hc => h hc.1, zero_mul]

/-! ## Finite numbers -/

/-- An extended real that is a real. -/
def Plain (x : EReal) : Prop := ∃ y : ℝ, x = (y : EReal)

/-- Sums of finite numbers are finite. -/
theorem Plain.add {x y : EReal} (hx : Plain x) (hy : Plain y) : Plain (x + y) := by
  obtain ⟨a, rfl⟩ := hx; obtain ⟨b, rfl⟩ := hy; exact ⟨a + b, (EReal.coe_add a b).symm⟩

/-- So are their products. -/
theorem Plain.mul {x y : EReal} (hx : Plain x) (hy : Plain y) : Plain (x * y) := by
  obtain ⟨a, rfl⟩ := hx; obtain ⟨b, rfl⟩ := hy; exact ⟨a * b, (EReal.coe_mul a b).symm⟩

/-- And their finite sums. -/
theorem Plain.sum {ι : Type} (s : Finset ι) (f : ι → EReal) (h : ∀ i ∈ s, Plain (f i)) : Plain (∑ i ∈ s, f i) :=
  Finset.sum_induction f Plain (fun _ _ => Plain.add) ⟨0, rfl⟩ h

/-- A finite number less itself is zero; at the infinities it is not. -/
theorem Plain.sub_self {x : EReal} (hx : Plain x) : x - x = 0 := by
  obtain ⟨a, rfl⟩ := hx
  rw [← EReal.coe_sub, _root_.sub_self, EReal.coe_zero]

/-- The gate's factor is finite where its argument is. -/
theorem Plain.gate {x : EReal} (hx : Plain x) : Plain (Ideal.div 1 (1 + Ideal.exp (0 - x))) := by
  obtain ⟨a, rfl⟩ := hx
  refine ⟨1 / (1 + Real.exp (0 - a)), ?_⟩
  have e : (1 : EReal) + Ideal.exp (0 - (a : EReal)) = ((1 + Real.exp (0 - a) : ℝ) : EReal) := by
    rw [← EReal.coe_zero, ← EReal.coe_sub, Ideal.exp_coe, EReal.coe_add, EReal.coe_one]
  rw [e, Ideal.div_coe (by positivity), one_mul]

/-- An expert on a finite row with finite weights is finite. -/
theorem Plain.ffn {x : Fin 2048 → EReal} {w : EReal} {wg wu : Fin 2048 → Fin 512 → EReal} {wd : Fin 512 → Fin 2048 → EReal} (d : Fin 2048)
    (hx : ∀ k, Plain (x k)) (hw : Plain w) (hg : ∀ k f, Plain (wg k f)) (hu : ∀ k f, Plain (wu k f)) (hd : ∀ f d, Plain (wd f d)) :
    Plain (Experts.ffn x w wg wu wd d) :=
  Plain.sum _ _ fun f _ => (((Plain.sum _ _ fun k _ => (hx k).mul (hg k f)).mul (Plain.sum _ _ fun k _ => (hx k).mul (hg k f)).gate).mul
    (Plain.sum _ _ fun k _ => (hx k).mul (hu k f)) |>.mul hw).mul (hd f d)

/-- An expert whose weight is zero adds nothing. -/
theorem ffn_zero {x : Fin 2048 → EReal} {w : EReal} {wg wu : Fin 2048 → Fin 512 → EReal} {wd : Fin 512 → Fin 2048 → EReal} (d : Fin 2048)
    (hw : w = 0) : ffn x w wg wu wd d = 0 :=
  Finset.sum_eq_zero fun f _ => by rw [hw, mul_zero, zero_mul]

/-- The picked weight is the expert's lane. -/
theorem weightOf_lane (e : ℕ) (he : e < 128) (w : Fin 128 → EReal) : weightOf (BitVec.ofNat 32 e) w = w ⟨e, he⟩ := by
  unfold weightOf
  refine (Finset.sum_eq_single (⟨e, he⟩ : Fin 128) (fun l _ hl => if_neg fun hc => hl (Fin.ext ?_)) fun hr => absurd (Finset.mem_univ _) hr).trans
    (if_pos rfl)
  have := congrArg BitVec.toNat hc
  rw [BitVec.toNat_ofNat, BitVec.toNat_ofNat] at this
  show l.val = e
  omega

end Cert.Experts

end
-- ==== Proof.MoeBranch.lean ====
module
public import proofs.«01_k».proof.Proof.MoePay
public import proofs.«01_k».proof.Proof.MoeFrame

/-! What the branches of the expert kernel leave, entry by entry. A row block has two halves of 512 rows; each half has
176 slots. -/

@[expose] public section

noncomputable section

namespace Cert.Experts

open Idealize.ShloMosaic Idealize.ShloMosaic.TcCoe Idealize.SL.Sem Cert.MoeIdeal Cert.MoeIdeal.Gen Cert.MoeIdeal.Run
open Classical

/-- Row `a` of half `s`. -/
abbrev row (s : Fin 2) (a : Fin 512) : Fin 1024 := ⟨512 * s.val + a.val, by omega⟩
/-- Slot `j` of half `s`. -/
abbrev slot (s : Fin 2) (j : Fin 176) : Fin 352 := ⟨176 * s.val + j.val, by omega⟩

/-- A half of the weights' block. -/
def halfW (w : RArr 1024 128) (s : Fin 2) : RArr 512 128 := fun i => w (ix2 (row s (i 0)) (i 1))
/-- A half of the stream's block. -/
def halfX (x : HArr 1024 2048) (s : Fin 2) : HArr 512 2048 := fun i => x (ix2 (row s (i 0)) (i 1))

/-- Loading some rows of a matrix. -/
theorem ld_rows {A N n o : ℕ} {e : EltTy} (X : (⟨2, ![N, n]⟩ : Shape).Idx → Elt Ideal e)
    (inb : ∀ a, (![o, 0] : Fin 2 → ℕ) a + (![A, n] : Fin 2 → ℕ) a ≤ (⟨2, ![N, n]⟩ : Shape).size a) (a : Fin A) (k : Fin n) (h : o + a.val < N) :
    View.ld X (Rect.unit (s := ⟨2, ![N, n]⟩) ![o, 0] ![A, n] inb) (ix2 a k) = X (ix2 ⟨o + a.val, h⟩ k) :=
  View.ld_unit_apply_of X _ _ _ _ _ fun b => by
    match b with
    | ⟨0, _⟩ => rfl
    | ⟨1, _⟩ => exact (Nat.zero_add _).symm

/-- Two stores that fill the halves of a matrix, read back. -/
theorem canon_two {A N n : ℕ} {e : EltTy}
    (inb1 : ∀ a, (![A, 0] : Fin 2 → ℕ) a + (![A, n] : Fin 2 → ℕ) a ≤ (⟨2, ![N, n]⟩ : Shape).size a)
    (inb0 : ∀ a, (![0, 0] : Fin 2 → ℕ) a + (![A, n] : Fin 2 → ℕ) a ≤ (⟨2, ![N, n]⟩ : Shape).size a)
    (p1 p0 : (⟨2, ![A, n]⟩ : Shape).Idx → Elt Ideal e) (s : Fin 2) (a : Fin A) (k : Fin n) (h : A * s.val + a.val < N) :
    View.canon (Val := Elt Ideal) [⟨Rect.unit (s := ⟨2, ![N, n]⟩) ![A, 0] ![A, n] inb1, p1⟩,
      ⟨Rect.unit (s := ⟨2, ![N, n]⟩) ![0, 0] ![A, n] inb0, p0⟩] (ix2 ⟨A * s.val + a.val, h⟩ k) = if s = 0 then p0 (ix2 a k) else p1 (ix2 a k) := by
  by_cases hs : s = 0
  · subst hs
    rw [if_pos rfl, View.canon_cons_of_not_mem]
    · have e0 : (ix2 ⟨A * (0 : Fin 2).val + a.val, h⟩ k : (⟨2, ![N, n]⟩ : Shape).Idx)
          = (Rect.unit (s := ⟨2, ![N, n]⟩) ![0, 0] ![A, n] inb0).emb (ix2 a k) := funext fun b => Fin.ext (by
        match b with
        | ⟨0, _⟩ => show A * 0 + a.val = 0 + 1 * a.val; omega
        | ⟨1, _⟩ => show k.val = 0 + 1 * k.val; omega)
      rw [e0, View.canon_cons_emb]
    · intro hm
      have h0 := ((Rect.mem_set_unit (inb := inb1)).1 hm 0).1
      have : A ≤ A * 0 + a.val := h0
      omega
  · have h1 : s = 1 := by omega
    subst h1
    rw [if_neg hs]
    have e1 : (ix2 ⟨A * (1 : Fin 2).val + a.val, h⟩ k : (⟨2, ![N, n]⟩ : Shape).Idx)
        = (Rect.unit (s := ⟨2, ![N, n]⟩) ![A, 0] ![A, n] inb1).emb (ix2 a k) := funext fun b => Fin.ext (by
      match b with
      | ⟨0, _⟩ => show A * 1 + a.val = A + 1 * a.val; omega
      | ⟨1, _⟩ => show k.val = 0 + 1 * k.val; omega)
    rw [e1, View.canon_cons_emb]

/-- Loading the first half of the weights, -/
theorem ld_W0 (w : RArr 1024 128) : View.ld (Val := Elt Ideal) (e' := .f32) w rW0 = halfW w 0 := by
  funext i
  obtain ⟨a, l, rfl⟩ : ∃ (a : Fin 512) (l : Fin 128), i = ix2 a l := ⟨i 0, i 1, eq_ix2 i⟩
  exact ld_rows (e := .f32) w _ a l (by omega)

/-- and the second; -/
theorem ld_W1 (w : RArr 1024 128) : View.ld (Val := Elt Ideal) (e' := .f32) w rW1 = halfW w 1 := by
  funext i
  obtain ⟨a, l, rfl⟩ : ∃ (a : Fin 512) (l : Fin 128), i = ix2 a l := ⟨i 0, i 1, eq_ix2 i⟩
  exact ld_rows (e := .f32) w _ a l (by omega)

/-- the first half of the stream, -/
theorem ld_O0 (x : HArr 1024 2048) : View.ld (Val := Elt Ideal) (e' := .bf16) x rO0 = halfX x 0 := by
  funext i
  obtain ⟨a, l, rfl⟩ : ∃ (a : Fin 512) (l : Fin 2048), i = ix2 a l := ⟨i 0, i 1, eq_ix2 i⟩
  exact ld_rows (e := .bf16) x _ a l (by omega)

/-- and the second. -/
theorem ld_O1 (x : HArr 1024 2048) : View.ld (Val := Elt Ideal) (e' := .bf16) x rO1 = halfX x 1 := by
  funext i
  obtain ⟨a, l, rfl⟩ : ∃ (a : Fin 512) (l : Fin 2048), i = ix2 a l := ⟨i 0, i 1, eq_ix2 i⟩
  exact ld_rows (e := .bf16) x _ a l (by omega)

/-- The members of a half. -/
abbrev mem (q : BitVec 32) (w : RArr 1024 128) (s : Fin 2) : Fin 512 → Prop := memb q (halfW w s)

/-- The scatter table of a group. -/
theorem table2_apply (q : BitVec 32) (w : RArr 1024 128) (st : HArr 1024 176) (s : Fin 2) (a : Fin 512) (j : Fin 176) :
    (table2 (F := Ideal) q 1#1 w st (ix2 (row s a) j) : EReal) = sel (mem q w s) a j := by
  unfold table2
  rw [if_pos rfl]
  refine (canon_two (A := 512) (e := .bf16) _ _ _ _ s a j _).trans ?_
  by_cases hs : s = 0
  · subst hs
    rw [if_pos rfl, ld_W0]
    exact pay20_apply q (halfW w 0) a j
  · have h1 : s = 1 := by omega
    subst h1
    rw [if_neg hs, ld_W1]
    exact pay20_apply q (halfW w 1) a j

/-- The gathered rows of a group. -/
theorem rows2_apply (q : BitVec 32) (x : HArr 1024 2048) (w : RArr 1024 128) (xc : HArr 352 2048) (s : Fin 2) (j : Fin 176) (k : Fin 2048) :
    (rows2 (F := Ideal) q 1#1 x w xc (ix2 (slot s j) k) : EReal) = ∑ a : Fin 512, sel (mem q w s) a j * x (ix2 (row s a) k) := by
  unfold rows2
  rw [if_pos rfl]
  refine (canon_two (A := 176) (e := .bf16) _ _ _ _ s j k _).trans ?_
  by_cases hs : s = 0
  · subst hs
    rw [if_pos rfl, ld_W0, ld_O0]
    refine (pay12_apply _ _ j k).trans (Finset.sum_congr rfl fun a _ => ?_)
    exact congrArg (· * _) (pay19_apply q (halfW w 0) j a)
  · have h1 : s = 1 := by omega
    subst h1
    rw [if_neg hs, ld_W1, ld_O1]
    refine (pay12_apply _ _ j k).trans (Finset.sum_congr rfl fun a _ => ?_)
    exact congrArg (· * _) (pay19_apply q (halfW w 1) j a)

/-- The gathered weights, where the weights are finite: the differences they are also made of are zero. -/
theorem pay25_plain (q : BitVec 32) (w : RArr 512 128) (hw : ∀ a l, Plain (w (ix2 a l))) (j : Fin 176) (l : Fin 128) :
    (k0_pay25 (F := Ideal) w (k0_pay19 k0_pay4 (k0_pay6 q w)) (k0_pay22 w) (ix2 j l) : EReal) = ∑ a : Fin 512, sel (memb q w) a j * w (ix2 a l) := by
  rw [pay25_apply]
  have h0 : ∀ a, (w (ix2 a l) : EReal) - w (ix2 a l) = 0 := fun a => (hw a l).sub_self
  have h1 : (∑ x : Fin 512, (k0_pay19 (F := Ideal) k0_pay4 (k0_pay6 q w) (ix2 j x) : EReal) * ((w (ix2 x l) : EReal) - w (ix2 x l))) = 0 :=
    Finset.sum_eq_zero fun a _ => by rw [h0, mul_zero]
  have h2 : (∑ x : Fin 512, (k0_pay19 (F := Ideal) k0_pay4 (k0_pay6 q w) (ix2 j x) : EReal)
      * ((w (ix2 x l) : EReal) - w (ix2 x l) - (w (ix2 x l) - w (ix2 x l)))) = 0 :=
    Finset.sum_eq_zero fun a _ => by rw [h0, sub_zero, mul_zero]
  refine (congrArg₂ (· + ·) (congrArg₂ (· + ·) rfl h1) h2).trans ?_
  rw [add_zero, add_zero]
  exact Finset.sum_congr rfl fun a _ => congrArg (· * _) (pay19_apply q w j a)

/-- The gathered weights: a slot holds the weights of the row that it was given to, put together again from their parts. -/
theorem weights2_apply (q : BitVec 32) (w : RArr 1024 128) (hw : ∀ r l, Plain (w (ix2 r l))) (cc : RArr 352 128) (s : Fin 2) (j : Fin 176)
    (l : Fin 128) :
    (weights2 (F := Ideal) q 1#1 w cc (ix2 (slot s j) l) : EReal) = ∑ a : Fin 512, sel (mem q w s) a j * w (ix2 (row s a) l) := by
  unfold weights2
  rw [if_pos rfl]
  refine (canon_two (A := 176) (e := .f32) _ _ _ _ s j l _).trans ?_
  by_cases hs : s = 0
  · subst hs
    rw [if_pos rfl, ld_W0]
    exact pay25_plain q (halfW w 0) (fun a l => hw _ l) j l
  · have h1 : s = 1 := by omega
    subst h1
    rw [if_neg hs, ld_W1]
    exact pay25_plain q (halfW w 1) (fun a l => hw _ l) j l

/-- The count is the larger of the two halves'. -/
theorem cnt_eq (q : BitVec 32) (w : RArr 1024 128) (n : Vec Ideal S1 .i32) :
    cnt (F := Ideal) (count2 (F := Ideal) q 1#1 w n) = BitVec.ofNat 32 (max (count (mem q w 0)) (count (mem q w 1))) := by
  unfold cnt count2
  rw [if_pos rfl, View.canon_cons_unit_lit _ _ _ (by decide), View.ld_unit_lit _ _ (by decide), ld_W0, ld_W1]
  show Ideal.fptosi 32 (k0_pay17 (F := Ideal) (k0_pay17 (F := Ideal) (Scalar.ofBits (F := Ideal) .f32 0x00000000#32) (k0_pay16 q (halfW w 0))) (k0_pay16 q (halfW w 1))) = _
  rw [pay17_apply, pay17_apply, Cert.Nsa.zero_word]
  have hb : ∀ s, count (mem q w s) ≤ 512 := fun s => (Finset.card_le_univ _).trans (by simp)
  have e : max (max (0 : EReal) ((count (mem q w 0) : ℝ) : EReal)) ((count (mem q w 1) : ℝ) : EReal)
      = (((max (count (mem q w 0)) (count (mem q w 1)) : ℕ) : ℝ) : EReal) := by
    rw [max_eq_right (EReal.coe_nonneg.2 (Nat.cast_nonneg _)), Nat.cast_max]
    exact (EReal.coe_strictMono.monotone.map_max ..).symm
  have hm : max (count (mem q w 0)) (count (mem q w 1)) ≤ 512 := max_le (hb 0) (hb 1)
  refine (congrArg (Ideal.fptosi 32) e).trans ?_
  generalize max (count (mem q w 0)) (count (mem q w 1)) = M at hm
  rw [Ideal.fptosi, Ideal.toIntClamped_coe, if_pos (Nat.cast_nonneg _), Int.floor_natCast, min_eq_right (by norm_num; omega), max_eq_right (by norm_num)]
  exact BitVec.ofInt_natCast ..

/-- Where the count fits, so does each half. -/
theorem count_fits (q : BitVec 32) (w : RArr 1024 128) (n : Vec Ideal S1 .i32) (h : fits (cnt (F := Ideal) (count2 (F := Ideal) q 1#1 w n)) = 1#1)
    (s : Fin 2) : count (mem q w s) ≤ 176 := by
  rw [cnt_eq] at h
  have hb : ∀ s, count (mem q w s) ≤ 512 := fun s => (Finset.card_le_univ _).trans (by simp)
  have hm : max (count (mem q w 0)) (count (mem q w 1)) ≤ 512 := max_le (hb 0) (hb 1)
  unfold fits at h
  have h' : max (count (mem q w 0)) (count (mem q w 1)) ≤ 176 := by
    have := IntOp.cmpi_sle.1 h
    rw [Cert.Nsa.toInt_nat (by omega)] at this
    have e : (176#32 : BitVec 32).toInt = 176 := by decide
    rw [e] at this
    omega
  by_cases hs : s = 0
  · subst hs; exact (le_max_left _ _).trans h'
  · have h1 : s = 1 := by omega
    subst h1; exact (le_max_right _ _).trans h'

/-- The expert on the gathered rows. -/
theorem sums3_apply (a : BitVec 32) (oc : RArr 352 2048) (x : HArr 352 2048) (w : RArr 352 128) (wg wu : HStack 1 2048 512)
    (wd : HStack 1 512 2048) (r : Fin 352) (d : Fin 2048) :
    (sums3 (F := Ideal) a 1#1 oc x w wg wu wd (ix2 r d) : EReal)
      = oc (ix2 r d) + ffn (fun k => x (ix2 r k)) (weightOf a fun l => w (ix2 r l)) (fun k f => wg (ix3 0 k f)) (fun k f => wu (ix3 0 k f))
          (fun f d => wd (ix3 0 f d)) d := by
  unfold sums3
  rw [if_pos rfl, View.canon_cons_unit_lit _ _ _ (by decide)]
  rw [View.ld_unit_lit _ _ (by decide), View.ld_unit_lit _ _ (by decide), View.ld_unit_lit _ _ (by decide), View.ld_unit_lit _ _ (by decide), View.ld_unit_lit _ _ (by decide), View.ld_unit_lit _ _ (by decide)]
  exact pay23_apply a oc x w wg wu wd r d

/-- The expert on every row. -/
theorem out4_apply (a : BitVec 32) (o : RArr 1024 2048) (x : HArr 1024 2048) (w : RArr 1024 128) (wg wu : HStack 1 2048 512)
    (wd : HStack 1 512 2048) (r : Fin 1024) (d : Fin 2048) :
    (out4 (F := Ideal) a 1#1 o x w wg wu wd (ix2 r d) : EReal)
      = o (ix2 r d) + ffn (fun k => x (ix2 r k)) (weightOf a fun l => w (ix2 r l)) (fun k f => wg (ix3 0 k f)) (fun k f => wu (ix3 0 k f))
          (fun f d => wd (ix3 0 f d)) d := by
  unfold out4
  rw [if_pos rfl, View.canon_cons_unit_lit _ _ _ (by decide)]
  rw [View.ld_unit_lit _ _ (by decide), View.ld_unit_lit _ _ (by decide), View.ld_unit_lit _ _ (by decide), View.ld_unit_lit _ _ (by decide), View.ld_unit_lit _ _ (by decide), View.ld_unit_lit _ _ (by decide)]
  exact pay24_apply a o x w wg wu wd r d

/-- The slots scattered back. -/
theorem out5_apply (oc : RArr 352 2048) (o : RArr 1024 2048) (st : HArr 1024 176) (s : Fin 2) (a : Fin 512) (d : Fin 2048) :
    (out5 (F := Ideal) 1#1 oc o st (ix2 (row s a) d) : EReal) = o (ix2 (row s a) d)
      + (∑ j : Fin 176, st (ix2 (row s a) j) * oc (ix2 (slot s j) d)
        + ∑ j : Fin 176, st (ix2 (row s a) j) * (oc (ix2 (slot s j) d) - oc (ix2 (slot s j) d))) := by
  unfold out5
  rw [if_pos rfl]
  refine (canon_two (A := 512) (e := .f32) _ _ _ _ s a d _).trans ?_
  by_cases hs : s = 0
  · subst hs
    rw [if_pos rfl]
    refine (pay1_apply _ _ _ _ a d).trans ?_
    simp only [ld_rows (A := 512) (N := 1024) (n := 2048) (o := 0) (e := .f32) o _ a d (by omega),
      fun j => ld_rows (A := 512) (N := 1024) (n := 176) (o := 0) (e := .bf16) st inb_S1024x176_S512x176_0_0 a j (by omega),
      fun j : Fin 176 => ld_rows (A := 176) (N := 352) (n := 2048) (o := 0) (e := .f32) oc inb_S352x2048_S176x2048_0_0 j d (by omega)]
    rfl
  · have h1 : s = 1 := by omega
    subst h1
    rw [if_neg hs]
    refine (pay1_apply _ _ _ _ a d).trans ?_
    simp only [ld_rows (A := 512) (N := 1024) (n := 2048) (o := 512) (e := .f32) o _ a d (by omega),
      fun j => ld_rows (A := 512) (N := 1024) (n := 176) (o := 512) (e := .bf16) st inb_S1024x176_S512x176_512_0 a j (by omega),
      fun j : Fin 176 => ld_rows (A := 176) (N := 352) (n := 2048) (o := 176) (e := .f32) oc inb_S352x2048_S176x2048_176_0 j d (by omega)]
    rfl

/-- The residual. -/
theorem out1_eq (h o : RArr 1024 2048) : out1 (F := Ideal) 1#1 h o = h := by
  unfold out1
  rw [if_pos rfl, View.canon_cons_unit_lit _ _ _ (by decide), View.ld_unit_lit _ _ (by decide)]

/-- The cleared sums. -/
theorem sums2_apply (oc : RArr 352 2048) (r : Fin 352) (d : Fin 2048) : (sums2 (F := Ideal) 1#1 oc (ix2 r d) : EReal) = 0 := by
  unfold sums2
  rw [if_pos rfl, View.canon_cons_unit_lit _ _ _ (by decide)]
  exact pay26_apply r d

/-- The normalised block. -/
theorem out6_apply (o : RArr 1024 2048) (g : RArr 1 2048) (r : Fin 1024) (d : Fin 2048) :
    (out6 (F := Ideal) 1#1 o g (ix2 r d) : EReal) = normed (fun k => o (ix2 r k)) (fun k => g (ix2 0 k)) d := by
  unfold out6
  rw [if_pos rfl, View.canon_cons_unit_lit _ _ _ (by decide), View.ld_unit_lit _ _ (by decide), View.ld_unit_lit _ _ (by decide)]
  exact pay3_apply o g r d

end Cert.Experts

end
-- ==== Proof.MoeState.lean ====
module
public import proofs.«01_k».proof.Proof.MoeBranch

/-! What the expert kernel's buffers hold after each expert of a row block. -/

@[expose] public section

noncomputable section

namespace Cert.Experts

open Idealize.ShloMosaic Idealize.ShloMosaic.TcCoe Idealize.SL.Sem Cert.MoeIdeal Cert.MoeIdeal.Gen Cert.MoeIdeal.Run
open Classical

variable (x : HArr 1024 2048) (w : RArr 1024 128) (h : RArr 1024 2048) (wg wu : ℕ → HStack 1 2048 512) (wd : ℕ → HStack 1 512 2048) (g : RArr 1 2048)

/-- What expert `e` adds to a row of the block. -/
def term (e : ℕ) (r : Fin 1024) (d : Fin 2048) : EReal :=
  ffn (fun k => x (ix2 r k)) (weightOf (BitVec.ofNat 32 e) fun l => w (ix2 r l)) (fun k f => wg e (ix3 0 k f)) (fun k f => wu e (ix3 0 k f))
    (fun f d => wd e (ix3 0 f d)) d

/-- What the claim supposes of a row block: finite numbers, and no weight outside a row's group. -/
structure Supposed : Prop where
  hx : ∀ r k, Plain (x (ix2 r k))
  hw : ∀ r l, Plain (w (ix2 r l))
  hg : ∀ e k f, Plain (wg e (ix3 0 k f))
  hu : ∀ e k f, Plain (wu e (ix3 0 k f))
  hd : ∀ e f d, Plain (wd e (ix3 0 f d))
  routed : ∀ e (he : e < 16) (r : Fin 1024), (w (ix2 r 16) : EReal) ≠ (((e / 4 : ℕ) : ℝ) : EReal) → w (ix2 r ⟨e, by omega⟩) = (0 : EReal)

variable {x w wg wu wd}

/-- Every expert's share of a row is finite. -/
theorem term_plain (H : Supposed x w wg wu wd) (e : ℕ) (he : e < 16) (r : Fin 1024) (d : Fin 2048) : Plain (term x w wg wu wd e r d) :=
  Plain.ffn d (H.hx r) (by rw [weightOf_lane e (by omega)]; exact H.hw _ _) (H.hg e) (H.hu e) (H.hd e)

/-- A row outside an expert's group gets nothing from it. -/
theorem term_zero (H : Supposed x w wg wu wd) (e : ℕ) (he : e < 16) (s : Fin 2) (a : Fin 512) (hm : ¬ mem (BitVec.ofNat 32 (e / 4)) w s a)
    (d : Fin 2048) : term x w wg wu wd e (row s a) d = 0 := by
  refine ffn_zero d ?_
  rw [weightOf_lane e (by omega)]
  refine H.routed e he (row s a) fun hc => hm ?_
  refine hc.trans ?_
  rw [Cert.Nsa.toInt_nat (by omega)]
  rfl

/-- An expert on a slot is the expert on the slot's member. -/
theorem slot_term (H : Supposed x w wg wu wd) (q : BitVec 32) (e : ℕ) (s : Fin 2) (a : Fin 512) (j : Fin 176) (hm : mem q w s a)
    (hj : rank (mem q w s) a = j.val) (xc : HArr 352 2048) (cc : RArr 352 128) (d : Fin 2048) :
    ffn (fun k => rows2 (F := Ideal) q 1#1 x w xc (ix2 (slot s j) k))
      (weightOf (BitVec.ofNat 32 e) fun l => weights2 (F := Ideal) q 1#1 w cc (ix2 (slot s j) l)) (fun k f => wg e (ix3 0 k f))
      (fun k f => wu e (ix3 0 k f)) (fun f d => wd e (ix3 0 f d)) d = term x w wg wu wd e (row s a) d := by
  unfold term
  have e1 : (fun k => (rows2 (F := Ideal) q 1#1 x w xc (ix2 (slot s j) k) : EReal)) = fun k => x (ix2 (row s a) k) :=
    funext fun k => (rows2_apply q x w xc s j k).trans (gather hm hj fun a => x (ix2 (row s a) k))
  have e2 : (fun l => (weights2 (F := Ideal) q 1#1 w cc (ix2 (slot s j) l) : EReal)) = fun l => w (ix2 (row s a) l) :=
    funext fun l => (weights2_apply q w H.hw cc s j l).trans (gather hm hj fun a => w (ix2 (row s a) l))
  rw [e1, e2]

/-- The gathered rows of a newly opened group do not depend on what was there. -/
theorem rows2_any (q : BitVec 32) (z z' : HArr 352 2048) : rows2 (F := Ideal) q 1#1 x w z = rows2 (F := Ideal) q 1#1 x w z' := by
  unfold rows2
  rw [if_pos rfl, if_pos rfl]

/-- Nor the gathered weights, -/
theorem weights2_any (q : BitVec 32) (z z' : RArr 352 128) : weights2 (F := Ideal) q 1#1 w z = weights2 (F := Ideal) q 1#1 w z' := by
  unfold weights2
  rw [if_pos rfl, if_pos rfl]

/-- nor the table, -/
theorem table2_any (q : BitVec 32) (z z' : HArr 1024 176) : table2 (F := Ideal) q 1#1 w z = table2 (F := Ideal) q 1#1 w z' := by
  unfold table2
  rw [if_pos rfl, if_pos rfl]

/-- nor the count. -/
theorem count2_any (q : BitVec 32) (z z' : Vec Ideal S1 .i32) : count2 (F := Ideal) q 1#1 w z = count2 (F := Ideal) q 1#1 w z' := by
  unfold count2
  rw [if_pos rfl, if_pos rfl]

/-- Inside a group the gathered rows are kept, -/
theorem rows2_keep (q : BitVec 32) (z : HArr 352 2048) : rows2 (F := Ideal) q 0#1 x w z = z := by
  unfold rows2
  rw [if_neg (by decide)]

/-- and the weights, -/
theorem weights2_keep (q : BitVec 32) (z : RArr 352 128) : weights2 (F := Ideal) q 0#1 w z = z := by
  unfold weights2
  rw [if_neg (by decide)]

/-- and the table, -/
theorem table2_keep (q : BitVec 32) (z : HArr 1024 176) : table2 (F := Ideal) q 0#1 w z = z := by
  unfold table2
  rw [if_neg (by decide)]

/-- and the count. -/
theorem count2_keep (q : BitVec 32) (z : Vec Ideal S1 .i32) : count2 (F := Ideal) q 0#1 w z = z := by
  unfold count2
  rw [if_neg (by decide)]

/-- Inside a group the sums are kept, -/
theorem sums2_keep (oc : RArr 352 2048) : sums2 (F := Ideal) 0#1 oc = oc := by
  unfold sums2
  rw [if_neg (by decide)]

/-- and after the first expert the output block. -/
theorem out1_keep (h o : RArr 1024 2048) : out1 (F := Ideal) 0#1 h o = o := by
  unfold out1
  rw [if_neg (by decide)]

/-- Where the members fit no expert runs on every row. -/
theorem out4_keep (b : BitVec 32) (v : BitVec 1) (hv : v ≠ 1#1) (o : RArr 1024 2048) (wg wu : HStack 1 2048 512) (wd : HStack 1 512 2048) :
    out4 (F := Ideal) b v o x w wg wu wd = o := by
  unfold out4
  rw [if_neg hv]

/-- Nothing is scattered where the group stays open or did not fit. -/
theorem out5_keep (v : BitVec 1) (hv : v ≠ 1#1) (oc : RArr 352 2048) (o : RArr 1024 2048) (st : HArr 1024 176) :
    out5 (F := Ideal) v oc o st = o := by
  unfold out5
  rw [if_neg hv]

/-- The block is normalized after the last expert only. -/
theorem out6_keep (o : RArr 1024 2048) (g : RArr 1 2048) : out6 (F := Ideal) 0#1 o g = o := by
  unfold out6
  rw [if_neg (by decide)]

variable (x w wg wu wd)

/-- How many experts the output block has taken in after expert `e`: all, or those of the groups closed. -/
def taken (fit : BitVec 1) (e : ℕ) : ℕ := if fit = 1#1 ∧ e % 4 ≠ 3 then 4 * (e / 4) else e + 1

/-- What the buffers hold after expert `e`. -/
structure After (e : ℕ) (S : St Ideal) : Prop where
  xc : S.xc = rows2 (F := Ideal) (BitVec.ofNat 32 (e / 4)) 1#1 x w S.xc
  cc : S.cc = weights2 (F := Ideal) (BitVec.ofNat 32 (e / 4)) 1#1 w S.cc
  st : S.st = table2 (F := Ideal) (BitVec.ofNat 32 (e / 4)) 1#1 w S.st
  n : S.n = count2 (F := Ideal) (BitVec.ofNat 32 (e / 4)) 1#1 w S.n
  oc : fits (cnt (F := Ideal) S.n) = 1#1 → ∀ (s : Fin 2) (a : Fin 512) (j : Fin 176), mem (BitVec.ofNat 32 (e / 4)) w s a →
    rank (mem (BitVec.ofNat 32 (e / 4)) w s) a = j.val → ∀ d,
      (S.oc (ix2 (slot s j) d) : EReal) = ∑ e' ∈ Finset.Ico (4 * (e / 4)) (e + 1), term x w wg wu wd e' (row s a) d
  o : ∃ p : RArr 1024 2048, S.o = out6 (F := Ideal) (if e = 15 then 1#1 else 0#1) p g ∧ ∀ (s : Fin 2) (a : Fin 512) (d : Fin 2048),
    (p (ix2 (row s a) d) : EReal)
      = h (ix2 (row s a) d) + ∑ e' ∈ Finset.range (taken (fits (cnt (F := Ideal) S.n)) e), term x w wg wu wd e' (row s a) d

/-- What the flags of a point say of its expert. -/
structure Flags (i : grid0.Coords) (e : ℕ) : Prop where
  expert : expert i = BitVec.ofNat 32 e
  group : group i = BitVec.ofNat 32 (e / 4)
  first : isFirst i = if e = 0 then 1#1 else 0#1
  opens : opensGroup i = if e % 4 = 0 then 1#1 else 0#1
  closes : closesGroup (BitVec.ofNat 32 e) = if e % 4 = 3 then 1#1 else 0#1
  last : isLast (BitVec.ofNat 32 e) = if e = 15 then 1#1 else 0#1

variable {x w wg wu wd}

/-- Whether or not an expert opens its group, the group's table, rows, weights and count are the row block's. -/
theorem opened (i : grid0.Coords) (e : ℕ) (Fl : Flags i e) (S : St Ideal) (hS : e ≠ 0 → After x w h wg wu wd g (e - 1) S) :
    rows2 (F := Ideal) (BitVec.ofNat 32 (e / 4)) (opensGroup i) x w S.xc = rows2 (F := Ideal) (BitVec.ofNat 32 (e / 4)) 1#1 x w S.xc
    ∧ weights2 (F := Ideal) (BitVec.ofNat 32 (e / 4)) (opensGroup i) w S.cc = weights2 (F := Ideal) (BitVec.ofNat 32 (e / 4)) 1#1 w S.cc
    ∧ table2 (F := Ideal) (BitVec.ofNat 32 (e / 4)) (opensGroup i) w S.st = table2 (F := Ideal) (BitVec.ofNat 32 (e / 4)) 1#1 w S.st
    ∧ count2 (F := Ideal) (BitVec.ofNat 32 (e / 4)) (opensGroup i) w S.n = count2 (F := Ideal) (BitVec.ofNat 32 (e / 4)) 1#1 w S.n := by
  rw [Fl.opens]
  by_cases ho : e % 4 = 0
  · rw [if_pos ho]
    exact ⟨rfl, rfl, rfl, rfl⟩
  · have B := hS (by omega)
    have hq : (e - 1) / 4 = e / 4 := by omega
    have h1 := B.xc
    have h2 := B.cc
    have h3 := B.st
    have h4 := B.n
    rw [hq] at h1 h2 h3 h4
    rw [if_neg ho, rows2_keep, weights2_keep, table2_keep, count2_keep]
    exact ⟨h1, h2, h3, h4⟩

/-- The sums over the slots before an expert, where the members fit. -/
theorem base (i : grid0.Coords) (e : ℕ) (Fl : Flags i e) (S : St Ideal) (hS : e ≠ 0 → After x w h wg wu wd g (e - 1) S)
    (hn : e % 4 ≠ 0 → fits (cnt (F := Ideal) S.n) = 1#1) (s : Fin 2) (a : Fin 512) (j : Fin 176)
    (hm : mem (BitVec.ofNat 32 (e / 4)) w s a) (hj : rank (mem (BitVec.ofNat 32 (e / 4)) w s) a = j.val) (d : Fin 2048) :
    (sums2 (F := Ideal) (opensGroup i) S.oc (ix2 (slot s j) d) : EReal)
      = ∑ e' ∈ Finset.Ico (4 * (e / 4)) e, term x w wg wu wd e' (row s a) d := by
  rw [Fl.opens]
  by_cases ho : e % 4 = 0
  · rw [if_pos ho, show 4 * (e / 4) = e by omega, Finset.Ico_self, Finset.sum_empty]
    exact sums2_apply S.oc (slot s j) d
  · have B := (hS (by omega)).oc (hn ho)
    rw [show (e - 1) / 4 = e / 4 by omega, show e - 1 + 1 = e by omega] at B
    rw [if_neg ho, sums2_keep]
    exact B s a j hm hj d

/-- The output block before an expert. -/
theorem start (i : grid0.Coords) (e : ℕ) (he : e < 16) (Fl : Flags i e) (S : St Ideal) (hS : e ≠ 0 → After x w h wg wu wd g (e - 1) S)
    (fit : BitVec 1) (hn : e % 4 ≠ 0 → fits (cnt (F := Ideal) S.n) = fit) (s : Fin 2) (a : Fin 512) (d : Fin 2048) :
    (out1 (F := Ideal) (isFirst i) h S.o (ix2 (row s a) d) : EReal)
      = h (ix2 (row s a) d) + ∑ e' ∈ Finset.range (if fit = 1#1 then 4 * (e / 4) else e), term x w wg wu wd e' (row s a) d := by
  rw [Fl.first]
  by_cases h0 : e = 0
  · subst h0
    rw [if_pos rfl, out1_eq, show (if fit = 1#1 then 4 * (0 / 4) else 0) = 0 by split <;> rfl, Finset.range_zero, Finset.sum_empty, add_zero]
  · obtain ⟨p, hp, hv⟩ := (hS h0).o
    rw [if_neg (by omega), out6_keep] at hp
    rw [if_neg h0, out1_keep, hp, hv s a d]
    have hb : taken (fits (cnt (F := Ideal) S.n)) (e - 1) = if fit = 1#1 then 4 * (e / 4) else e := by
      unfold taken
      by_cases ho : e % 4 = 0
      · rw [if_neg (by omega), show 4 * (e / 4) = e by omega, ite_self]; omega
      · rw [hn ho, show (e - 1) / 4 = e / 4 by omega]
        by_cases hf : fit = 1#1
        · rw [if_pos ⟨hf, by omega⟩, if_pos hf]
        · rw [if_neg fun hc => hf hc.1, if_neg hf]; omega
    rw [hb]

/-- The output block after an expert whose group does not fit. -/
theorem spread (e : ℕ) (o : RArr 1024 2048) (oc : RArr 352 2048) (st : HArr 1024 176)
    (ho : ∀ (s : Fin 2) (a : Fin 512) (d : Fin 2048), (o (ix2 (row s a) d) : EReal)
      = h (ix2 (row s a) d) + ∑ e' ∈ Finset.range e, term x w wg wu wd e' (row s a) d) (v : BitVec 1) (hv : v ≠ 1#1)
    (s : Fin 2) (a : Fin 512) (d : Fin 2048) :
    (out5 (F := Ideal) v oc (out4 (F := Ideal) (BitVec.ofNat 32 e) 1#1 o x w (wg e) (wu e) (wd e)) st (ix2 (row s a) d) : EReal)
      = h (ix2 (row s a) d) + ∑ e' ∈ Finset.range (e + 1), term x w wg wu wd e' (row s a) d := by
  rw [out5_keep _ hv, out4_apply, ho s a d, Finset.sum_range_succ, add_assoc]
  rfl

/-- The output block after the expert that closes a group that fits: the group's sums are scattered back. -/
theorem closed (H : Supposed x w wg wu wd) (e : ℕ) (he : e < 16) (o : RArr 1024 2048) (oc : RArr 352 2048) (z : HArr 1024 176)
    (hcount : ∀ s : Fin 2, count (mem (BitVec.ofNat 32 (e / 4)) w s) ≤ 176)
    (sums : ∀ (s : Fin 2) (a : Fin 512) (j : Fin 176), mem (BitVec.ofNat 32 (e / 4)) w s a →
      rank (mem (BitVec.ofNat 32 (e / 4)) w s) a = j.val → ∀ d,
      (oc (ix2 (slot s j) d) : EReal) = ∑ e' ∈ Finset.Ico (4 * (e / 4)) (e + 1), term x w wg wu wd e' (row s a) d)
    (ho : ∀ (s : Fin 2) (a : Fin 512) (d : Fin 2048), (o (ix2 (row s a) d) : EReal)
      = h (ix2 (row s a) d) + ∑ e' ∈ Finset.range (4 * (e / 4)), term x w wg wu wd e' (row s a) d)
    (s : Fin 2) (a : Fin 512) (d : Fin 2048) :
    (out5 (F := Ideal) 1#1 oc o (table2 (F := Ideal) (BitVec.ofNat 32 (e / 4)) 1#1 w z) (ix2 (row s a) d) : EReal)
      = h (ix2 (row s a) d) + ∑ e' ∈ Finset.range (e + 1), term x w wg wu wd e' (row s a) d := by
  have hsel : ∀ j : Fin 176, (table2 (F := Ideal) (BitVec.ofNat 32 (e / 4)) 1#1 w z (ix2 (row s a) j) : EReal)
      = sel (mem (BitVec.ofNat 32 (e / 4)) w s) a j := fun j => table2_apply ..
  have key : (∑ j : Fin 176, sel (mem (BitVec.ofNat 32 (e / 4)) w s) a j * (oc (ix2 (slot s j) d) : EReal))
      + (∑ j : Fin 176, sel (mem (BitVec.ofNat 32 (e / 4)) w s) a j * ((oc (ix2 (slot s j) d) : EReal) - oc (ix2 (slot s j) d)))
      = ∑ e' ∈ Finset.Ico (4 * (e / 4)) (e + 1), term x w wg wu wd e' (row s a) d := by
    generalize hy : (fun j : Fin 176 => (oc (ix2 (slot s j) d) : EReal)) = y
    have hyj : ∀ j, (oc (ix2 (slot s j) d) : EReal) = y j := fun j => congrFun hy j
    simp only [hyj]
    by_cases hm : mem (BitVec.ofNat 32 (e / 4)) w s a
    · have hr : rank (mem (BitVec.ofNat 32 (e / 4)) w s) a < 176 := (rank_lt hm).trans_le (hcount s)
      have hs := (hyj _).symm.trans (sums s a ⟨_, hr⟩ hm rfl d)
      have hp : Plain (∑ e' ∈ Finset.Ico (4 * (e / 4)) (e + 1), term x w wg wu wd e' (row s a) d) :=
        Plain.sum _ _ fun e' he' => term_plain H e' (by rw [Finset.mem_Ico] at he'; omega) _ _
      rw [scatter (j := ⟨_, hr⟩) hm rfl y, scatter (j := ⟨_, hr⟩) hm rfl fun j => y j - y j, hs, hp.sub_self, add_zero]
    · rw [scatter_none hm y, scatter_none hm fun j => y j - y j, add_zero]
      refine (Finset.sum_eq_zero fun e' he' => ?_).symm
      rw [Finset.mem_Ico] at he'
      exact term_zero H e' (by omega) s a (by rw [show e' / 4 = e / 4 by omega]; exact hm) d
  have hsum : ∑ e' ∈ Finset.range (e + 1), term x w wg wu wd e' (row s a) d
      = ∑ e' ∈ Finset.range (4 * (e / 4)), term x w wg wu wd e' (row s a) d
        + ∑ e' ∈ Finset.Ico (4 * (e / 4)) (e + 1), term x w wg wu wd e' (row s a) d :=
    (Finset.sum_range_add_sum_Ico _ (show 4 * (e / 4) ≤ e + 1 by omega)).symm
  rw [hsum, ← key, ← add_assoc, ← ho s a d]
  refine (out5_apply oc o _ s a d).trans ?_
  simp only [hsel]

/-- The buffers after an expert, from the buffers after the expert before. -/
theorem after_step (H : Supposed x w wg wu wd) (i : grid0.Coords) (e : ℕ) (he : e < 16) (Fl : Flags i e) (S : St Ideal)
    (hS : e ≠ 0 → After x w h wg wu wd g (e - 1) S) :
    After x w h wg wu wd g e (step (F := Ideal) i x w h (wg e) (wu e) (wd e) g S) := by
  obtain ⟨hxc, hcc, hst, hn⟩ := opened h g i e Fl S hS
  have hcount := count_fits (BitVec.ofNat 32 (e / 4)) w S.n
  have hkeep : e % 4 ≠ 0 → count2 (F := Ideal) (BitVec.ofNat 32 (e / 4)) 1#1 w S.n = S.n := fun ho => by
    rw [← hn, Fl.opens, if_neg ho, count2_keep]
  obtain ⟨S', hS'⟩ : ∃ S', S' = step (F := Ideal) i x w h (wg e) (wu e) (wd e) g S := ⟨_, rfl⟩
  have exc : S'.xc = rows2 (F := Ideal) (group i) (opensGroup i) x w S.xc := by subst hS'; unfold step; dsimp only
  have ecc : S'.cc = weights2 (F := Ideal) (group i) (opensGroup i) w S.cc := by subst hS'; unfold step; dsimp only
  have est : S'.st = table2 (F := Ideal) (group i) (opensGroup i) w S.st := by subst hS'; unfold step; dsimp only
  have en : S'.n = count2 (F := Ideal) (group i) (opensGroup i) w S.n := by subst hS'; unfold step; dsimp only
  have eoc : S'.oc = sums3 (F := Ideal) (expert i) (Scalar.cmpi .ne (Scalar.extui (fits (cnt (F := Ideal) S'.n))) 0#32)
      (sums2 (F := Ideal) (opensGroup i) S.oc) S'.xc S'.cc (wg e) (wu e) (wd e) := by subst hS'; unfold step; dsimp only
  have eo : S'.o = out6 (F := Ideal) (isLast (expert i))
      (out5 (F := Ideal) (Scalar.cmpi .ne (Scalar.extui (Scalar.andi (fits (cnt (F := Ideal) S'.n)) (closesGroup (expert i)))) 0#32) S'.oc
        (out4 (F := Ideal) (expert i) (Scalar.cmpi .ne (Scalar.extui (Scalar.xori (fits (cnt (F := Ideal) S'.n)) 1#1)) 0#32)
          (out1 (F := Ideal) (isFirst i) h S.o) x w (wg e) (wu e) (wd e)) S'.st) g := by subst hS'; unfold step; dsimp only
  rw [← hS']
  clear hS'
  rw [Fl.group, hxc] at exc
  rw [Fl.group, hcc] at ecc
  rw [Fl.group, hst] at est
  rw [Fl.group, hn] at en
  rw [Fl.expert, exc, ecc] at eoc
  rw [Fl.expert, Fl.last, Fl.closes, est] at eo
  rw [← en] at hcount
  have hfit : e % 4 ≠ 0 → fits (cnt (F := Ideal) S.n) = fits (cnt (F := Ideal) S'.n) := fun ho => by rw [en, hkeep ho]
  have hstart := start h g i e he Fl S hS _ hfit
  generalize hf : fits (cnt (F := Ideal) S'.n) = fit at *
  have sums : fit = 1#1 → ∀ (s : Fin 2) (a : Fin 512) (j : Fin 176), mem (BitVec.ofNat 32 (e / 4)) w s a →
      rank (mem (BitVec.ofNat 32 (e / 4)) w s) a = j.val → ∀ d,
      (S'.oc (ix2 (slot s j) d) : EReal) = ∑ e' ∈ Finset.Ico (4 * (e / 4)) (e + 1), term x w wg wu wd e' (row s a) d := fun h1 s a j hm hj d => by
    have hv : (Scalar.cmpi .ne (Scalar.extui fit) 0#32 : BitVec 1) = 1#1 := by rw [h1]; decide
    rw [eoc, hv, sums3_apply, base h g i e Fl S hS (fun ho => (hfit ho).trans h1) s a j hm hj d, slot_term H _ e s a j hm hj,
      Finset.sum_Ico_succ_top (by omega)]
  have res : ∀ (s : Fin 2) (a : Fin 512) (d : Fin 2048),
      (out5 (F := Ideal) (Scalar.cmpi .ne (Scalar.extui (Scalar.andi fit (if e % 4 = 3 then 1#1 else 0#1))) 0#32) S'.oc
        (out4 (F := Ideal) (BitVec.ofNat 32 e) (Scalar.cmpi .ne (Scalar.extui (Scalar.xori fit 1#1)) 0#32)
          (out1 (F := Ideal) (isFirst i) h S.o) x w (wg e) (wu e) (wd e)) (table2 (F := Ideal) (BitVec.ofNat 32 (e / 4)) 1#1 w S.st)
        (ix2 (row s a) d) : EReal)
      = h (ix2 (row s a) d) + ∑ e' ∈ Finset.range (taken fit e), term x w wg wu wd e' (row s a) d := by
    rcases BitVec.eq_zero_or_eq_one fit with h0 | h1
    · subst h0
      have c1 : (Scalar.cmpi .ne (Scalar.extui (Scalar.andi (0#1 : BitVec 1) (if e % 4 = 3 then 1#1 else 0#1))) 0#32 : BitVec 1) ≠ 1#1 := by
        split <;> decide
      have c2 : (Scalar.cmpi .ne (Scalar.extui (Scalar.xori (0#1 : BitVec 1) 1#1)) 0#32 : BitVec 1) = 1#1 := by decide
      rw [c2, show taken 0#1 e = e + 1 from if_neg fun hc => absurd hc.1 (by decide)]
      exact spread h e _ _ _ hstart _ c1
    · subst h1
      have c2 : (Scalar.cmpi .ne (Scalar.extui (Scalar.xori (1#1 : BitVec 1) 1#1)) 0#32 : BitVec 1) ≠ 1#1 := by decide
      rw [out4_keep _ _ c2]
      by_cases hc : e % 4 = 3
      · have c1 : (Scalar.cmpi .ne (Scalar.extui (Scalar.andi (1#1 : BitVec 1) (1#1 : BitVec 1))) 0#32 : BitVec 1) = 1#1 := by decide
        rw [if_pos hc, c1, show taken 1#1 e = e + 1 from if_neg fun hh => hh.2 hc]
        exact closed h H e he _ _ _ (hcount rfl) (sums rfl) hstart
      · have c1 : (Scalar.cmpi .ne (Scalar.extui (Scalar.andi (1#1 : BitVec 1) (0#1 : BitVec 1))) 0#32 : BitVec 1) ≠ 1#1 := by decide
        rw [if_neg hc, out5_keep _ c1, show taken 1#1 e = 4 * (e / 4) from if_pos ⟨rfl, hc⟩]
        exact hstart
  refine ⟨exc.trans (rows2_any _ _ _), ecc.trans (weights2_any _ _ _), est.trans (table2_any _ _ _), en.trans (count2_any _ _ _), ?_, ?_⟩
  · rw [hf]
    exact sums
  · rw [hf]
    exact ⟨_, eo, res⟩

end Cert.Experts

end
-- ==== Proof.MoeValue.lean ====
module
public import proofs.«01_k».proof.Proof.MoeState
public import proofs.«01_k».proof.Proof.Gen.MoeRefIdeal.Read
public import Idealize.ShloMosaic.Lib.Pipeline.ValueKit

/-! The expert kernel's result array, entry by entry. -/

@[expose] public section

noncomputable section

namespace Cert.Experts

open Idealize.ShloMosaic Idealize.ShloMosaic.TcCoe Idealize.SL.Sem Cert.MoeIdeal Cert.MoeIdeal.Gen Cert.MoeIdeal.Run

/-- A row block of a matrix. -/
def rowsOf {b : ℕ} {f : FTy} (x : FVec Ideal ⟨2, ![16384, b]⟩ f) (i : ℕ) : FVec Ideal ⟨2, ![1024, b]⟩ f :=
  fun y => x (ix2 ⟨1024 * (i % 16) + (y 0).val, by have h1 : (y 0).val < 1024 := (y 0).isLt; have h2 := Nat.mod_lt i (show 0 < 16 by decide); omega⟩ (y 1))

/-- One expert's matrix. -/
def layerOf {a b : ℕ} (x : HStack 16 a b) (e : ℕ) : HStack 1 a b := fun y => x (ix3 ⟨e % 16, Nat.mod_lt _ (by decide)⟩ (y 1) (y 2))

variable (m : (ℓ : Loc nD τ sig) → Buf (Elt Ideal) ℓ) (c : Dev nD) (t : Fin cfg0.N)

/-- The stream's block of a grid point. -/
theorem idx0 : ∀ t : Fin cfg0.N, win0_0.index t = ![t.val / 16, 0] := (by decide +kernel : ∀ t : Fin grid0.N, _)
/-- The router's. -/
theorem idx1 : ∀ t : Fin cfg0.N, win0_1.index t = ![t.val / 16, 0] := (by decide +kernel : ∀ t : Fin grid0.N, _)
/-- The residual's. -/
theorem idx2 : ∀ t : Fin cfg0.N, win0_2.index t = ![t.val / 16, 0] := (by decide +kernel : ∀ t : Fin grid0.N, _)
/-- The gate's matrix. -/
theorem idx3 : ∀ t : Fin cfg0.N, win0_3.index t = ![t.val % 16, 0, 0] := (by decide +kernel : ∀ t : Fin grid0.N, _)
/-- The other factor's. -/
theorem idx4 : ∀ t : Fin cfg0.N, win0_4.index t = ![t.val % 16, 0, 0] := (by decide +kernel : ∀ t : Fin grid0.N, _)
/-- The last one's. -/
theorem idx5 : ∀ t : Fin cfg0.N, win0_5.index t = ![t.val % 16, 0, 0] := (by decide +kernel : ∀ t : Fin grid0.N, _)
/-- The gain, whole. -/
theorem idx6 : ∀ t : Fin cfg0.N, win0_6.index t = ![0, 0] := (by decide +kernel : ∀ t : Fin grid0.N, _)
/-- The result's. -/
theorem idx7 : ∀ t : Fin cfg0.N, win0_7.index t = ![t.val / 16, 0] := (by decide +kernel : ∀ t : Fin grid0.N, _)

/-- There are 256 grid points. -/
theorem lt_N : t.val < 256 := t.isLt

/-- The flags of a grid point. -/
theorem flags : Flags (grid0.coords t) (t.val % 16) where
  expert := (by decide +kernel : ∀ t : Fin grid0.N, expert (grid0.coords t) = BitVec.ofNat 32 (t.val % 16)) t
  group := (by decide +kernel : ∀ t : Fin grid0.N, group (grid0.coords t) = BitVec.ofNat 32 (t.val % 16 / 4)) t
  first := (by decide +kernel : ∀ t : Fin grid0.N, isFirst (grid0.coords t) = if t.val % 16 = 0 then 1#1 else 0#1) t
  opens := (by decide +kernel : ∀ t : Fin grid0.N, opensGroup (grid0.coords t) = if t.val % 16 % 4 = 0 then 1#1 else 0#1) t
  closes := (by decide +kernel : ∀ e : Fin 16, closesGroup (BitVec.ofNat 32 e.val) = if e.val % 4 = 3 then 1#1 else 0#1)
    ⟨t.val % 16, Nat.mod_lt _ (by decide)⟩
  last := (by decide +kernel : ∀ e : Fin 16, isLast (BitVec.ofNat 32 e.val) = if e.val = 15 then 1#1 else 0#1)
    ⟨t.val % 16, Nat.mod_lt _ (by decide)⟩

/-- The stream's block, -/
theorem blk0 : iblk m c 0 t = rowsOf (f := .bf16) (V m c main_arg0) (t.val / 16) := by
  funext y
  obtain ⟨a, k, rfl⟩ : ∃ (a : Fin 1024) (k : Fin 2048), y = ix2 a k := ⟨y 0, y 1, eq_ix2 y⟩
  have := lt_N t
  unfold rowsOf
  blk_ext! [iblk, idx0 t]

/-- the router's, -/
theorem blk1 : iblk m c 1 t = rowsOf (f := .f32) (V m c main_arg1) (t.val / 16) := by
  funext y
  obtain ⟨a, k, rfl⟩ : ∃ (a : Fin 1024) (k : Fin 128), y = ix2 a k := ⟨y 0, y 1, eq_ix2 y⟩
  have := lt_N t
  unfold rowsOf
  blk_ext! [iblk, idx1 t]

/-- the residual's, -/
theorem blk2 : iblk m c 2 t = rowsOf (f := .f32) (V m c main_arg2) (t.val / 16) := by
  funext y
  obtain ⟨a, k, rfl⟩ : ∃ (a : Fin 1024) (k : Fin 2048), y = ix2 a k := ⟨y 0, y 1, eq_ix2 y⟩
  have := lt_N t
  unfold rowsOf
  blk_ext! [iblk, idx2 t]

/-- the gate's matrix, -/
theorem blk3 : iblk m c 3 t = layerOf (V m c main_v0) (t.val % 16) := by
  funext y
  obtain ⟨z, k, f, rfl⟩ : ∃ (z : Fin 1) (k : Fin 2048) (f : Fin 512), y = ix3 z k f := ⟨y 0, y 1, y 2, eq_ix3 y⟩
  have := lt_N t
  unfold layerOf
  blk_ext! [iblk, idx3 t]

/-- the other factor's, -/
theorem blk4 : iblk m c 4 t = layerOf (V m c main_v1) (t.val % 16) := by
  funext y
  obtain ⟨z, k, f, rfl⟩ : ∃ (z : Fin 1) (k : Fin 2048) (f : Fin 512), y = ix3 z k f := ⟨y 0, y 1, y 2, eq_ix3 y⟩
  have := lt_N t
  unfold layerOf
  blk_ext! [iblk, idx4 t]

/-- the last one's, -/
theorem blk5 : iblk m c 5 t = layerOf (V m c main_v2) (t.val % 16) := by
  funext y
  obtain ⟨z, k, f, rfl⟩ : ∃ (z : Fin 1) (k : Fin 512) (f : Fin 2048), y = ix3 z k f := ⟨y 0, y 1, y 2, eq_ix3 y⟩
  have := lt_N t
  unfold layerOf
  blk_ext! [iblk, idx5 t]

/-- and the gain. -/
theorem blk6 : iblk m c 6 t = V m c main_v3 := by
  funext y
  obtain ⟨z, k, rfl⟩ : ∃ (z : Fin 1) (k : Fin 2048), y = ix2 z k := ⟨y 0, y 1, eq_ix2 y⟩
  blk_ext! [iblk, idx6 t]

/-- The gate's matrices are converted on the way in, which over the extended reals changes nothing. -/
theorem weights_gate : V m c main_v0 = m ((c : Thread nD τ).loc main_arg3) := by
  entry_read
  rfl

/-- The other factor's, likewise. -/
theorem weights_up : V m c main_v1 = m ((c : Thread nD τ).loc main_arg4) := by
  entry_read
  rfl

/-- The last ones, likewise. -/
theorem weights_down : V m c main_v2 = m ((c : Thread nD τ).loc main_arg5) := by
  entry_read
  rfl

section
variable (xn : HArr 16384 2048) (w : RArr 16384 128) (h : RArr 16384 2048) (wg wu : HStack 16 2048 512) (wd : HStack 16 512 2048)
  (g : RArr 1 2048)

/-- What the claim supposes of the arguments. -/
structure SupposedAll : Prop where
  hx : ∀ r k, Plain (xn (ix2 r k))
  hw : ∀ r l, Plain (w (ix2 r l))
  hg : ∀ e k f, Plain (wg (ix3 e k f))
  hu : ∀ e k f, Plain (wu (ix3 e k f))
  hd : ∀ e f d, Plain (wd (ix3 e f d))
  routed : ∀ (e : ℕ) (he : e < 16) (r : Fin 16384), (w (ix2 r 16) : EReal) ≠ (((e / 4 : ℕ) : ℝ) : EReal) → w (ix2 r ⟨e, by omega⟩) = (0 : EReal)

/-- The residual plus every expert's term. -/
def totalAt (r : Fin 16384) (d : Fin 2048) : EReal :=
  h (ix2 r d) + ∑ e : Fin 16, ffn (fun k => xn (ix2 r k)) (w (ix2 r ⟨e.val, by omega⟩)) (fun k f => wg (ix3 e k f))
    (fun k f => wu (ix3 e k f)) (fun f d => wd (ix3 e f d)) d

/-- The result at one entry: the total, normalized. -/
def outAt (r : Fin 16384) (d : Fin 2048) : EReal := normed (totalAt xn w h wg wu wd r) (fun k => g (ix2 0 k)) d

/-- A row block's total, its terms read off the whole arrays. -/
theorem total_block (i : ℕ) (hi : i < 16) (a : Fin 1024) (k : Fin 2048) :
    ((rowsOf (f := .f32) h i (ix2 a k) : EReal) + ∑ e' ∈ Finset.range 16, term (rowsOf (f := .bf16) xn i) (rowsOf (f := .f32) w i)
      (layerOf wg) (layerOf wu) (layerOf wd) e' a k) = totalAt xn w h wg wu wd ⟨1024 * i + a.val, by omega⟩ k := by
  have h1 : ∀ (z : ℕ) (f : FTy) (x : FVec Ideal ⟨2, ![16384, z]⟩ f) (l : Fin z), rowsOf x i (ix2 a l)
      = x (ix2 ⟨1024 * i + a.val, by omega⟩ l) := fun z f x l =>
    congrArg (fun r => x (ix2 r l)) (Fin.ext (by show 1024 * (i % 16) + a.val = _; rw [Nat.mod_eq_of_lt hi]))
  unfold totalAt
  rw [Finset.sum_range]
  refine congrArg₂ (· + ·) (h1 _ _ _ _) (Finset.sum_congr rfl fun e _ => ?_)
  unfold term
  rw [weightOf_lane e.val (by omega)]
  have h2 : ∀ (y z : ℕ) (x : HStack 16 y z) (k : Fin y) (l : Fin z), layerOf x e.val (ix3 0 k l) = x (ix3 e k l) := fun y z x k l =>
    congrArg (fun r => x (ix3 r k l)) (Fin.ext (by show e.val % 16 = _; omega))
  simp only [h1, h2]

variable {xn w wg wu wd}

/-- What is supposed of the arrays holds of each block of rows. -/
theorem SupposedAll.block (H : SupposedAll xn w wg wu wd) (i : ℕ) :
    Supposed (rowsOf (f := .bf16) xn i) (rowsOf (f := .f32) w i) (layerOf wg) (layerOf wu) (layerOf wd) where
  hx _ _ := H.hx _ _
  hw _ _ := H.hw _ _
  hg _ _ _ := H.hg _ _ _
  hu _ _ _ := H.hu _ _ _
  hd _ _ _ := H.hd _ _ _
  routed e he _ := H.routed e he _

end

/-- What the buffers hold after every grid point. -/
theorem after_point (H : SupposedAll (V m c main_arg0) (V m c main_arg1) (V m c main_v0) (V m c main_v1) (V m c main_v2)) (n : ℕ)
    (hn : n < cfg0.N) : After (rowsOf (f := .bf16) (V m c main_arg0) (n / 16)) (rowsOf (f := .f32) (V m c main_arg1) (n / 16))
      (rowsOf (f := .f32) (V m c main_arg2) (n / 16)) (layerOf (V m c main_v0)) (layerOf (V m c main_v1)) (layerOf (V m c main_v2))
      (V m c main_v3) (n % 16) (stAt m c n hn) := by
  induction n with
  | zero =>
    rw [stAt_reset m c ⟨0, hn⟩ rfl (junk (F := Ideal))]
    unfold stepAt
    rw [blk0, blk1, blk2, blk3, blk4, blk5, blk6]
    exact after_step _ _ (H.block _) _ _ (Nat.mod_lt _ (by decide)) (flags ⟨0, hn⟩) _ fun hc => absurd rfl hc
  | succ n ih =>
    have ih := ih (Nat.lt_of_succ_lt hn)
    rw [stAt_pos m c ⟨n + 1, hn⟩ (Nat.succ_ne_zero n)]
    unfold stepAt
    rw [blk0, blk1, blk2, blk3, blk4, blk5, blk6]
    refine after_step _ _ (H.block _) _ _ (Nat.mod_lt _ (by decide)) (flags ⟨n + 1, hn⟩) _ fun hc => ?_
    have h1 : n / 16 = (n + 1) / 16 := by change (n + 1) % 16 ≠ 0 at hc; omega
    have h2 : n % 16 = (n + 1) % 16 - 1 := by change (n + 1) % 16 ≠ 0 at hc; omega
    rw [h1, h2] at ih
    exact ih

/-- The kernel's result array, entry by entry. -/
theorem kernel_moe (H : SupposedAll (V m c main_arg0) (V m c main_arg1) (V m c main_v0) (V m c main_v1) (V m c main_v2)) :
    (dats m 0 c).arrAt 7 cfg0.N = fun i => outAt (V m c main_arg0) (V m c main_arg1) (V m c main_arg2) (V m c main_v0) (V m c main_v1)
      (V m c main_v2) (V m c main_v3) (i 0) (i 1) := by
  refine (dats m 0 c).arrAt_eq_of_covers 7 _ (by decide +kernel) fun t hf y => ?_
  blk_simp
  rw [after0_7]
  obtain ⟨a, n, rfl⟩ : ∃ (a : Fin 1024) (n : Fin 2048), y = ix2 a n := ⟨y 0, y 1, eq_ix2 y⟩
  have he : t.val % 16 = 15 := (by decide +kernel : ∀ t : Fin grid0.N, (cfg0.win 7).flush t = true → t.val % 16 = 15) t hf
  have ht := lt_N t
  obtain ⟨p, hp, hv⟩ := (after_point m c H t.val t.isLt).o
  rw [he] at hp hv
  rw [if_pos rfl] at hp
  have hB : taken (fits (cnt (F := Ideal) (stAt m c t.val t.isLt).n)) 15 = 16 := if_neg fun hc => hc.2 (by decide)
  rw [hB] at hv
  have hrow : ∀ k : Fin 2048, (p (ix2 a k) : EReal) = totalAt (V m c main_arg0) (V m c main_arg1) (V m c main_arg2) (V m c main_v0)
      (V m c main_v1) (V m c main_v2) ⟨1024 * (t.val / 16) + a.val, by omega⟩ k := fun k => by
    have hb : a = row ⟨a.val / 512, by omega⟩ ⟨a.val % 512, by omega⟩ :=
      Fin.ext (by show a.val = 512 * (a.val / 512) + a.val % 512; omega)
    have hvk := hv ⟨a.val / 512, by omega⟩ ⟨a.val % 512, by omega⟩ k
    rw [← hb] at hvk
    exact hvk.trans (total_block _ _ _ _ _ _ (t.val / 16) (by omega) a k)
  rw [hp]
  refine (out6_apply p (V m c main_v3) a n).trans ?_
  have e0 : (⟨1024 * (t.val / 16) + a.val, by omega⟩ : Fin 16384) = (win0_7.blk t).view.emb (ix2 a n) 0 := Fin.ext (by blk_simp [idx7]; show 1024 * (t.val / 16) + a.val = t.val / 16 * 1024 + a.val; omega)
  have e1 : n = (win0_7.blk t).view.emb (ix2 a n) 1 := Fin.ext (by blk_simp [idx7])
  refine Eq.trans ?_ (congrArg₂ (outAt (V m c main_arg0) (V m c main_arg1) (V m c main_arg2) (V m c main_v0) (V m c main_v1)
    (V m c main_v2) (V m c main_v3)) e0 e1)
  unfold outAt
  exact congrArg (fun o => normed o _ n) (funext hrow)

end Cert.Experts

end
-- ==== Proof.MoePre.lean ====
module
public import proofs.«01_k».proof.Pre_plain_and_routed
public import proofs.«01_k».proof.Proof.MoeValue

/-! What the claim's precondition says of the experts' arguments. -/

@[expose] public section

noncomputable section

namespace Cert.Experts

open Idealize.ShloMosaic Idealize.ShloMosaic.TcCoe Idealize.SL.Sem Cert.Pre_plain_and_routed

/-- The shapes the precondition's operations take fit together. -/
instance preFacts : Cert.Pre_plain_and_routed.Facts where
  slices_S16384x128_S16384x1_0_16 := by decide
  bitsLt_bf16_f32 := by decide
  bcast_S_S16384x2048 := by decide
  bcast_S_S16384x128 := by decide
  bcast_S_S16x2048x512 := by decide
  bcast_S_S16x512x2048 := by decide
  bcast_S_S16384x1 := by decide
  slices_S16384x128_S16384x4_0_0 := by decide
  bcast_S_S16384x4 := by decide
  bcast_S16384x1_S16384x4_0_1 := by decide
  slices_S16384x128_S16384x4_0_4 := by decide
  slices_S16384x128_S16384x4_0_8 := by decide
  slices_S16384x128_S16384x4_0_12 := by decide

/-- A number strictly between the two infinities is finite. -/
theorem plain_of (x : EReal) (h : IntOp.andi (Ideal.cmp .olt x (Ideal.ofBits .f32 0x7F800000#32)) (Ideal.cmp .ogt x (Ideal.ofBits .f32 0xFF800000#32)) = 1#1) :
    Plain x := by
  have top : Ideal.ofBits .f32 0x7F800000#32 = (⊤ : EReal) := by simp [Ideal.ofBits, Ideal.ieee]
  have bot : Ideal.ofBits .f32 0xFF800000#32 = (⊥ : EReal) := by simp [Ideal.ofBits, Ideal.ieee]
  rw [top, bot, IntOp.andi_eq_one] at h
  unfold Ideal.cmp at h
  simp only [Cert.Nsa.ofBool_decide] at h
  exact ⟨x.toReal, (EReal.coe_toReal h.1.ne h.2.ne').symm⟩

/-- One of the routing masks: the token's group is the one named, or the weight is zero. -/
theorem routed_mask (w : RArr 16384 128) (K : BitVec 32) (o : ℕ) (hs : S16384x128.Slices ![0, o] S16384x4) (ho : o + 4 ≤ 128) (r : Fin 16384) (j : Fin 4)
    (h : ori (broadcastInDim S16384x4 ![0, 1] Facts.bcast_S16384x1_S16384x4_0_1
        (cmpf (F := Ideal) .oeq (extractStridedSlice S16384x1 ![0, 16] w Facts.slices_S16384x128_S16384x1_0_16)
          (broadcastInDim S16384x1 ![] Facts.bcast_S_S16384x1 (constant S_ .f32 K))))
      (cmpf (F := Ideal) .oeq (extractStridedSlice S16384x4 ![0, o] w hs) (broadcastInDim S16384x4 ![] Facts.bcast_S_S16384x4 (constant S_ .f32 0x00000000#32)))
      (ix2 r j) = 1#1) :
    (w (ix2 r 16) : EReal) = Ideal.ofBits .f32 K ∨ w (ix2 r ⟨o + j.val, by omega⟩) = (0 : EReal) := by
  have e : ori (broadcastInDim S16384x4 ![0, 1] Facts.bcast_S16384x1_S16384x4_0_1
        (cmpf (F := Ideal) .oeq (extractStridedSlice S16384x1 ![0, 16] w Facts.slices_S16384x128_S16384x1_0_16)
          (broadcastInDim S16384x1 ![] Facts.bcast_S_S16384x1 (constant S_ .f32 K))))
      (cmpf (F := Ideal) .oeq (extractStridedSlice S16384x4 ![0, o] w hs) (broadcastInDim S16384x4 ![] Facts.bcast_S_S16384x4 (constant S_ .f32 0x00000000#32)))
      (ix2 r j) = IntOp.ori (BitVec.ofBool (decide ((w (ix2 r 16) : EReal) = Ideal.ofBits .f32 K)))
        (BitVec.ofBool (decide ((w (ix2 r ⟨o + j.val, by omega⟩) : EReal) = 0))) := by
    pointwise []
  rw [e] at h
  rw [IntOp.ori_eq_one, Cert.Nsa.ofBool_decide, Cert.Nsa.ofBool_decide] at h
  exact h

/-- The literal of the third group's number. -/
theorem word_two : Ideal.ofBits .f32 0x40000000#32 = ((2 : ℝ) : EReal) := by
  simp [Ideal.ofBits, Ideal.ieee, -EReal.coe_mul]; norm_num
/-- The literal of the last group's number. -/
theorem word_three : Ideal.ofBits .f32 0x40400000#32 = ((3 : ℝ) : EReal) := by
  simp [Ideal.ofBits, Ideal.ieee, -EReal.coe_mul]; norm_num

/-- A routing mask that holds leaves no weight to an expert of a group that is not the token's. -/
theorem routed_of (w : RArr 16384 128) (e q : ℕ) (he : e < 16) (hq : e / 4 = q) (r : Fin 16384)
    (hne : (w (ix2 r 16) : EReal) ≠ (((e / 4 : ℕ) : ℝ) : EReal)) (K : BitVec 32) (hK : Ideal.ofBits .f32 K = ((q : ℝ) : EReal))
    (h : (w (ix2 r 16) : EReal) = Ideal.ofBits .f32 K ∨ w (ix2 r ⟨4 * q + e % 4, by omega⟩) = (0 : EReal)) :
    w (ix2 r ⟨e, by omega⟩) = (0 : EReal) := by
  rcases h with h | h
  · exact absurd (h.trans (by rw [hK, hq])) hne
  · refine Eq.trans (congrArg (fun l => w (ix2 r l)) (Fin.ext ?_)) h
    show e = 4 * q + e % 4
    omega

/-- The precondition's masks, all ones, say what the claim supposes. -/
theorem supposed_of (x0 : HArr 16384 2048) (x1 : RArr 16384 128) (x2 : RArr 16384 2048) (x3 x4 : FVec Ideal ⟨3, ![16, 2048, 512]⟩ .f32)
    (x5 : FVec Ideal ⟨3, ![16, 512, 2048]⟩ .f32) (x6 : FVec Ideal ⟨1, ![2048]⟩ .f32)
    (h : (fn (F := Ideal) x0 x1 x2 x3 x4 x5 x6).1 = (fun _ => 1#1)
      ∧ (fn (F := Ideal) x0 x1 x2 x3 x4 x5 x6).2.1 = (fun _ => 1#1)
      ∧ (fn (F := Ideal) x0 x1 x2 x3 x4 x5 x6).2.2.1 = (fun _ => 1#1)
      ∧ (fn (F := Ideal) x0 x1 x2 x3 x4 x5 x6).2.2.2.1 = (fun _ => 1#1)
      ∧ (fn (F := Ideal) x0 x1 x2 x3 x4 x5 x6).2.2.2.2.1 = (fun _ => 1#1)
      ∧ (fn (F := Ideal) x0 x1 x2 x3 x4 x5 x6).2.2.2.2.2.1 = (fun _ => 1#1)
      ∧ (fn (F := Ideal) x0 x1 x2 x3 x4 x5 x6).2.2.2.2.2.2.1 = (fun _ => 1#1)
      ∧ (fn (F := Ideal) x0 x1 x2 x3 x4 x5 x6).2.2.2.2.2.2.2.1 = (fun _ => 1#1)
      ∧ (fn (F := Ideal) x0 x1 x2 x3 x4 x5 x6).2.2.2.2.2.2.2.2 = (fun _ => 1#1)) : SupposedAll x0 x1 x3 x4 x5 := by
  obtain ⟨h0, h1, h2, h3, h4, h5, h6, h7, h8⟩ := h
  refine ⟨fun r k => plain_of _ (congrFun h0 (ix2 r k)), fun r k => plain_of _ (congrFun h1 (ix2 r k)),
    fun e k f => plain_of _ (congrFun h2 (ix3 e k f)), fun e k f => plain_of _ (congrFun h3 (ix3 e k f)),
    fun e k f => plain_of _ (congrFun h4 (ix3 e k f)), fun e he r hne => ?_⟩
  have hq : e / 4 = 0 ∨ e / 4 = 1 ∨ e / 4 = 2 ∨ e / 4 = 3 := by omega
  rcases hq with hq | hq | hq | hq
  · exact routed_of x1 e 0 he hq r hne 0x00000000#32 (by rw [Ideal.ofBits_zero_f32]; simp)
      (routed_mask x1 _ 0 Facts.slices_S16384x128_S16384x4_0_0 (by omega) r ⟨e % 4, by omega⟩ (congrFun h5 (ix2 r ⟨e % 4, by omega⟩)))
  · exact routed_of x1 e 1 he hq r hne 0x3F800000#32 (by rw [Ideal.ofBits_one_f32]; simp)
      (routed_mask x1 _ 4 Facts.slices_S16384x128_S16384x4_0_4 (by omega) r ⟨e % 4, by omega⟩ (congrFun h6 (ix2 r ⟨e % 4, by omega⟩)))
  · exact routed_of x1 e 2 he hq r hne 0x40000000#32 (by rw [word_two]; simp)
      (routed_mask x1 _ 8 Facts.slices_S16384x128_S16384x4_0_8 (by omega) r ⟨e % 4, by omega⟩ (congrFun h7 (ix2 r ⟨e % 4, by omega⟩)))
  · exact routed_of x1 e 3 he hq r hne 0x40400000#32 (by rw [word_three]; simp)
      (routed_mask x1 _ 12 Facts.slices_S16384x128_S16384x4_0_12 (by omega) r ⟨e % 4, by omega⟩ (congrFun h8 (ix2 r ⟨e % 4, by omega⟩)))

end Cert.Experts

end
-- ==== Proof.MoeRefer.lean ====
module
public import proofs.«01_k».proof.Proof.MoeValue
public import Idealize.ShloMosaic.Lib.TwoAxisContraction
public import Idealize.ShloMosaic.Lib.MatmulPlain

/-! The experts' reference, entry by entry. -/

@[expose] public section

noncomputable section

namespace Cert.Experts

open Idealize.ShloMosaic Idealize.ShloMosaic.TcCoe Idealize.SL.Sem Cert.MoeRefIdeal Cert.MoeRefIdeal.Read

/-- The last contraction, which runs over the experts and their hidden units, is a double sum. -/
theorem dot_two (x : FVec Ideal ⟨3, ![16384, 16, 512]⟩ .f32) (y : FVec Ideal ⟨3, ![16, 512, 2048]⟩ .f32) (r : Fin 16384) (d : Fin 2048) :
    (Host.dotGeneral (F := Ideal) dot_S16384x16x512_S16x512x2048_S16384x2048_12_01_0_2_n_n none x y (ix2 r d) : EReal)
      = ∑ e : Fin 16, ∑ f : Fin 512, (x (ix3 r e f) : EReal) * y (ix3 e f d) := by
  simp only [Host.dotGeneral]
  rw [Ideal.dotGeneral_apply, ValueIdx.sum_contr2 dot_S16384x16x512_S16x512x2048_S16384x2048_12_01_0_2_n_n 16 512 rfl rfl rfl]
  refine Finset.sum_congr rfl fun e _ => Finset.sum_congr rfl fun f _ => ?_
  have k0 := ValueIdx.contrEquiv2_symm_val0 dot_S16384x16x512_S16x512x2048_S16384x2048_12_01_0_2_n_n 16 512 rfl rfl rfl (e, f)
  have k1 := ValueIdx.contrEquiv2_symm_val1 dot_S16384x16x512_S16x512x2048_S16384x2048_12_01_0_2_n_n 16 512 rfl rfl rfl (e, f)
  generalize (ValueIdx.contrEquiv2 dot_S16384x16x512_S16x512x2048_S16384x2048_12_01_0_2_n_n 16 512 rfl rfl rfl).symm (e, f) = q at k0 k1 ⊢
  have l0 : (dot_S16384x16x512_S16x512x2048_S16384x2048_12_01_0_2_n_n.lhsIdx (ix2 r d) q 0).val = r.val := by
    unfold DotDims.lhsIdx
    rw [dif_neg (show ¬(0 : Fin S16384x16x512.rank) ∈ dot_S16384x16x512_S16x512x2048_S16384x2048_12_01_0_2_n_n.lhsBatch by decide),
      dif_pos (show (0 : Fin S16384x16x512.rank) ∈ dot_S16384x16x512_S16x512x2048_S16384x2048_12_01_0_2_n_n.lhsNonContracting by decide)]
    rfl
  have l1 : (dot_S16384x16x512_S16x512x2048_S16384x2048_12_01_0_2_n_n.lhsIdx (ix2 r d) q 1).val = e.val := by
    unfold DotDims.lhsIdx
    rw [dif_neg (show ¬(1 : Fin S16384x16x512.rank) ∈ dot_S16384x16x512_S16x512x2048_S16384x2048_12_01_0_2_n_n.lhsBatch by decide),
      dif_neg (show ¬(1 : Fin S16384x16x512.rank) ∈ dot_S16384x16x512_S16x512x2048_S16384x2048_12_01_0_2_n_n.lhsNonContracting by decide)]
    exact k0
  have l2 : (dot_S16384x16x512_S16x512x2048_S16384x2048_12_01_0_2_n_n.lhsIdx (ix2 r d) q 2).val = f.val := by
    unfold DotDims.lhsIdx
    rw [dif_neg (show ¬(2 : Fin S16384x16x512.rank) ∈ dot_S16384x16x512_S16x512x2048_S16384x2048_12_01_0_2_n_n.lhsBatch by decide),
      dif_neg (show ¬(2 : Fin S16384x16x512.rank) ∈ dot_S16384x16x512_S16x512x2048_S16384x2048_12_01_0_2_n_n.lhsNonContracting by decide)]
    exact k1
  have r0 : (dot_S16384x16x512_S16x512x2048_S16384x2048_12_01_0_2_n_n.rhsIdx (ix2 r d) q 0).val = e.val := by
    unfold DotDims.rhsIdx
    rw [dif_neg (show ¬(0 : Fin S16x512x2048.rank) ∈ dot_S16384x16x512_S16x512x2048_S16384x2048_12_01_0_2_n_n.rhsBatch by decide),
      dif_neg (show ¬(0 : Fin S16x512x2048.rank) ∈ dot_S16384x16x512_S16x512x2048_S16384x2048_12_01_0_2_n_n.rhsNonContracting by decide)]
    exact k0
  have r1 : (dot_S16384x16x512_S16x512x2048_S16384x2048_12_01_0_2_n_n.rhsIdx (ix2 r d) q 1).val = f.val := by
    unfold DotDims.rhsIdx
    rw [dif_neg (show ¬(1 : Fin S16x512x2048.rank) ∈ dot_S16384x16x512_S16x512x2048_S16384x2048_12_01_0_2_n_n.rhsBatch by decide),
      dif_neg (show ¬(1 : Fin S16x512x2048.rank) ∈ dot_S16384x16x512_S16x512x2048_S16384x2048_12_01_0_2_n_n.rhsNonContracting by decide)]
    exact k1
  have r2 : (dot_S16384x16x512_S16x512x2048_S16384x2048_12_01_0_2_n_n.rhsIdx (ix2 r d) q 2).val = d.val := by
    unfold DotDims.rhsIdx
    rw [dif_neg (show ¬(2 : Fin S16x512x2048.rank) ∈ dot_S16384x16x512_S16x512x2048_S16384x2048_12_01_0_2_n_n.rhsBatch by decide),
      dif_pos (show (2 : Fin S16x512x2048.rank) ∈ dot_S16384x16x512_S16x512x2048_S16384x2048_12_01_0_2_n_n.rhsNonContracting by decide)]
    rfl
  have el : dot_S16384x16x512_S16x512x2048_S16384x2048_12_01_0_2_n_n.lhsIdx (ix2 r d) q = ix3 r e f := funext fun a => Fin.ext (by
    match a with
    | ⟨0, _⟩ => exact l0
    | ⟨1, _⟩ => exact l1
    | ⟨2, _⟩ => exact l2)
  have er : dot_S16384x16x512_S16x512x2048_S16384x2048_12_01_0_2_n_n.rhsIdx (ix2 r d) q = ix3 e f d := funext fun a => Fin.ext (by
    match a with
    | ⟨0, _⟩ => exact r0
    | ⟨1, _⟩ => exact r1
    | ⟨2, _⟩ => exact r2)
  rw [el, er]

variable (xn : HArr 16384 2048) (w : RArr 16384 128) (h : RArr 16384 2048) (wg wu : FVec Ideal ⟨3, ![16, 2048, 512]⟩ .f32)
  (wd : FVec Ideal ⟨3, ![16, 512, 2048]⟩ .f32) (g : FVec Ideal ⟨1, ![2048]⟩ .f32)

/-- What the hidden units of an expert hold, weighted. -/
theorem hidden_apply (r : Fin 16384) (e : Fin 16) (f : Fin 512) : (val_main_v8 (F := Ideal) xn w wg wu (ix3 r e f) : EReal)
    = (∑ k : Fin 2048, (xn (ix2 r k) : EReal) * wg (ix3 e k f))
      * (Ideal.div 1 (1 + Ideal.exp (0 - ∑ k : Fin 2048, (xn (ix2 r k) : EReal) * wg (ix3 e k f))))
      * (∑ k : Fin 2048, (xn (ix2 r k) : EReal) * wu (ix3 e k f)) * w (ix2 r ⟨e.val, by omega⟩) := by
  simp only [zero_sub]
  pointwise [val_main_v8, val_main_v7, val_main_v6, val_main_v5, val_main_v4, val_main_v3, val_main_v2, val_main_v1, val_main_v0,
    val_main_call0_v0, val_main_call0_v1, val_main_call0_cst, val_main_call0_v2, val_main_call0_v3, val_main_call0_cst_0, val_main_call0_v4,
    val_main_call0_v5]

/-- The total. -/
theorem ref_total (r : Fin 16384) (d : Fin 2048) : (val_main_v10 (F := Ideal) xn w h wg wu wd (ix2 r d) : EReal)
    = totalAt xn w h wg wu wd r d := by
  unfold totalAt ffn
  refine congrArg (h (ix2 r d) + ·) ?_
  refine (dot_two _ _ r d).trans ?_
  exact Finset.sum_congr rfl fun e _ => Finset.sum_congr rfl fun f _ => congrArg (· * _) (hidden_apply xn w wg wu r e f)

/-- The reference's result array, entry by entry. -/
theorem ref_moe : val_main_v23 (F := Ideal) xn w h wg wu wd g
    = fun i => normed (totalAt xn w h wg wu wd (i 0)) (fun k => g (ix1 k)) (i 1) := by
  funext i
  obtain ⟨r, d, rfl⟩ : ∃ (r : Fin 16384) (d : Fin 2048), i = ix2 r d := ⟨i 0, i 1, eq_ix2 i⟩
  have ht := ref_total xn w h wg wu wd
  show _ = normed (totalAt xn w h wg wu wd r) (fun k => g (ix1 k)) d
  unfold normed
  simp only [← ht]
  generalize hy : val_main_v10 (F := Ideal) xn w h wg wu wd = y
  pointwise [val_main_v23, val_main_v22, val_main_v21, val_main_v20, val_main_v19, val_main_v18, val_main_v17, val_main_v16, val_main_cst_1,
    val_main_v15, val_main_v14, val_main_cst_0, val_main_v13, val_main_v12, val_main_cst, val_main_v11, hy]

end Cert.Experts

end
-- ==== Proof.MoeEnd.lean ====
module
public import proofs.«01_k».proof.Proof.MoePre
public import proofs.«01_k».proof.Proof.MoeRefer

/-! The experts' run with its result named, and that result as the reference writes it. -/

@[expose] public section

noncomputable section

namespace Cert.Experts

open Idealize.ShloMosaic Idealize.ShloMosaic.TcCoe Idealize.SL.Sem Cert.MoeIdeal Cert.MoeIdeal.Gen Cert.MoeIdeal.Run

variable (m : (ℓ : Loc nD τ sig) → Buf (Elt Ideal) ℓ)

/-- The gain is laid out as one row on the way in. -/
theorem gain_row (c : Dev nD) (k : Fin 2048) :
    (V m c main_v3 : FVec Ideal ⟨2, ![1, 2048]⟩ .f32) (ix2 0 k) = (m ((c : Thread nD τ).loc main_arg6) : FVec Ideal ⟨1, ![2048]⟩ .f32) (ix1 k) := by
  have e : V m c main_v3 = broadcastInDim S1x2048 ![1] bcast_S2048_S1x2048_1 (m ((c : Thread nD τ).loc main_arg6) : FVec Ideal S2048 .f32) := by
    entry_read
    rfl
  rw [e]
  pointwise []

/-- The run with its result named: the array after the last point, the arguments as launched. -/
theorem run_experts (ρ : Dev nD → PrngReg) : θ_run (defs (F := Ideal)) (onTc (τ := τ) (main (F := Ideal))) ⟨m, fun _ => 0, ρ⟩ fun r => ∀ c : Dev nD,
      r.2.mem ((c : Thread nD τ).loc main_v4) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨h.1 c, h.2 c⟩)
    (θ_run_and ((θ_run defs _ _).mono (fun r (h : Pipeline.FramePost cfgs (dats m) 0 (V m) r) (c : Dev nD) =>
        (show r.2.mem ((c : Thread nD τ).loc main_v4) = (dats m 0 c).arrAt 7 cfg0.N from (h c).1 7)) (run_main m ρ))
      (frame_of m ρ (dats m) (A_eq m) (run_main m ρ)))

/-- Under the precondition the array after the last point is what the reference's operations leave of the same arguments. -/
theorem kernel_refer (c : Dev nD)
    (H : SupposedAll (m ((c : Thread nD τ).loc main_arg0)) (m ((c : Thread nD τ).loc main_arg1)) (m ((c : Thread nD τ).loc main_arg3))
      (m ((c : Thread nD τ).loc main_arg4)) (m ((c : Thread nD τ).loc main_arg5))) :
    (dats m 0 c).arrAt 7 cfg0.N = Cert.MoeRefIdeal.Read.val_main_v23 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  have hk := kernel_moe m c (by rw [V_main_arg0, V_main_arg1, weights_gate, weights_up, weights_down]; exact H)
  refine hk.trans (Eq.trans ?_ (ref_moe _ _ _ _ _ _ _).symm)
  funext i
  unfold outAt
  rw [V_main_arg0, V_main_arg1, V_main_arg2, weights_gate, weights_up, weights_down]
  exact congrArg (fun g => normed _ g (i 1)) (funext fun k => gain_row m c k)

end Cert.Experts

end
-- ==== Proof.Bridge.lean ====
module
public import proofs.«01_k».proof.Proof.Words

/-! What one grid point stores, in words: at each of the four sizes of readable prefix the run's eight stores are the
eight heads' outputs. -/

@[expose] public section

noncomputable section

namespace Cert.Nsa

open Idealize.ShloMosaic Idealize.ShloMosaic.TcCoe Idealize.SL.Sem Cert.KernelIdeal Cert.KernelIdeal.Gen

/-- The store of head `r` of group `g`. -/
def piece (n : ℕ) (hn : n ≤ 2048) (k : Fin 16) (x0 : RMat 128 1024) (x1 : RMat 128 128) (x2 : RMat 128 512)
    (x3 x4 : RMat 2048 512) (g : Fin 2) (r : Fin 4) : View.Piece (Elt Ideal) (Mat 128 1024) .f32 :=
  ⟨Rect.unit (s := Mat 128 1024) ![0, 128 * (4 * g.val + r.val)] ![128, 128] (inb _ _ (by omega) (by omega)),
    headOut n hn k x0 x1 x2 x3 x4 g r⟩

/-- A grid point's eight stores, the last one first. -/
def pieces (n : ℕ) (hn : n ≤ 2048) (k : Fin 16) (x0 : RMat 128 1024) (x1 : RMat 128 128) (x2 : RMat 128 512)
    (x3 x4 : RMat 2048 512) : List (View.Piece (Elt Ideal) (Mat 128 1024) .f32) :=
  [piece n hn k x0 x1 x2 x3 x4 1 3, piece n hn k x0 x1 x2 x3 x4 1 2, piece n hn k x0 x1 x2 x3 x4 1 1,
    piece n hn k x0 x1 x2 x3 x4 1 0, piece n hn k x0 x1 x2 x3 x4 0 3, piece n hn k x0 x1 x2 x3 x4 0 2,
    piece n hn k x0 x1 x2 x3 x4 0 1, piece n hn k x0 x1 x2 x3 x4 0 0]

variable (c : Dev nD) (i : grid0.Coords) (arg2 : Memref sig .tc .vmem S128x1024 .f32) (harg2 : arg2.IsWhole)
  (arg3 : Memref sig .tc .vmem S128x128 .f32) (harg3 : arg3.IsWhole) (arg4 : Memref sig .tc .vmem S128x512 .f32) (harg4 : arg4.IsWhole)
  (arg5 : Memref sig .tc .vmem S2048x512 .f32) (harg5 : arg5.IsWhole) (arg6 : Memref sig .tc .vmem S2048x512 .f32) (harg6 : arg6.IsWhole)
  (arg7 : Memref sig .tc .vmem S128x1024 .f32) (harg7 : arg7.IsWhole)
  (x0 : Vec Ideal S128x1024 .f32) (x1 : Vec Ideal S128x128 .f32) (x2 : Vec Ideal S128x512 .f32) (x3 x4 : Vec Ideal S2048x512 .f32)

theorem run_A (hc0 : cond0_0 i) (hc1 : ¬cond0_1 i) (hc2 : ¬cond0_2 i) (hc3 : ¬cond0_3 i) :
    (kernelRun0_A (F := Ideal) c i arg2 harg2 arg3 harg3 arg4 harg4 arg5 harg5 arg6 harg6 arg7 harg7 hc0 hc1 hc2 hc3 x0 x1 x2 x3 x4).1
      = pieces 256 (by omega) (i 1) (View.read (Elt Ideal) arg2.view (harg2.unread x0)) (View.read (Elt Ideal) arg3.view (harg3.unread x1))
        (View.read (Elt Ideal) arg4.view (harg4.unread x2)) (View.read (Elt Ideal) arg5.view (harg5.unread x3))
        (View.read (Elt Ideal) arg6.view (harg6.unread x4)) := by
  sl_kernel_rfl

/-- Where the first 256 tokens are readable, the block written is the eight heads' outputs. -/
theorem out_A (hc0 : cond0_0 i) (hc1 : ¬cond0_1 i) (hc2 : ¬cond0_2 i) (hc3 : ¬cond0_3 i) :
    out0_A_5 (F := Ideal) c i arg2 harg2 arg3 harg3 arg4 harg4 arg5 harg5 arg6 harg6 arg7 harg7 hc0 hc1 hc2 hc3 x0 x1 x2 x3 x4 = View.canon (pieces 256 (by omega) (i 1) x0 x1 x2 x3 x4) := by
  unfold out0_A_5
  rw [View.read_writes_eq_canon _ _ _ (cover0_A_5 c i arg2 harg2 arg3 harg3 arg4 harg4 arg5 harg5 arg6 harg6 arg7 harg7 hc0 hc1 hc2 hc3 x0 x1 x2 x3 x4), run_A, harg2.read_unread, harg3.read_unread,
    harg4.read_unread, harg5.read_unread, harg6.read_unread]

theorem run_B (hc0 : ¬cond0_0 i) (hc1 : cond0_1 i) (hc2 : ¬cond0_2 i) (hc3 : ¬cond0_3 i) :
    (kernelRun0_B (F := Ideal) c i arg2 harg2 arg3 harg3 arg4 harg4 arg5 harg5 arg6 harg6 arg7 harg7 hc0 hc1 hc2 hc3 x0 x1 x2 x3 x4).1
      = pieces 512 (by omega) (i 1) (View.read (Elt Ideal) arg2.view (harg2.unread x0)) (View.read (Elt Ideal) arg3.view (harg3.unread x1))
        (View.read (Elt Ideal) arg4.view (harg4.unread x2)) (View.read (Elt Ideal) arg5.view (harg5.unread x3))
        (View.read (Elt Ideal) arg6.view (harg6.unread x4)) := by
  sl_kernel_rfl

/-- Where the first 512 tokens are readable, the block written is the eight heads' outputs. -/
theorem out_B (hc0 : ¬cond0_0 i) (hc1 : cond0_1 i) (hc2 : ¬cond0_2 i) (hc3 : ¬cond0_3 i) :
    out0_B_5 (F := Ideal) c i arg2 harg2 arg3 harg3 arg4 harg4 arg5 harg5 arg6 harg6 arg7 harg7 hc0 hc1 hc2 hc3 x0 x1 x2 x3 x4 = View.canon (pieces 512 (by omega) (i 1) x0 x1 x2 x3 x4) := by
  unfold out0_B_5
  rw [View.read_writes_eq_canon _ _ _ (cover0_B_5 c i arg2 harg2 arg3 harg3 arg4 harg4 arg5 harg5 arg6 harg6 arg7 harg7 hc0 hc1 hc2 hc3 x0 x1 x2 x3 x4), run_B, harg2.read_unread, harg3.read_unread,
    harg4.read_unread, harg5.read_unread, harg6.read_unread]

theorem run_C (hc0 : ¬cond0_0 i) (hc1 : ¬cond0_1 i) (hc2 : cond0_2 i) (hc3 : ¬cond0_3 i) :
    (kernelRun0_C (F := Ideal) c i arg2 harg2 arg3 harg3 arg4 harg4 arg5 harg5 arg6 harg6 arg7 harg7 hc0 hc1 hc2 hc3 x0 x1 x2 x3 x4).1
      = pieces 1024 (by omega) (i 1) (View.read (Elt Ideal) arg2.view (harg2.unread x0)) (View.read (Elt Ideal) arg3.view (harg3.unread x1))
        (View.read (Elt Ideal) arg4.view (harg4.unread x2)) (View.read (Elt Ideal) arg5.view (harg5.unread x3))
        (View.read (Elt Ideal) arg6.view (harg6.unread x4)) := by
  sl_kernel_rfl

/-- Where the first 1024 tokens are readable, the block written is the eight heads' outputs. -/
theorem out_C (hc0 : ¬cond0_0 i) (hc1 : ¬cond0_1 i) (hc2 : cond0_2 i) (hc3 : ¬cond0_3 i) :
    out0_C_5 (F := Ideal) c i arg2 harg2 arg3 harg3 arg4 harg4 arg5 harg5 arg6 harg6 arg7 harg7 hc0 hc1 hc2 hc3 x0 x1 x2 x3 x4 = View.canon (pieces 1024 (by omega) (i 1) x0 x1 x2 x3 x4) := by
  unfold out0_C_5
  rw [View.read_writes_eq_canon _ _ _ (cover0_C_5 c i arg2 harg2 arg3 harg3 arg4 harg4 arg5 harg5 arg6 harg6 arg7 harg7 hc0 hc1 hc2 hc3 x0 x1 x2 x3 x4), run_C, harg2.read_unread, harg3.read_unread,
    harg4.read_unread, harg5.read_unread, harg6.read_unread]

theorem run_D (hc0 : ¬cond0_0 i) (hc1 : ¬cond0_1 i) (hc2 : ¬cond0_2 i) (hc3 : cond0_3 i) :
    (kernelRun0_D (F := Ideal) c i arg2 harg2 arg3 harg3 arg4 harg4 arg5 harg5 arg6 harg6 arg7 harg7 hc0 hc1 hc2 hc3 x0 x1 x2 x3 x4).1
      = pieces 2048 (by omega) (i 1) (View.read (Elt Ideal) arg2.view (harg2.unread x0)) (View.read (Elt Ideal) arg3.view (harg3.unread x1))
        (View.read (Elt Ideal) arg4.view (harg4.unread x2)) (View.read (Elt Ideal) arg5.view (harg5.unread x3))
        (View.read (Elt Ideal) arg6.view (harg6.unread x4)) := by
  sl_kernel_rfl

/-- Where the first 2048 tokens are readable, the block written is the eight heads' outputs. -/
theorem out_D (hc0 : ¬cond0_0 i) (hc1 : ¬cond0_1 i) (hc2 : ¬cond0_2 i) (hc3 : cond0_3 i) :
    out0_D_5 (F := Ideal) c i arg2 harg2 arg3 harg3 arg4 harg4 arg5 harg5 arg6 harg6 arg7 harg7 hc0 hc1 hc2 hc3 x0 x1 x2 x3 x4 = View.canon (pieces 2048 (by omega) (i 1) x0 x1 x2 x3 x4) := by
  unfold out0_D_5
  rw [View.read_writes_eq_canon _ _ _ (cover0_D_5 c i arg2 harg2 arg3 harg3 arg4 harg4 arg5 harg5 arg6 harg6 arg7 harg7 hc0 hc1 hc2 hc3 x0 x1 x2 x3 x4), run_D, harg2.read_unread, harg3.read_unread,
    harg4.read_unread, harg5.read_unread, harg6.read_unread]

end Cert.Nsa

end
-- ==== Proof.Point.lean ====
module
public import proofs.«01_k».proof.Proof.Select

/-! One grid point of the kernel computes the specification: the block's row `a` is the token at position `128 k + a`, and
what is stored for a head is `Spec.nsa` of the row's queries, the sequence's keys and values and the head's gate scores. -/

@[expose] public section

noncomputable section

namespace Cert.Nsa

open Idealize.ShloMosaic hiding ix0 ix1 ix2 ix3 ix4 ix5 eq_ix2
open Idealize.ShloMosaic.ValueIdx Idealize.SL.Sem

/-! ## The sliding window -/

/-- Where a block of the window is read, and the positions it is masked by: `128 (k - 4 + w)`, from the array's start on. -/
theorem wblock_toInt : ∀ (k : Fin 16) (w : Fin 5), (wblock k w.val).toInt = (k.val : ℤ) - 4 + w.val ∧
    wstart k w.val = 128 * (k.val + w.val - 4) := by decide +kernel

theorem wpos_toInt (k : Fin 16) (w : Fin 5) (e : Fin 128) (b : Fin 1) :
    (wpos k w.val (ix2 b e)).toInt = ((k.val : ℤ) - 4 + w.val) * 128 + e.val := by
  have h := (wblock_toInt k w).1
  refine toInt_add (toInt_mul h (by decide) (by omega)) ?_ (by omega)
  rw [iotaRow, toInt_nat (by omega)]

/-- The window's key `128 w + e` may be read by row `a`. -/
def wopen (k : Fin 16) (a : Fin 128) (i : Fin 640) : Prop :=
  512 ≤ 128 * k.val + i.val ∧ 128 * k.val + i.val - 512 ≤ 128 * k.val + a.val ∧ a.val < i.val

instance (k : Fin 16) (a : Fin 128) : DecidablePred (wopen k a) := fun _ => inferInstanceAs (Decidable (_ ∧ _))

theorem wpart_apply (k : Fin 16) (w : Fin 5) (a e : Fin 128) :
    (wpart k w.val (ix2 a e) : EReal) = if wopen k a ⟨128 * w.val + e.val, by omega⟩ then 1 else 0 := by
  refine onehot_apply _ _ ?_
  have hs : (subi (qcol k) (broadcast (Mat 128 1) 512#32) (ix2 a 0)).toInt = ((128 * k.val + a.val : ℕ) : ℤ) - 512 :=
    toInt_sub (qcol_toInt k a 0) (lit (by decide)) (by omega)
  rw [andi, IntOp.andi_eq_one, andi, IntOp.andi_eq_one, cmpi, IntOp.cmpi_sle, cmpi, IntOp.cmpi_sgt, brow_apply, bcol_apply, bcol_apply, brow_apply,
    cmpi, IntOp.cmpi_sge, wpos_toInt, qcol_toInt, hs, broadcast_apply, show (0#32 : BitVec 32).toInt = 0 by decide]
  unfold wopen
  show _ ↔ 512 ≤ 128 * k.val + (128 * w.val + e.val) ∧ 128 * k.val + (128 * w.val + e.val) - 512 ≤ 128 * k.val + a.val ∧ a.val < 128 * w.val + e.val
  omega

theorem beside5_apply {α : Type} (x : Fin 5 → (Mat 128 128).Idx → α) (w : Fin 5) (a e : Fin 128) :
    concatenate (Mat 128 640) 1 [⟨Mat 128 128, x 0⟩, ⟨Mat 128 128, x 1⟩, ⟨Mat 128 128, x 2⟩, ⟨Mat 128 128, x 3⟩, ⟨Mat 128 128, x 4⟩] beside5
      (ix2 a ⟨128 * w.val + e.val, by omega⟩) = x w (ix2 a e) := by
  refine concatenate_apply_piece (t := Mat 128 640) 1 _ _ _ w.val (by simp) (Mat 128 128) (x w) ?_ rfl (128 * w.val) ?_ _ ?_ ?_
  · fin_cases w <;> rfl
  · fin_cases w <;> rfl
  · intro b hb
    match b with
    | ⟨0, _⟩ => rfl
    | ⟨1, _⟩ => exact absurd rfl hb
  · rfl

theorem stack5_apply {α : Type} (x : Fin 5 → (Mat 128 128).Idx → α) (w : Fin 5) (a e : Fin 128) :
    concatenate (Mat 640 128) 0 [⟨Mat 128 128, x 0⟩, ⟨Mat 128 128, x 1⟩, ⟨Mat 128 128, x 2⟩, ⟨Mat 128 128, x 3⟩, ⟨Mat 128 128, x 4⟩] stack5
      (ix2 ⟨128 * w.val + a.val, by omega⟩ e) = x w (ix2 a e) := by
  refine concatenate_apply_piece (t := Mat 640 128) 0 _ _ _ w.val (by simp) (Mat 128 128) (x w) ?_ rfl (128 * w.val) ?_ _ ?_ ?_
  · fin_cases w <;> rfl
  · fin_cases w <;> rfl
  · intro b hb
    match b with
    | ⟨0, _⟩ => exact absurd rfl hb
    | ⟨1, _⟩ => rfl
  · rfl

theorem split640 (i : Fin 640) : ∃ (w : Fin 5) (e : Fin 128), i = ⟨128 * w.val + e.val, by omega⟩ :=
  ⟨⟨i.val / 128, by omega⟩, ⟨i.val % 128, by omega⟩, Fin.ext (by simp; omega)⟩

theorem wmask_iff (k : Fin 16) (a : Fin 128) (i : Fin 640) : wmask k (ix2 a i) = 1#1 ↔ wopen k a i := by
  obtain ⟨w, e, rfl⟩ := split640 i
  unfold wmask
  rw [ogt_iff, broadcast_apply, half_word]
  refine (Iff.of_eq (congrArg (((1 / 2 : ℝ) : EReal) < ·) ((beside5_apply (fun w : Fin 5 => wpart k w.val) w a e).trans (wpart_apply k w a e)))).trans ?_
  by_cases hp : wopen k a ⟨128 * w.val + e.val, by omega⟩
  · simp only [hp, if_true, iff_true]
    exact EReal.coe_lt_coe_iff.2 (by norm_num)
  · simp only [hp, if_false, iff_false, not_lt]
    exact EReal.coe_nonneg.2 (by norm_num)

/-- The token the window's key `128 w + e` is read from. -/
def wtok (k : Fin 16) (i : Fin 640) : Fin 2048 := ⟨128 * (k.val + i.val / 128 - 4) + i.val % 128, by omega⟩

/-- A column block read through a whole-array view. -/
theorem cols_apply {M N : ℕ} (m : ℕ) (x : RMat M N) (c : ℕ) (hm : 0 + m ≤ M) (h : 128 * c + 128 ≤ N) (j : Fin m) (e : Fin 128) :
    cols m x c hm h (ix2 j e) = x (ix2 ⟨j.val, by omega⟩ ⟨128 * c + e.val, by omega⟩) := by
  unfold cols
  refine congrArg x (funext fun b => Fin.ext ?_)
  match b with
  | ⟨0, _⟩ => exact (by omega : 0 + 1 * j.val = j.val)
  | ⟨1, _⟩ => exact (by omega : 128 * c + 1 * e.val = 128 * c + e.val)

theorem wstack_apply (k : Fin 16) (x : RMat 2048 512) (c : Fin 4) (i : Fin 640) (d : Fin 128) :
    wstack k x c (ix2 i d) = x (ix2 (wtok k i) ⟨128 * c.val + d.val, by omega⟩) := by
  obtain ⟨w, e, rfl⟩ := split640 i
  unfold wstack
  refine (stack5_apply (fun w => wload k x c w) w e d).trans ?_
  refine congrArg x (funext fun b => Fin.ext ?_)
  match b with
  | ⟨0, _⟩ =>
    show wstart k w.val + 1 * e.val = 128 * (k.val + (128 * w.val + e.val) / 128 - 4) + (128 * w.val + e.val) % 128
    rw [(wblock_toInt k w).2]
    omega
  | ⟨1, _⟩ => exact (by omega : 128 * c.val + 1 * d.val = 128 * c.val + d.val)

/-! ## Heads, keys and values of a group -/

/-- The queries of a group's heads at row `a`. -/
def qof (x : RMat 128 1024) (g : Fin 2) (a : Fin 128) (r : Fin 4) (e : Fin 128) : EReal :=
  x (ix2 a ⟨128 * (4 * g.val + r.val) + e.val, by omega⟩)

/-- A group's keys. -/
def kof {N : ℕ} (x : RMat N 512) (g : Fin 2) (j : Fin N) (e : Fin 128) : EReal := x (ix2 j ⟨128 * (2 * g.val) + e.val, by omega⟩)

/-- A group's values. -/
def vof {N : ℕ} (x : RMat N 512) (g : Fin 2) (j : Fin N) (e : Fin 128) : EReal := x (ix2 j ⟨128 * (2 * g.val + 1) + e.val, by omega⟩)

/-- A head's gate scores at row `a`. -/
def gof (x : RMat 128 128) (g : Fin 2) (a : Fin 128) (r : Fin 4) (c : Fin 3) : EReal :=
  x (ix2 a ⟨3 * (4 * g.val + r.val) + c.val, by omega⟩)

theorem heads_apply (x : RMat 128 1024) (g : Fin 2) (r : Fin 4) (a e : Fin 128) :
    (heads x g (ix2 ⟨128 * r.val + a.val, by omega⟩ e) : EReal) = qof x g a r e := by
  unfold heads qof
  refine (stack4_apply (fun r : Fin 4 => cols 128 x (4 * g.val + r.val) (by omega) (by omega)) r a e).trans ?_
  rw [cols_apply]

/-- The scores of head `r` at row `a` against any keys. -/
theorem headScores {n : ℕ} (x : RMat 128 1024) (g : Fin 2) (kk : HMat n 128) (K : Fin n → Fin 128 → EReal) (hk : ∀ j e, (kk (ix2 j e) : EReal) = K j e)
    (r : Fin 4) (a : Fin 128) (j : Fin n) : scores (heads x g) kk (ix2 ⟨128 * r.val + a.val, by omega⟩ j) = score (qof x g a r) K j := by
  rw [scores_apply]
  unfold score
  refine congrArg (· * scale) (Finset.sum_congr rfl fun e _ => ?_)
  rw [heads_apply, hk]

theorem cscores_apply (x0 : RMat 128 1024) (x2 : RMat 128 512) (g : Fin 2) (r : Fin 4) (a j : Fin 128) :
    cscores x0 x2 g (ix2 ⟨128 * r.val + a.val, by omega⟩ j) = score (qof x0 g a r) (kof x2 g) j :=
  headScores x0 g _ (kof x2 g) (fun j e => cols_apply 128 x2 (kcol g).val (by omega) (by omega) j e) r a j

theorem cquot_apply (k : Fin 16) (x0 : RMat 128 1024) (x2 : RMat 128 512) (g : Fin 2) (r : Fin 4) (a j : Fin 128) :
    quot (cscores x0 x2 g) (cmask k) r (ix2 a j) = cshare (128 * k.val + a.val) (qof x0 g a) (kof x2 g) r j :=
  quot_apply (fun j => cmask_iff k a j) (fun j => cscores_apply x0 x2 g r a j) j

theorem oc_apply (k : Fin 16) (x0 : RMat 128 1024) (x2 : RMat 128 512) (g : Fin 2) (r : Fin 4) (a d : Fin 128) :
    (oc k x0 x2 g (ix2 ⟨128 * r.val + a.val, by omega⟩ d) : EReal)
      = att (cseen (128 * k.val + a.val)) (score (qof x0 g a r) (kof x2 g)) (fun j => vof x2 g j d) := by
  unfold oc
  refine (Ideal.matmul_plain_apply (M := 512) (K := 128) (N := 128) none _ _ _ _ d).trans ?_
  refine (congrArg (· + _) Ideal.ofBits_zero_f32).trans ((zero_add _).trans (Finset.sum_congr rfl fun j _ => ?_))
  refine congrArg₂ (· * ·) ?_ (cols_apply 128 x2 (vcol g).val (by omega) (by omega) j d)
  exact (stack4_apply (fun r => quot (cscores x0 x2 g) (cmask k) r) r a j).trans (cquot_apply k x0 x2 g r a j)

theorem psum_apply (k : Fin 16) (x0 : RMat 128 1024) (x2 : RMat 128 512) (g : Fin 2) (a j : Fin 128) :
    (psum k x0 x2 g (ix2 a j) : EReal) = ∑ r, cshare (128 * k.val + a.val) (qof x0 g a) (kof x2 g) r j := by
  rw [Fin.sum_univ_four]
  simp only [← cquot_apply k x0 x2 g]
  rfl

theorem stands (k : Fin 16) (x0 : RMat 128 1024) (x2 : RMat 128 512) (g : Fin 2) (a : Fin 128) :
    (fun b => (rankScore k (psum k x0 x2 g) (ix2 b a) : EReal))
      = standing (128 * k.val + a.val) (cshare (128 * k.val + a.val) (qof x0 g a) (kof x2 g)) :=
  funext fun b => rankScore_apply k _ _ a b (fun j => psum_apply k x0 x2 g a j) (fun _ _ => share_nonneg _ _ _) (fun _ _ => share_ne_top _ _ _)

theorem os_apply (n : ℕ) (hn : n ≤ 2048) (k : Fin 16) (hk : 128 * k.val + 128 ≤ n) (x0 : RMat 128 1024) (x2 : RMat 128 512) (x3 : RMat 2048 512)
    (g : Fin 2) (r : Fin 4) (a d : Fin 128) :
    (os n hn k x0 x2 x3 g (ix2 ⟨128 * r.val + a.val, by omega⟩ d) : EReal)
      = att (sseen (128 * k.val + a.val) (standing (128 * k.val + a.val) (cshare (128 * k.val + a.val) (qof x0 g a) (kof x2 g))))
          (score (qof x0 g a r) (kof x3 g)) (fun j => vof x3 g j d) := by
  have hm : ∀ j : Fin n, tokens n k (chosen (rankScore k (psum k x0 x2 g))) (ix2 a j) = 1#1 ↔
      sseen (128 * k.val + a.val) (standing (128 * k.val + a.val) (cshare (128 * k.val + a.val) (qof x0 g a) (kof x2 g))) ⟨j.val, by omega⟩ := fun j => by
    rw [tokens_iff n hn, stands]
  unfold os
  refine (attend_apply r d (m := fun j : Fin n => sseen (128 * k.val + a.val) (standing (128 * k.val + a.val) (cshare (128 * k.val + a.val) (qof x0 g a) (kof x2 g))) ⟨j.val, by omega⟩)
    (sc := score (qof x0 g a r) fun j : Fin n => kof x3 g ⟨j.val, by omega⟩) (vc := fun j : Fin n => vof x3 g ⟨j.val, by omega⟩ d)
    hm (fun j => headScores x0 g _ (fun j : Fin n => kof x3 g ⟨j.val, by omega⟩) (fun j e => cols_apply n x3 (kcol g).val (by omega) (by omega) j e) r a j)
    (fun j => cols_apply n x3 (vcol g).val (by omega) (by omega) j d)).trans ?_
  exact (att_transfer (fun j : Fin n => (⟨j.val, by omega⟩ : Fin 2048)) (fun j : Fin n => sseen (128 * k.val + a.val) (standing (128 * k.val + a.val) (cshare (128 * k.val + a.val) (qof x0 g a) (kof x2 g))) ⟨j.val, by omega⟩)
    (sseen (128 * k.val + a.val) (standing (128 * k.val + a.val) (cshare (128 * k.val + a.val) (qof x0 g a) (kof x2 g))))
    (sκ := score (qof x0 g a r) fun j : Fin n => kof x3 g ⟨j.val, by omega⟩) (vκ := fun j : Fin n => vof x3 g ⟨j.val, by omega⟩ d)
    (sι := score (qof x0 g a r) (kof x3 g)) (vι := fun j => vof x3 g j d) (fun _ h => h) (fun i j _ _ h => Fin.ext (Fin.mk.inj_iff.1 h))
    (fun i hi => ⟨⟨i.val, by have := hi.2; omega⟩, hi, rfl⟩) (fun _ _ => rfl) (fun _ _ => rfl)).2

theorem ow_apply (k : Fin 16) (x0 : RMat 128 1024) (x4 : RMat 2048 512) (g : Fin 2) (r : Fin 4) (a d : Fin 128) :
    (ow k x0 x4 g (ix2 ⟨128 * r.val + a.val, by omega⟩ d) : EReal)
      = att (wseen (128 * k.val + a.val)) (score (qof x0 g a r) (kof x4 g)) (fun j => vof x4 g j d) := by
  unfold ow
  refine (attend_apply r d (m := wopen k a) (sc := score (qof x0 g a r) fun i => kof x4 g (wtok k i)) (vc := fun i => vof x4 g (wtok k i) d)
    (wmask_iff k a) (fun j => headScores x0 g _ (fun i => kof x4 g (wtok k i)) (fun j e => wstack_apply k x4 (kcol g) j e) r a j)
    (fun j => wstack_apply k x4 (vcol g) j d)).trans ?_
  refine (att_transfer (wtok k) (wopen k a) (wseen (128 * k.val + a.val)) (sκ := score (qof x0 g a r) fun i => kof x4 g (wtok k i))
    (vκ := fun i => vof x4 g (wtok k i) d) (sι := score (qof x0 g a r) (kof x4 g)) (vι := fun j => vof x4 g j d) (fun i h => ?_) (fun i j hi hj h => ?_) (fun i hi => ?_) (fun _ _ => rfl) (fun _ _ => rfl)).2
  · unfold wopen at h; unfold wseen wtok; dsimp only; omega
  · unfold wopen at hi hj; unfold wtok at h
    have := Fin.mk.inj_iff.1 h
    apply Fin.ext; omega
  · unfold wseen at hi
    refine ⟨⟨i.val + 512 - 128 * k.val, by omega⟩, ?_, ?_⟩
    · unfold wopen; dsimp only; omega
    · unfold wtok; apply Fin.ext; dsimp only; omega

/-! ## The grid point -/

theorem gates_apply (x : RMat 128 128) (a c : Fin 128) : (gates x (ix2 a c) : EReal) = gate (x (ix2 a c)) := by
  show Ideal.div (Ideal.ofBits .f32 0x3F800000#32) (Ideal.ofBits .f32 0x3F800000#32 + Ideal.exp (Ideal.ofBits .f32 0x00000000#32 - x (ix2 a c))) = _
  rw [Ideal.ofBits_one_f32, Ideal.ofBits_zero_f32]; rfl

theorem gated_apply (x1 : RMat 128 128) (c : ℕ) (h : c + 1 ≤ 128) (o : RMat 512 128) (r : Fin 4) (a d : Fin 128) :
    (gated x1 c h o r (ix2 a d) : EReal) = gate (x1 (ix2 a ⟨c, by omega⟩)) * o (ix2 ⟨128 * r.val + a.val, by omega⟩ d) := by
  unfold gated
  refine congrArg₂ (· * ·) ?_ ?_
  · rw [bcol_apply, slice_apply _ _ _ (by omega) (by omega), gates_apply, cols_apply]
    congr 3
    · exact Fin.ext (by simp)
    · exact Fin.ext (by simp)
  · rw [slice_apply _ _ _ (by omega) (by omega)]
    congr 2
    exact Fin.ext (by simp)

/-- What a grid point stores is the specification at its tokens. -/
theorem headOut_apply (n : ℕ) (hn : n ≤ 2048) (k : Fin 16) (hk : 128 * k.val + 128 ≤ n) (x0 : RMat 128 1024) (x1 : RMat 128 128) (x2 : RMat 128 512)
    (x3 x4 : RMat 2048 512) (g : Fin 2) (r : Fin 4) (a d : Fin 128) :
    (headOut n hn k x0 x1 x2 x3 x4 g r (ix2 a d) : EReal)
      = nsa (128 * k.val + a.val) (qof x0 g a) (kof x2 g) (vof x2 g) (kof x3 g) (vof x3 g) (kof x4 g) (vof x4 g) (gof x1 g a r) r d := by
  unfold headOut nsa
  refine congrArg₂ (· + ·) (congrArg₂ (· + ·) ?_ ?_) ?_
  · rw [gated_apply, oc_apply]; rfl
  · rw [gated_apply, os_apply n hn k hk]; rfl
  · rw [gated_apply, ow_apply]; rfl

end Cert.Nsa

end
-- ==== Proof.RefSoft.lean ====
module
public import proofs.«01_k».proof.Proof.Spec
public import proofs.«01_k».proof.Proof.Gen.ReferenceIdeal.Read

/-! The reference's softmax over the keys let through, read at an entry. It is written three times in the reference, over
127, 1024 and 2048 keys; here it is read once, for any number of keys. -/

@[expose] public section

noncomputable section

namespace Cert.Nsa

open Idealize.ShloMosaic hiding ix0 ix1 ix2 ix3 ix4 ix5 eq_ix2
open Idealize.ShloMosaic.ValueIdx Idealize.SL.Sem

/-- Scores by sequence, position, group, head and key. -/
abbrev Keys (n : ℕ) : Shape := ⟨5, ![8, 2048, 2, 4, n]⟩

/-- One number for each sequence, position, group and head. -/
abbrev Rows : Shape := ⟨4, ![8, 2048, 2, 4]⟩

section Softmax

variable {n : ℕ}

theorem keys_lift (h : (Keys n).Reduces [4] Rows) (b : Fin 8) (t : Fin 2048) (g : Fin 2) (r : Fin 4) (j : Fin n) :
    h.lift (ix4 b t g r) j = ix5 b t g r j := by
  funext c
  apply Fin.ext
  match c with
  | ⟨0, _⟩ => rfl
  | ⟨1, _⟩ => rfl
  | ⟨2, _⟩ => rfl
  | ⟨3, _⟩ => rfl
  | ⟨4, _⟩ => rfl

/-- A number per row, laid out along the keys. -/
theorem along_keys (h1 : Rows.BroadcastsInDim (Keys 1) ![0, 1, 2, 3]) (h2 : (Keys 1).BroadcastsInDim (Keys n) ![0, 1, 2, 3, 4])
    (x : FVec Ideal Rows .f32) (f : FVec Ideal (Keys 1) .f32 → FVec Ideal (Keys 1) .f32) (g' : EReal → EReal)
    (hf : ∀ x i, f x i = g' (x i)) (b : Fin 8) (t : Fin 2048) (g : Fin 2) (r : Fin 4) (j : Fin n) :
    broadcastInDim (Keys n) ![0, 1, 2, 3, 4] h2 (f (broadcastInDim (Keys 1) ![0, 1, 2, 3] h1 x)) (ix5 b t g r j)
      = g' (x (ix4 b t g r)) := by
  rw [broadcastInDim_apply (j := ix5 b t g r j) (k := ix5 b t g r (0 : Fin 1)), hf]
  · refine congrArg g' ?_
    refine broadcastInDim_apply _ _ x _ (ix4 b t g r) fun a => ?_
    match a with
    | ⟨0, _⟩ => rfl
    | ⟨1, _⟩ => rfl
    | ⟨2, _⟩ => rfl
    | ⟨3, _⟩ => rfl
  · intro a
    match a with
    | ⟨0, _⟩ => rfl
    | ⟨1, _⟩ => rfl
    | ⟨2, _⟩ => rfl
    | ⟨3, _⟩ => rfl
    | ⟨4, _⟩ => rfl

/-- The reference's softmax as it is written: scores `s`, a mask `c` (read twice), the masked scores' stand-in `lo`, the
masked weights' `z`, the least divisor `ti`, and the starting values `i0` of the maximum and `i1` of the sum. -/
def softmax (hr : (Keys n).ReducesTo [4] Rows) (h1 : Rows.BroadcastsInDim (Keys 1) ![0, 1, 2, 3])
    (h2 : (Keys 1).BroadcastsInDim (Keys n) ![0, 1, 2, 3, 4]) (h0 : 0 < (⟨0, ![]⟩ : Shape).numel)
    (c c' : IVec (Keys n) 1) (s lo z : FVec Ideal (Keys n) .f32) (ti : FVec Ideal (Keys 1) .f32) (i0 i1 : FVec Ideal ⟨0, ![]⟩ .f32) :
    FVec Ideal (Keys n) .f32 :=
  Host.divf
    (select c' (Host.exp (subf (select c s lo) (broadcastInDim (Keys n) ![0, 1, 2, 3, 4] h2 (broadcastInDim (Keys 1) ![0, 1, 2, 3] h1
      (Host.reduce FloatOps.maximumf (select c s lo) i0 hr h0))))) z)
    (broadcastInDim (Keys n) ![0, 1, 2, 3, 4] h2 (maximumf (broadcastInDim (Keys 1) ![0, 1, 2, 3] h1
      (Host.reduceAdd (select c' (Host.exp (subf (select c s lo) (broadcastInDim (Keys n) ![0, 1, 2, 3, 4] h2
        (broadcastInDim (Keys 1) ![0, 1, 2, 3] h1 (Host.reduce FloatOps.maximumf (select c s lo) i0 hr h0))))) z) i1 hr h0)) ti))

variable (hr : (Keys n).ReducesTo [4] Rows) (hd : (Keys n).Reduces [4] Rows) (h1 : Rows.BroadcastsInDim (Keys 1) ![0, 1, 2, 3])
  (h2 : (Keys 1).BroadcastsInDim (Keys n) ![0, 1, 2, 3, 4]) (h0 : 0 < (⟨0, ![]⟩ : Shape).numel)
  (c c' : IVec (Keys n) 1) (s lo z : FVec Ideal (Keys n) .f32) (ti : FVec Ideal (Keys 1) .f32) (i0 i1 : FVec Ideal ⟨0, ![]⟩ .f32)
  (b : Fin 8) (t : Fin 2048) (g : Fin 2) (r : Fin 4) (m : Fin n → Prop) [DecidablePred m] (sc : Fin n → EReal)

section Row

variable (hc : ∀ j, c (ix5 b t g r j) = 1#1 ↔ m j) (hs : ∀ j, s (ix5 b t g r j) = sc j) (hlo : ∀ i, lo i = (⊥ : EReal))
include hc hs hlo

theorem masked_apply (j : Fin n) : select c s lo (ix5 b t g r j) = if m j then sc j else (⊥ : EReal) := by
  rw [select_apply]
  by_cases h : m j
  · rw [if_pos h, (hc j).2 h, select_one, hs]
  · rw [if_neg h, eq_zero_of_ne_one (fun e => h ((hc j).1 e)), select_zero, hlo]

variable (hi0 : i0 = constant ⟨0, ![]⟩ .f32 0xFF800000#32)
include hi0 hd

theorem max_apply : Host.reduce (FloatOps.maximumf (F := Ideal) (φ := .f32)) (select c s lo) i0 hr h0 (ix4 b t g r) = peak m sc := by
  rw [Host.reduce_eq_fold_single _ _ _ hr hd]
  have e0 : i0 (Shape.Idx.first h0) = (⊥ : EReal) := by
    rw [hi0]
    show Ideal.ofBits .f32 0xFF800000#32 = ⊥
    simp [Ideal.ofBits, Ideal.ieee]
  have hf : select c s lo ∘ hd.lift (ix4 b t g r) = fun j => if m j then sc j else (⊥ : EReal) := by
    funext j
    exact (congrArg _ (keys_lift hd b t g r j)).trans (masked_apply c s lo b t g r m sc hc hs hlo j)
  rw [e0, hf]
  rfl

variable (hc' : ∀ j, c' (ix5 b t g r j) = 1#1 ↔ m j) (hz : ∀ i, z i = (0 : EReal))
include hc' hz

theorem wt_apply (j : Fin n) :
    select c' (Host.exp (subf (select c s lo) (broadcastInDim (Keys n) ![0, 1, 2, 3, 4] h2 (broadcastInDim (Keys 1) ![0, 1, 2, 3] h1
      (Host.reduce FloatOps.maximumf (select c s lo) i0 hr h0))))) z (ix5 b t g r j) = wt m sc j := by
  unfold wt
  rw [select_apply]
  by_cases h : m j
  · rw [if_pos h, (hc' j).2 h, select_one]
    refine (congrArg Ideal.exp (?_ : select c s lo (ix5 b t g r j) - broadcastInDim (Keys n) ![0, 1, 2, 3, 4] h2 (broadcastInDim (Keys 1) ![0, 1, 2, 3] h1
      (Host.reduce FloatOps.maximumf (select c s lo) i0 hr h0)) (ix5 b t g r j) = sc j - peak m sc))
    rw [masked_apply c s lo b t g r m sc hc hs hlo, if_pos h,
      along_keys h1 h2 _ (fun x => x) (fun x => x) (fun _ _ => rfl), max_apply hr hd h0 c s lo i0 b t g r m sc hc hs hlo hi0]
  · rw [if_neg h, eq_zero_of_ne_one (fun e => h ((hc' j).1 e)), select_zero, hz]

variable (hti : ∀ i, ti i = tiny) (hi1 : i1 = constant ⟨0, ![]⟩ .f32 0x00000000#32)
include hti hi1

/-- The reference's softmax at an entry is that key's share. -/
theorem softmax_apply (j : Fin n) : softmax hr h1 h2 h0 c c' s lo z ti i0 i1 (ix5 b t g r j) = share m sc j := by
  unfold softmax share den
  refine congrArg₂ Ideal.div (wt_apply hr hd h1 h2 h0 c c' s lo z i0 b t g r m sc hc hs hlo hi0 hc' hz j) ?_
  rw [along_keys h1 h2 _ (fun x => maximumf x ti) (fun x => max x tiny) (fun x i => congrArg (max (x i)) (hti i))]
  refine congrArg (max · tiny) ?_
  simp only [Host.reduceAdd, Ideal.hostReduceAdd_def]
  rw [Ideal.hostReduceAdd_single hr hd]
  have e1 : i1 (Shape.Idx.first h0) = (0 : EReal) := by rw [hi1]; exact Ideal.ofBits_zero_f32
  rw [e1, zero_add]
  exact Finset.sum_congr rfl fun k _ => (congrArg _ (keys_lift hd b t g r k)).trans
    (wt_apply hr hd h1 h2 h0 c c' s lo z i0 b t g r m sc hc hs hlo hi0 hc' hz k)

end Row

end Softmax

end Cert.Nsa
-- ==== Proof.TopK.lean ====
module
public import proofs.«01_k».proof.Proof.Spec
public import Idealize.ShloMosaic.Lib.SortPrefix

/-! The sixteen blocks by sorting: the reference sorts the standings of the 32 blocks stably, greatest first, and keeps
the first sixteen positions. These are the blocks fewer than sixteen others are ahead of, which is the choice the kernel
makes by counting. -/

@[expose] public section

noncomputable section

namespace Cert.Nsa

open Idealize.ShloMosaic hiding ix0 ix1 ix2 ix3 ix4 ix5 eq_ix2
open Idealize.ShloMosaic.ValueIdx Idealize.SL.Sem

/-- The sort's comparison: block `i` before block `b` when its standing is strictly greater. -/
def above (s : Fin 32 → EReal) (i b : Fin 32) : Bool :=
  FloatOps.cmpfTotal (F := Ideal) (φ := .f32) .gt (s i) (s b) == 1#1

/-- The same with equal standings ordered by the block's number. -/
def before (s : Fin 32 → EReal) (i b : Fin 32) : Bool :=
  decide (s b < s i) || (decide (s i = s b) && decide (i < b))

/-- The sort's comparison is the order of the extended reals. -/
theorem above_eq (s : Fin 32 → EReal) (i b : Fin 32) : above s i b = decide (s b < s i) := by
  unfold above
  rw [Ideal.cmpfTotal_def]
  unfold Ideal.cmp
  by_cases h : s b < s i <;> simp [CmpDirection.ordered, h]

/-- `before` is the relation `ahead`. -/
theorem before_iff (s : Fin 32 → EReal) (i b : Fin 32) : before s i b = true ↔ ahead s i b := by
  unfold before ahead; simp

/-- `before` is a strict total order on the blocks. -/
theorem before_strict (s : Fin 32 → EReal) : StrictTotalBefore (before s) :=
  StrictTotalBefore.of_key_then_position (fun x y : EReal => decide (y < x)) s (by simp)
    (by intro a b c; simp only [decide_eq_true_eq]; exact fun h k => k.trans h)
    (by
      intro a b
      simp only [decide_eq_true_eq]
      rcases lt_trichotomy a b with h | h | h
      · exact Or.inr (Or.inr h)
      · exact Or.inr (Or.inl h)
      · exact Or.inl h)

/-- On a list in increasing order a stable sort compares only a later element against an earlier one, so two relations
that agree there sort it alike. -/
theorem stableSort_later {n : ℕ} (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- Two such relations put the same element at every place. -/
theorem sortedFrom_later {n : ℕ} (R R' : Fin n → Fin n → Bool) (h : ∀ a b, a < b → R b a = R' b a) :
    sortedFrom R = sortedFrom R' := by
  have e : sortPositions n R = sortPositions n R' := stableSort_later _ _ _ (List.pairwise_lt_finRange n) h
  funext k
  unfold sortedFrom
  rw [List.get_of_eq e]
  rfl

/-- Under a strict total order, the element at a lower place of the sort is before the one at a higher place, and before
no other. -/
theorem sorted_iff {n : ℕ} {B : Fin n → Fin n → Bool} (hB : StrictTotalBefore B) (i j : Fin n) :
    B (sortedFrom B i) (sortedFrom B j) = true ↔ i < j := by
  have hp : ∀ a b : Fin n, a < b → B (sortedFrom B b) (sortedFrom B a) = false := by
    intro a b hab
    exact List.pairwise_iff_get.mp (hB.sorted_stableSort (List.finRange n))
      (a.cast (length_sortPositions n B).symm) (b.cast (length_sortPositions n B).symm) hab
  constructor
  · intro h
    rcases lt_trichotomy i j with h1 | h1 | h1
    · exact h1
    · subst h1; rw [hB.irrefl] at h; exact absurd h (by decide)
    · rw [hp j i h1] at h; exact absurd h (by decide)
  · intro h
    rcases hB.total _ _ (fun e => h.ne (sortedFrom_injective B e)) with h1 | h1
    · exact h1
    · rw [hp i j h] at h1; exact absurd h1 (by decide)

/-- The stable sort by the standings alone is the sort by the standings and then the block's number. -/
theorem sortedFrom_above (s : Fin 32 → EReal) : sortedFrom (above s) = sortedFrom (before s) :=
  sortedFrom_later _ _ fun a b hab => by
    rw [above_eq]; unfold before
    simp [not_lt.mpr hab.le]

/-- In the sorted order, the block at a lower place is ahead of the one at a higher place, and of no other. -/
theorem before_sorted (s : Fin 32 → EReal) (i j : Fin 32) :
    before s (sortedFrom (before s) i) (sortedFrom (before s) j) = true ↔ i < j :=
  sorted_iff (before_strict s) i j

/-- As many blocks are ahead of the one at place `j` as `j` says. -/
theorem card_ahead (s : Fin 32 → EReal) (j : Fin 32) :
    (Finset.univ.filter fun i => ahead s i (sortedFrom (above s) j)).card = j.val := by
  have e : (Finset.univ.filter fun i => ahead s i (sortedFrom (above s) j))
      = (Finset.univ.filter fun i : Fin 32 => i < j).image (sortedFrom (above s)) := by
    ext b
    obtain ⟨i, rfl⟩ := sortedFrom_surjective (above s) b
    simp only [Finset.mem_filter, Finset.mem_univ, true_and, Finset.mem_image]
    rw [← before_iff, sortedFrom_above, before_sorted]
    constructor
    · exact fun h => ⟨i, h, rfl⟩
    · rintro ⟨k, hk, he⟩
      rwa [← sortedFrom_injective _ he]
  rw [e, Finset.card_image_of_injective _ (sortedFrom_injective _)]
  rw [Finset.filter_gt_eq_Iio, Fin.card_Iio]

/-- The block at the `i`-th of the first sixteen places. -/
def place (s : Fin 32 → EReal) (i : Fin 16) : Fin 32 := sortedFrom (above s) (i.castLE (by omega))

theorem place_injective (s : Fin 32 → EReal) : Function.Injective (place s) := fun i j h =>
  Fin.ext (congrArg Fin.val (sortedFrom_injective (above s) h) : _)

/-- A block is chosen when it is at one of the first sixteen places. -/
theorem picked_iff (s : Fin 32 → EReal) (b : Fin 32) : picked s b ↔ ∃ i, place s i = b := by
  obtain ⟨j, rfl⟩ := sortedFrom_surjective (above s) b
  unfold picked
  rw [card_ahead]
  constructor
  · exact fun h => ⟨⟨j.val, h⟩, rfl⟩
  · rintro ⟨i, hi⟩
    have := congrArg Fin.val (sortedFrom_injective (above s) hi)
    have h2 := i.isLt
    have h3 : i.val = j.val := this
    omega

/-- The token at place `o` of the block at place `i`, as one of 1024 keys. -/
def spot (s : Fin 32 → EReal) (k : Fin 1024) : Fin 2048 :=
  ⟨64 * (place s ⟨k.val / 64, by omega⟩).val + k.val % 64, by have := (place s ⟨k.val / 64, by omega⟩).isLt; omega⟩

theorem home_spot (s : Fin 32 → EReal) (k : Fin 1024) : home (spot s k) = place s ⟨k.val / 64, by omega⟩ := by
  apply Fin.ext
  show (64 * (place s ⟨k.val / 64, _⟩).val + k.val % 64) / 64 = _
  omega

theorem spot_injective (s : Fin 32 → EReal) : Function.Injective (spot s) := by
  intro k l h
  have h1 := place_injective s ((home_spot s k).symm.trans ((congrArg home h).trans (home_spot s l)))
  have h2 : k.val / 64 = l.val / 64 := congrArg Fin.val h1
  have h3 : 64 * (place s ⟨k.val / 64, by omega⟩).val + k.val % 64 = 64 * (place s ⟨l.val / 64, by omega⟩).val + l.val % 64 :=
    congrArg Fin.val h
  rw [h1] at h3
  apply Fin.ext; omega

/-- The keys the query reads are the tokens of the sixteen places not after it. -/
theorem sseen_iff (s : Fin 32 → EReal) (t : ℕ) (j : Fin 2048) : sseen t s j ↔ ∃ k, (spot s k).val ≤ t ∧ spot s k = j := by
  unfold sseen
  rw [picked_iff]
  constructor
  · rintro ⟨⟨i, hi⟩, ht⟩
    have e : spot s ⟨64 * i.val + j.val % 64, by omega⟩ = j := by
      apply Fin.ext
      have hp : place s ⟨(64 * i.val + j.val % 64) / 64, by omega⟩ = home j := by
        rw [← hi]; exact congrArg (place s) (Fin.ext (by show (64 * i.val + j.val % 64) / 64 = i.val; omega))
      show 64 * (place s ⟨(64 * i.val + j.val % 64) / 64, _⟩).val + (64 * i.val + j.val % 64) % 64 = j.val
      rw [hp]
      show 64 * (j.val / 64) + _ = _
      omega
    exact ⟨_, by rw [e]; exact ht, e⟩
  · rintro ⟨k, hk, rfl⟩
    exact ⟨⟨_, (home_spot s k).symm⟩, hk⟩

end Cert.Nsa
-- ==== Proof.RefRead.lean ====
module
public import proofs.«01_k».proof.Proof.RefSoft
public import proofs.«01_k».proof.Proof.Select
public import proofs.«01_k».proof.Proof.TopK

/-! The reference read entry by entry: the queries, keys, values and gates it takes out of its arguments, the shares the
compressed keys get, and the standings of the blocks. -/

@[expose] public section

noncomputable section

namespace Cert.Nsa

open Idealize.ShloMosaic hiding ix0 ix1 ix2 ix3 ix4 ix5 eq_ix1 eq_ix2 eq_ix3 eq_ix4 eq_ix5
open Idealize.ShloMosaic.ValueIdx Idealize.SL.Sem
open Cert.ReferenceIdeal.Read

/-- The projections of all the tokens. -/
abbrev Proj : Type := FVec Ideal ⟨2, ![16384, 9728]⟩ .f32

/-- The compressed keys and values of all the sequences. -/
abbrev Comp : Type := FVec Ideal ⟨2, ![1024, 512]⟩ .f32

variable (y : Proj) (w : Comp) (b : Fin 8) (t : Fin 2048) (g : Fin 2)

/-- The queries of the group's heads for token `t` of sequence `b`. -/
def rq (r : Fin 4) (e : Fin 128) : EReal := y (ix2 ⟨2048 * b.val + t.val, by omega⟩ ⟨6144 + (128 * (4 * g.val + r.val) + e.val), by omega⟩)

/-- Keys (`p = 0`) or values (`p = 1`) of the group in sequence `b`, at columns `off` on. -/
def rkv (off : ℕ) (h : off + 512 ≤ 9728) (p : Fin 2) (j : Fin 2048) (e : Fin 128) : EReal :=
  y (ix2 ⟨2048 * b.val + j.val, by omega⟩ ⟨off + (128 * (2 * g.val + p.val) + e.val), by omega⟩)

/-- Compressed keys (`p = 0`) or values (`p = 1`) of the group in sequence `b`. -/
def rc (p : Fin 2) (j : Fin 128) (e : Fin 128) : EReal :=
  w (ix2 ⟨128 * b.val + j.val, by omega⟩ ⟨128 * (2 * g.val + p.val) + e.val, by omega⟩)

/-- The gate scores of a head for token `t` of sequence `b`. -/
def rg (r : Fin 4) (c : Fin 3) : EReal := y (ix2 ⟨2048 * b.val + t.val, by omega⟩ ⟨9344 + (3 * (4 * g.val + r.val) + c.val), by omega⟩)

/-! ## The arguments -/

theorem v1_at (r : Fin 4) (e : Fin 128) : (val_main_v1 (F := Ideal) y (ix5 b t g r e) : EReal) = rq y b t g r e := by
  rw [val_main_v1_apply, val_main_v0_apply]
  refine congrArg y (funext fun a => Fin.ext ?_)
  match a with
  | ⟨0, _⟩ => show ((((b.val * 2048 + t.val) * 2 + g.val) * 4 + r.val) * 128 + e.val) / 1024 = 2048 * b.val + t.val; omega
  | ⟨1, _⟩ => show 6144 + ((((b.val * 2048 + t.val) * 2 + g.val) * 4 + r.val) * 128 + e.val) % 1024 = 6144 + (128 * (4 * g.val + r.val) + e.val); omega

theorem v3_at (r : Fin 4) (c : Fin 3) : (val_main_v3 (F := Ideal) y (ix5 b t g r c) : EReal) = rg y b t g r c := by
  rw [val_main_v3_apply, val_main_v2_apply]
  refine congrArg y (funext fun a => Fin.ext ?_)
  match a with
  | ⟨0, _⟩ => show ((((b.val * 2048 + t.val) * 2 + g.val) * 4 + r.val) * 3 + c.val) / 24 = 2048 * b.val + t.val; omega
  | ⟨1, _⟩ => show 9344 + ((((b.val * 2048 + t.val) * 2 + g.val) * 4 + r.val) * 3 + c.val) % 24 = 9344 + (3 * (4 * g.val + r.val) + c.val); omega

theorem v5_at (p : Fin 2) (e : Fin 128) : (val_main_v5 (F := Ideal) y (ix5 b t g p e) : EReal) = rkv y b g 8192 (by omega) p t e := by
  rw [val_main_v5_apply, val_main_v4_apply]
  refine congrArg y (funext fun a => Fin.ext ?_)
  match a with
  | ⟨0, _⟩ => show ((((b.val * 2048 + t.val) * 2 + g.val) * 2 + p.val) * 128 + e.val) / 512 = 2048 * b.val + t.val; omega
  | ⟨1, _⟩ => show 8192 + ((((b.val * 2048 + t.val) * 2 + g.val) * 2 + p.val) * 128 + e.val) % 512 = 8192 + (128 * (2 * g.val + p.val) + e.val); omega

theorem v7_at (p : Fin 2) (e : Fin 128) : (val_main_v7 (F := Ideal) y (ix5 b t g p e) : EReal) = rkv y b g 8704 (by omega) p t e := by
  rw [val_main_v7_apply, val_main_v6_apply]
  refine congrArg y (funext fun a => Fin.ext ?_)
  match a with
  | ⟨0, _⟩ => show ((((b.val * 2048 + t.val) * 2 + g.val) * 2 + p.val) * 128 + e.val) / 512 = 2048 * b.val + t.val; omega
  | ⟨1, _⟩ => show 8704 + ((((b.val * 2048 + t.val) * 2 + g.val) * 2 + p.val) * 128 + e.val) % 512 = 8704 + (128 * (2 * g.val + p.val) + e.val); omega

theorem v9_at (j : Fin 127) (p : Fin 2) (e : Fin 128) : (val_main_v9 (F := Ideal) w (ix5 b j g p e) : EReal) = rc w b g p j.castSucc e := by
  rw [val_main_v9_apply, val_main_v8_apply]
  refine congrArg w (funext fun a => Fin.ext ?_)
  match a with
  | ⟨0, _⟩ => show ((((b.val * 128 + j.val) * 2 + g.val) * 2 + p.val) * 128 + e.val) / 512 = 128 * b.val + j.val; omega
  | ⟨1, _⟩ => show ((((b.val * 128 + j.val) * 2 + g.val) * 2 + p.val) * 128 + e.val) % 512 = 128 * (2 * g.val + p.val) + e.val; omega

theorem v11_at (j : Fin 127) (e : Fin 128) : (val_main_v11 (F := Ideal) w (ix4 b j g e) : EReal) = rc w b g 0 j.castSucc e := by
  rw [val_main_v11_apply, val_main_v10_apply]; refine Eq.trans ?_ (v9_at w b g j 0 e)
  refine congrArg (val_main_v9 (F := Ideal) w) (funext fun a => Fin.ext ?_)
  match a with
  | ⟨0, _⟩ => show (((b.val * 127 + j.val) * 2 + g.val) * 128 + e.val) / 32512 = b.val; omega
  | ⟨1, _⟩ => show (((b.val * 127 + j.val) * 2 + g.val) * 128 + e.val) / 256 % 127 = j.val; omega
  | ⟨2, _⟩ => show (((b.val * 127 + j.val) * 2 + g.val) * 128 + e.val) / 128 % 2 = g.val; omega
  | ⟨3, _⟩ => rfl
  | ⟨4, _⟩ => show (((b.val * 127 + j.val) * 2 + g.val) * 128 + e.val) % 128 = e.val; omega

theorem v13_at (j : Fin 127) (e : Fin 128) : (val_main_v13 (F := Ideal) w (ix4 b j g e) : EReal) = rc w b g 1 j.castSucc e := by
  rw [val_main_v13_apply, val_main_v12_apply]; refine Eq.trans ?_ (v9_at w b g j 1 e)
  refine congrArg (val_main_v9 (F := Ideal) w) (funext fun a => Fin.ext ?_)
  match a with
  | ⟨0, _⟩ => show (((b.val * 127 + j.val) * 2 + g.val) * 128 + e.val) / 32512 = b.val; omega
  | ⟨1, _⟩ => show (((b.val * 127 + j.val) * 2 + g.val) * 128 + e.val) / 256 % 127 = j.val; omega
  | ⟨2, _⟩ => show (((b.val * 127 + j.val) * 2 + g.val) * 128 + e.val) / 128 % 2 = g.val; omega
  | ⟨3, _⟩ => rfl
  | ⟨4, _⟩ => show (((b.val * 127 + j.val) * 2 + g.val) * 128 + e.val) % 128 = e.val; omega

theorem v158_at (e : Fin 128) : (val_main_v158 (F := Ideal) y (ix4 b t g e) : EReal) = rkv y b g 8704 (by omega) 0 t e := by
  rw [val_main_v158_apply, val_main_v157_apply]; refine Eq.trans ?_ (v7_at y b t g 0 e)
  refine congrArg (val_main_v7 (F := Ideal) y) (funext fun a => Fin.ext ?_)
  match a with
  | ⟨0, _⟩ => show (((b.val * 2048 + t.val) * 2 + g.val) * 128 + e.val) / 524288 = b.val; omega
  | ⟨1, _⟩ => show (((b.val * 2048 + t.val) * 2 + g.val) * 128 + e.val) / 256 % 2048 = t.val; omega
  | ⟨2, _⟩ => show (((b.val * 2048 + t.val) * 2 + g.val) * 128 + e.val) / 128 % 2 = g.val; omega
  | ⟨3, _⟩ => rfl
  | ⟨4, _⟩ => show (((b.val * 2048 + t.val) * 2 + g.val) * 128 + e.val) % 128 = e.val; omega

theorem v191_at (e : Fin 128) : (val_main_v191 (F := Ideal) y (ix4 b t g e) : EReal) = rkv y b g 8704 (by omega) 1 t e := by
  rw [val_main_v191_apply, val_main_v190_apply]; refine Eq.trans ?_ (v7_at y b t g 1 e)
  refine congrArg (val_main_v7 (F := Ideal) y) (funext fun a => Fin.ext ?_)
  match a with
  | ⟨0, _⟩ => show (((b.val * 2048 + t.val) * 2 + g.val) * 128 + e.val) / 524288 = b.val; omega
  | ⟨1, _⟩ => show (((b.val * 2048 + t.val) * 2 + g.val) * 128 + e.val) / 256 % 2048 = t.val; omega
  | ⟨2, _⟩ => show (((b.val * 2048 + t.val) * 2 + g.val) * 128 + e.val) / 128 % 2 = g.val; omega
  | ⟨3, _⟩ => rfl
  | ⟨4, _⟩ => show (((b.val * 2048 + t.val) * 2 + g.val) * 128 + e.val) % 128 = e.val; omega

/-! ## Constants and positions -/

/-- The float −∞ read as an extended real. -/
theorem neg_inf : Ideal.ofBits .f32 0xFF800000#32 = (⊥ : EReal) := by simp [Ideal.ofBits, Ideal.ieee]

/-- A position as a signed word. -/
theorem pos_toInt {n : ℕ} (hn : n ≤ 2048) (j : Fin n) : (BitVec.ofNat 32 j.val).toInt = (j.val : ℤ) := toInt_nat (by omega)

/-- The block of a position, as the reference divides: rounding down, whatever the sign. -/
theorem floor64 : ∀ j : Fin 2048,
    Scalar.select (IntOp.andi
        (IntOp.cmpi .ne (if BitVec.ofNat 32 j.val = 0 then (0 : BitVec 32) else if (BitVec.ofNat 32 j.val).msb then -1 else 1)
          (if (64#32 : BitVec 32) = 0 then (0 : BitVec 32) else if (64#32 : BitVec 32).msb then -1 else 1))
        (IntOp.cmpi .ne (IntOp.remsi .host (BitVec.ofNat 32 j.val) 64#32) 0#32))
      (IntOp.subi (IntOp.divsi .host (BitVec.ofNat 32 j.val) 64#32) 1#32) (IntOp.divsi .host (BitVec.ofNat 32 j.val) 64#32)
      = BitVec.ofNat 32 (j.val / 64) := by decide +kernel

theorem v69_at : val_main_v69 (F := Ideal) (ix1 t) = BitVec.ofNat 32 (t.val / 64) := by
  refine Eq.trans ?_ (floor64 t)
  rw [val_main_v69_apply, val_main_call3_v11_apply, val_main_call3_v13_apply, val_main_call3_v6_apply, val_main_call3_v10_apply,
    val_main_call3_v8_apply, val_main_call3_v2_apply, val_main_call3_v1_apply, val_main_call3_v5_apply, val_main_call3_v7_apply,
    val_main_call3_v9_apply, val_main_call3_v12_apply]
  rfl

/-! ## The compressed keys -/

/-- The compressed keys a token sees, as the reference masks them. -/
theorem v28_iff (j : Fin 127) : val_main_v28 (F := Ideal) (ix2 t j) = 1#1 ↔ cseen t.val j.castSucc := by
  rw [val_main_v28_apply, IntOp.cmpi_sle, val_main_v26_apply, val_main_v27_apply, val_main_v24_apply, val_main_v25_apply,
    val_main_v19_apply, val_main_v17_apply, val_main_v16_apply, val_main_v18_apply]
  have h : (IntOp.addi (IntOp.muli (BitVec.ofNat 32 j.val) 16#32) 31#32).toInt = (j.val : ℤ) * 16 + 31 :=
    toInt_add (toInt_mul (pos_toInt (by omega) j) (by decide) (by omega)) (by decide) (by omega)
  refine (show (IntOp.addi (IntOp.muli (BitVec.ofNat 32 j.val) 16#32) 31#32).toInt ≤ (BitVec.ofNat 32 t.val).toInt ↔ _ from ?_)
  rw [h, pos_toInt (le_refl _) t]
  unfold cseen
  rw [Fin.val_castSucc]
  omega

theorem call0_iff (r : Fin 4) (j : Fin 127) : val_main_call0_v1 (F := Ideal) (ix5 b t g r j) = 1#1 ↔ cseen t.val j.castSucc := by
  rw [val_main_call0_v1_apply, val_main_v29_apply, ← v28_iff]
  exact iff_of_eq (congrArg (val_main_v28 (F := Ideal) · = 1#1) (eq_ix2 _))

theorem call1_iff (r : Fin 4) (j : Fin 127) : val_main_call1_v1 (F := Ideal) (ix5 b t g r j) = 1#1 ↔ cseen t.val j.castSucc :=
  call0_iff b t g r j

/-- The scaled scores of the compressed keys. -/
theorem v23_at (r : Fin 4) (j : Fin 127) :
    (val_main_v23 (F := Ideal) y w (ix5 b t g r j) : EReal) = score (rq y b t g r) (rc w b g 0) j.castSucc := by
  rw [val_main_v23_apply, val_main_v21_apply, val_main_v20_apply, val_main_v22_apply]
  refine congrArg (· * scale) (Finset.sum_congr rfl fun e _ => ?_)
  rw [mul_comm]
  refine congrArg₂ (· * ·) ((congrArg (val_main_v1 (F := Ideal) y) (eq_ix5 _)).trans (v1_at y b t g r e))
    ((congrArg (val_main_v11 (F := Ideal) w) (eq_ix4 _)).trans (v11_at w b g j e))

/-- The 127 compressed keys the reference keeps and the 128 the kernel reads give the same shares and the same mean: the
last one's span would end past the sequence. -/
theorem drop_last (q : Fin 128 → EReal) (k v : Fin 128 → Fin 128 → EReal) (d : Fin 128) :
    (∀ j : Fin 127, share (fun j : Fin 127 => cseen t.val j.castSucc) (fun j => score q k j.castSucc) j = share (cseen t.val) (score q k) j.castSucc)
      ∧ att (fun j : Fin 127 => cseen t.val j.castSucc) (fun j => score q k j.castSucc) (fun j => v j.castSucc d)
        = att (cseen t.val) (score q k) (fun j => v j d) := by
  obtain ⟨h1, h2⟩ := att_transfer (Fin.castSucc : Fin 127 → Fin 128) (fun j : Fin 127 => cseen t.val j.castSucc) (cseen t.val)
    (fun k hk => hk) (fun k k' _ _ e => Fin.castSucc_injective _ e)
    (fun i hi => ⟨⟨i.val, by unfold cseen at hi; omega⟩, hi, rfl⟩)
    (sκ := fun j => score q k j.castSucc) (vκ := fun j => v j.castSucc d) (sι := score q k) (vι := fun j => v j d)
    (fun _ _ => rfl) (fun _ _ => rfl)
  refine ⟨fun j => ?_, h2⟩
  by_cases hj : cseen t.val j.castSucc
  · exact h1 j hj
  · exact (share_masked (fun j : Fin 127 => cseen t.val j.castSucc) _ (j := j) hj).trans (share_masked (cseen t.val) _ hj).symm

/-- The shares of the compressed keys. -/
theorem v42_at (r : Fin 4) (j : Fin 127) :
    (val_main_v42 (F := Ideal) y w (ix5 b t g r j) : EReal) = cshare t.val (rq y b t g) (rc w b g 0) r j.castSucc :=
  (softmax_apply _ (by decide) _ _ _ (val_main_call0_v1 (F := Ideal)) (val_main_call1_v1 (F := Ideal)) (val_main_v23 (F := Ideal) y w)
    (val_main_call0_v2 (F := Ideal)) (val_main_call1_v2 (F := Ideal)) (val_main_v39 (F := Ideal)) _ _ b t g r
    (fun j : Fin 127 => cseen t.val j.castSucc) (fun j => score (rq y b t g r) (rc w b g 0) j.castSucc)
    (call0_iff b t g r) (v23_at y w b t g r) (fun i => by rw [val_main_call0_v2_apply]; exact neg_inf) rfl (call1_iff b t g r)
    (fun i => by rw [val_main_call1_v2_apply]; exact Ideal.ofBits_zero_f32) (fun i => by rw [val_main_v39_apply]; rfl) rfl j).trans
    ((drop_last t (rq y b t g r) (rc w b g 0) (rc w b g 0) 0).1 j)

/-- The compressed keys' branch. -/
theorem v44_at (r : Fin 4) (d : Fin 128) :
    (val_main_v44 (F := Ideal) y w (ix5 b t g r d) : EReal)
      = att (cseen t.val) (score (rq y b t g r) (rc w b g 0)) (fun j => rc w b g 1 j d) := by
  rw [val_main_v44_apply, val_main_v43_apply, ← (drop_last t (rq y b t g r) (rc w b g 0) (rc w b g 1) d).2]
  unfold att
  refine Finset.sum_congr rfl fun j _ => ?_
  rw [mul_comm, (drop_last t (rq y b t g r) (rc w b g 0) (rc w b g 1) d).1 j]
  exact congrArg₂ (· * ·) ((congrArg (val_main_v42 (F := Ideal) y w) (eq_ix5 _)).trans (v42_at y w b t g r j))
    ((congrArg (val_main_v13 (F := Ideal) w) (eq_ix4 _)).trans (v13_at w b g j d))

/-! ## The blocks' standings -/

/-- Whether a compressed key's span meets a block. -/
theorem v64_at (j : Fin 127) (c : Fin 32) : (val_main_v64 (F := Ideal) (ix2 j c) : EReal) = if covers c j.castSucc then 1 else 0 := by
  rw [val_main_v64_apply, val_main_v63_apply]
  have h : IntOp.andi (val_main_v57 (F := Ideal) (ix2 j c)) (val_main_v62 (F := Ideal) (ix2 j c)) = 1#1 ↔ covers c j.castSucc := by
    rw [IntOp.andi_eq_one, val_main_v57_apply, val_main_v62_apply, IntOp.cmpi_slt, IntOp.cmpi_sgt]
    simp only [val_main_v55_apply, val_main_v56_apply, val_main_v60_apply, val_main_v61_apply, val_main_v59_apply, val_main_v54_apply,
      val_main_v48_apply, val_main_v52_apply, val_main_v53_apply, val_main_v58_apply,
      val_main_v47_apply, val_main_v51_apply, val_main_v46_apply,
      val_main_v50_apply]
    have hj : (IntOp.muli (BitVec.ofNat 32 j.val) 16#32).toInt = (j.val : ℤ) * 16 := toInt_mul (pos_toInt (by omega) j) (by decide) (by omega)
    have hc : (IntOp.muli (BitVec.ofNat 32 c.val) 64#32).toInt = (c.val : ℤ) * 64 := toInt_mul (pos_toInt (by omega) c) (by decide) (by omega)
    have hj2 : (IntOp.addi (IntOp.muli (BitVec.ofNat 32 j.val) 16#32) 32#32).toInt = (j.val : ℤ) * 16 + 32 := toInt_add hj (by decide) (by omega)
    have hc2 : (IntOp.addi (IntOp.muli (BitVec.ofNat 32 c.val) 64#32) 64#32).toInt = (c.val : ℤ) * 64 + 64 := toInt_add hc (by decide) (by omega)
    refine (show ((IntOp.muli (BitVec.ofNat 32 j.val) 16#32).toInt < (IntOp.addi (IntOp.muli (BitVec.ofNat 32 c.val) 64#32) 64#32).toInt
      ∧ (IntOp.muli (BitVec.ofNat 32 c.val) 64#32).toInt < (IntOp.addi (IntOp.muli (BitVec.ofNat 32 j.val) 16#32) 32#32).toInt) ↔ _ from ?_)
    rw [hj, hc, hj2, hc2]
    unfold covers
    rw [Fin.val_castSucc]
    omega
  by_cases hp : covers c j.castSucc
  · rw [if_pos hp, h.2 hp, select_one, val_main_call2_v0_apply]; exact Ideal.ofBits_one_f32
  · rw [if_neg hp, eq_zero_of_ne_one (fun e => hp (h.1 e)), select_zero, val_main_call2_v1_apply]; exact Ideal.ofBits_zero_f32

/-- A block's importance. -/
theorem v66_at (c : Fin 32) :
    (val_main_v66 (F := Ideal) y w (ix4 b t g c) : EReal) = worth (cshare t.val (rq y b t g) (rc w b g 0)) c := by
  rw [val_main_v66_apply]
  unfold worth
  rw [Fin.sum_univ_castSucc (n := 127), if_neg (fun h : covers c (Fin.last 127) => absurd h.2.2 (by decide)), zero_mul, add_zero]
  refine Finset.sum_congr rfl fun j _ => ?_
  rw [mul_comm]
  refine congrArg₂ (· * ·) ((congrArg (val_main_v64 (F := Ideal)) (eq_ix2 _)).trans (v64_at j c)) ?_
  rw [val_main_v65_apply]
  refine (congrArg (· + _) (Ideal.ofBits_zero_f32 : (val_main_cst_12 (F := Ideal) _ : EReal) = 0)).trans ?_
  rw [zero_add]
  exact Finset.sum_congr rfl fun r _ => (congrArg (val_main_v42 (F := Ideal) y w) (eq_ix5 _)).trans (v42_at y w b t g r j)

theorem blk_toInt (c : Fin 32) : (BitVec.ofNat 32 (t.val / 64)).toInt = (t.val / 64 : ℕ) ∧ (BitVec.ofNat 32 c.val).toInt = (c.val : ℤ) :=
  ⟨toInt_nat (by omega), toInt_nat (by omega)⟩

theorem v70_at (i : Fin 1) : val_main_v70 (F := Ideal) (ix2 t i) = BitVec.ofNat 32 (t.val / 64) := by
  rw [val_main_v70_apply, ← v69_at]
  exact congrArg (val_main_v69 (F := Ideal)) (eq_ix1 _)

theorem v68_at (i : Fin 1) (c : Fin 32) : val_main_v68 (F := Ideal) (ix2 i c) = BitVec.ofNat 32 c.val := by
  rw [val_main_v68_apply]; rfl

/-- The blocks not after the token's. -/
theorem v87_iff (c : Fin 32) : val_main_v87 (F := Ideal) (ix2 t c) = 1#1 ↔ c.val ≤ t.val / 64 := by
  rw [val_main_v87_apply, IntOp.cmpi_sle, val_main_v85_apply, val_main_v86_apply]
  have h1 := congrArg BitVec.toInt ((congrArg (val_main_v68 (F := Ideal)) (eq_ix2 (idx_main_v85 (ix2 t c)))).trans (v68_at 0 c))
  have h2 := congrArg BitVec.toInt ((congrArg (val_main_v70 (F := Ideal)) (eq_ix2 (idx_main_v86 (ix2 t c)))).trans (v70_at t 0))
  rw [h1, h2, (blk_toInt t c).1, (blk_toInt t c).2]
  omega

/-- The first block. -/
theorem v72_iff (i : Fin 1) (c : Fin 32) : val_main_v72 (F := Ideal) (ix2 i c) = 1#1 ↔ c.val = 0 := by
  rw [val_main_v72_apply, v68_at, val_main_v71_apply]
  exact WordCmp.cmpi_eq_ofNat_eq_one_iff (w := 32) (a := c.val) (b := 0) (by omega) (by omega)

/-- The blocks taken whatever their importance. -/
theorem v83_iff (c : Fin 32) : val_main_v83 (F := Ideal) (ix2 t c) = 1#1 ↔ wanted t.val c := by
  rw [val_main_v83_apply, IntOp.ori_eq_one, val_main_v81_apply, IntOp.andi_eq_one, val_main_v75_apply, val_main_v80_apply,
    IntOp.cmpi_sle, IntOp.cmpi_sgt, val_main_v73_apply, val_main_v74_apply, val_main_v78_apply, val_main_v79_apply,
    val_main_v82_apply, val_main_v77_apply, val_main_v76_apply]
  have h0 : val_main_v72 (F := Ideal) (idx_main_v82 (ix2 t c)) = 1#1 ↔ c.val = 0 :=
    (iff_of_eq (congrArg (val_main_v72 (F := Ideal) · = 1#1) (eq_ix2 _))).trans (v72_iff 0 c)
  have h1 : (val_main_v68 (F := Ideal) (idx_main_v73 (ix2 t c))).toInt = (c.val : ℤ) :=
    (congrArg BitVec.toInt ((congrArg (val_main_v68 (F := Ideal)) (eq_ix2 (idx_main_v73 (ix2 t c)))).trans (v68_at 0 c))).trans (blk_toInt t c).2
  have h2 : (val_main_v70 (F := Ideal) (idx_main_v74 (ix2 t c))).toInt = ((t.val / 64 : ℕ) : ℤ) :=
    (congrArg BitVec.toInt ((congrArg (val_main_v70 (F := Ideal)) (eq_ix2 (idx_main_v74 (ix2 t c)))).trans (v70_at t 0))).trans (blk_toInt t c).1
  have h3 : (IntOp.subi (val_main_v70 (F := Ideal) (idx_main_v79 (ix2 t c))) (val_main_c_15 (F := Ideal) (idx_main_v76 (idx_main_v79 (ix2 t c))))).toInt
      = ((t.val / 64 : ℕ) : ℤ) - 2 := toInt_sub h2 (q := 2) rfl (by omega)
  rw [h0, h1, h2, h3]
  unfold wanted
  omega

/-- What the reference ranks the blocks by. -/
theorem v95_at (c : Fin 32) :
    (val_main_v95 (F := Ideal) y w (ix4 b t g c) : EReal) = standing t.val (cshare t.val (rq y b t g) (rc w b g 0)) c := by
  rw [val_main_v95_apply]
  unfold standing
  have hm : val_main_call5_v1 (F := Ideal) (ix4 b t g c) = 1#1 ↔ c.val ≤ t.val / 64 := by
    rw [val_main_call5_v1_apply, val_main_v88_apply, ← v87_iff]
    exact iff_of_eq (congrArg (val_main_v87 (F := Ideal) · = 1#1) (eq_ix2 _))
  by_cases h : c.val ≤ t.val / 64
  · rw [if_pos h, hm.2 h, select_one, val_main_v94_apply, v66_at, val_main_v93_apply, val_main_v92_apply, val_main_v91_apply,
      val_main_v90_apply, val_main_v89_apply]
    refine congrArg (fun x => worth (cshare t.val (rq y b t g) (rc w b g 0)) c + bonus * x) ?_
    refine (congrArg (val_main_v84 (F := Ideal)) (eq_ix2 (idx_main_v89 (idx_main_v93 (ix4 b t g c))))).trans ?_
    refine (?_ : (val_main_v84 (F := Ideal) (ix2 t c) : EReal) = _)
    rw [val_main_v84_apply]
    by_cases hw : wanted t.val c
    · rw [if_pos hw, (v83_iff t c).2 hw, select_one, val_main_call4_v0_apply]; exact Ideal.ofBits_one_f32
    · rw [if_neg hw, eq_zero_of_ne_one (fun e => hw ((v83_iff t c).1 e)), select_zero, val_main_call4_v1_apply]
      exact Ideal.ofBits_zero_f32
  · rw [if_neg h, eq_zero_of_ne_one (fun e => h (hm.1 e)), select_zero, val_main_call5_v2_apply, val_main_call5_v0_apply]
    exact neg_inf

end Cert.Nsa
-- ==== Proof.RefSel.lean ====
module
public import proofs.«01_k».proof.Proof.RefRead
public import Idealize.ShloMosaic.Lib.ValueIdxRank6

/-! The selected branch of the reference: the sixteen blocks its top-k returns, the keys and values it gathers from them,
and the attention over these. -/

@[expose] public section

noncomputable section

namespace Cert.Nsa

open Idealize.ShloMosaic hiding ix0 ix1 ix2 ix3 ix4 ix5 ix6 eq_ix1 eq_ix2 eq_ix3 eq_ix4 eq_ix5 eq_ix6
open Idealize.ShloMosaic.ValueIdx Idealize.SL.Sem
open Cert.ReferenceIdeal.Read

/-! ## The top-k -/

/-- A stable sort along the last of four axes that carries the positions: what it carries to place `c` is the position
whose element sorts to that place. -/
theorem sort2_at {n0 n1 n2 n : ℕ} {α : Type} (gt : α → α → BitVec 1) (x : (⟨4, ![n0, n1, n2, n]⟩ : Shape).Idx → α)
    (z : IVec ⟨4, ![n0, n1, n2, n]⟩ 32) (hz : ∀ i, z i = BitVec.ofNat 32 (i 3).val) (b : Fin n0) (t : Fin n1) (g : Fin n2) (c : Fin n) :
    (Host.sort2 ⟨4, ![n0, n1, n2, n]⟩ 3 (fun l r => gt l.1 r.1) x z).2 (ix4 b t g c)
      = BitVec.ofNat 32 (sortedFrom (fun i j => gt (x (ix4 b t g i)) (x (ix4 b t g j)) == 1#1) c).val := by
  have ha (k : Fin n) : (ix4 b t g c : (⟨4, ![n0, n1, n2, n]⟩ : Shape).Idx).along (3 : Fin 4) k = ix4 b t g k := by
    funext a
    unfold Shape.Idx.along
    match a with
    | ⟨0, _⟩ => rfl
    | ⟨1, _⟩ => rfl
    | ⟨2, _⟩ => rfl
    | ⟨3, _⟩ => rfl
  unfold Host.sort2
  rw [dif_pos (show 3 < (⟨4, ![n0, n1, n2, n]⟩ : Shape).rank from by show 3 < 4; omega)]
  refine (hz _).trans ?_
  refine congrArg (fun k : Fin n => BitVec.ofNat 32 k.val) ((Function.update_self (3 : Fin 4) _ _).trans ?_)
  exact congrArg (fun B : Fin n → Fin n → Bool => sortedFrom B c)
    (funext fun i => funext fun j => congrArg₂ (fun p q => gt (x p) (x q) == 1#1) (ha i) (ha j))

/-- The positions a top-k along the last of four axes returns: the first places of the stable sort. -/
theorem topK_at {n0 n1 n2 n k : ℕ} {α : Type} (gt : α → α → BitVec 1) (x : (⟨4, ![n0, n1, n2, n]⟩ : Shape).Idx → α)
    (h : (⟨4, ![n0, n1, n2, n]⟩ : Shape).Slices (fun _ => 0) ⟨4, ![n0, n1, n2, k]⟩) (hk : k ≤ n) (b : Fin n0) (t : Fin n1) (g : Fin n2) (i : Fin k) :
    (Host.topK ⟨4, ![n0, n1, n2, k]⟩ 3 gt x h).2 (ix4 b t g i)
      = BitVec.ofNat 32 (sortedFrom (fun p q => gt (x (ix4 b t g p)) (x (ix4 b t g q)) == 1#1) (i.castLE hk)).val := by
  refine (extractStridedSlice_apply (fun _ => 0)
    (Host.sort2 ⟨4, ![n0, n1, n2, n]⟩ 3 (fun l r => gt l.1 r.1) x (fun i => if hd : 3 < (⟨4, ![n0, n1, n2, n]⟩ : Shape).rank then iotaInDim _ 32 ⟨3, hd⟩ i else 0#32)).2
    h (ix4 b t g i) (ix4 b t g (i.castLE hk)) fun a => ?_).trans
    (sort2_at gt x _ (fun i => dif_pos (show 3 < (⟨4, ![n0, n1, n2, n]⟩ : Shape).rank from by show 3 < 4; omega)) b t g _)
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm

/-- Three columns of words set side by side: each is the column it is put at. -/
theorem three_at {n0 n1 n2 n3 : ℕ} (x0 x1 x2 : IVec ⟨5, ![n0, n1, n2, n3, 1]⟩ 32)
    (h : Shape.Concatenates [⟨5, ![n0, n1, n2, n3, 1]⟩, ⟨5, ![n0, n1, n2, n3, 1]⟩, ⟨5, ![n0, n1, n2, n3, 1]⟩] (⟨5, ![n0, n1, n2, n3, 3]⟩ : Shape) 4)
    (b : Fin n0) (t : Fin n1) (g : Fin n2) (k : Fin n3) :
    concatenate (⟨5, ![n0, n1, n2, n3, 3]⟩ : Shape) 4 [⟨⟨5, ![n0, n1, n2, n3, 1]⟩, x0⟩, ⟨⟨5, ![n0, n1, n2, n3, 1]⟩, x1⟩, ⟨⟨5, ![n0, n1, n2, n3, 1]⟩, x2⟩] h (ix5 b t g k 0) = x0 (ix5 b t g k 0)
    ∧ concatenate (⟨5, ![n0, n1, n2, n3, 3]⟩ : Shape) 4 [⟨⟨5, ![n0, n1, n2, n3, 1]⟩, x0⟩, ⟨⟨5, ![n0, n1, n2, n3, 1]⟩, x1⟩, ⟨⟨5, ![n0, n1, n2, n3, 1]⟩, x2⟩] h (ix5 b t g k 1) = x1 (ix5 b t g k 0)
    ∧ concatenate (⟨5, ![n0, n1, n2, n3, 3]⟩ : Shape) 4 [⟨⟨5, ![n0, n1, n2, n3, 1]⟩, x0⟩, ⟨⟨5, ![n0, n1, n2, n3, 1]⟩, x1⟩, ⟨⟨5, ![n0, n1, n2, n3, 1]⟩, x2⟩] h (ix5 b t g k 2) = x2 (ix5 b t g k 0) := by
  have off (c : Fin 3) (e : Fin 5) (he : e ≠ 4) : (ix5 b t g k (0 : Fin 1) e).val = (ix5 b t g k c e).val := by
    match e with
    | ⟨0, _⟩ => rfl
    | ⟨1, _⟩ => rfl
    | ⟨2, _⟩ => rfl
    | ⟨3, _⟩ => rfl
    | ⟨4, _⟩ => exact absurd rfl he
  have piece (c : Fin 3) (q : IVec ⟨5, ![n0, n1, n2, n3, 1]⟩ 32)
      (hc : ([⟨⟨5, ![n0, n1, n2, n3, 1]⟩, x0⟩, ⟨⟨5, ![n0, n1, n2, n3, 1]⟩, x1⟩, ⟨⟨5, ![n0, n1, n2, n3, 1]⟩, x2⟩] : List ((s : Shape) × (s.Idx → BitVec 32)))[c.val]'c.isLt = ⟨⟨5, ![n0, n1, n2, n3, 1]⟩, q⟩)
      (hs : (((([⟨⟨5, ![n0, n1, n2, n3, 1]⟩, x0⟩, ⟨⟨5, ![n0, n1, n2, n3, 1]⟩, x1⟩, ⟨⟨5, ![n0, n1, n2, n3, 1]⟩, x2⟩] : List ((s : Shape) × (s.Idx → BitVec 32))).take c.val).map (·.1)).map
        fun s => if hr : s.rank = (⟨5, ![n0, n1, n2, n3, 3]⟩ : Shape).rank then s.size ((4 : Fin 5).cast hr.symm) else 0).sum = c.val) :
      concatenate (⟨5, ![n0, n1, n2, n3, 3]⟩ : Shape) 4 [⟨⟨5, ![n0, n1, n2, n3, 1]⟩, x0⟩, ⟨⟨5, ![n0, n1, n2, n3, 1]⟩, x1⟩, ⟨⟨5, ![n0, n1, n2, n3, 1]⟩, x2⟩] h (ix5 b t g k c) = q (ix5 b t g k 0) :=
    concatenate_apply_piece (t := ⟨5, ![n0, n1, n2, n3, 3]⟩) (4 : Fin 5) [⟨⟨5, ![n0, n1, n2, n3, 1]⟩, x0⟩, ⟨⟨5, ![n0, n1, n2, n3, 1]⟩, x1⟩, ⟨⟨5, ![n0, n1, n2, n3, 1]⟩, x2⟩] h (ix5 b t g k c) c.val c.isLt _ q hc rfl c.val hs (ix5 b t g k (0 : Fin 1)) (off c) (Nat.add_zero _)
  exact ⟨piece 0 x0 rfl rfl, piece 1 x1 rfl rfl, piece 2 x2 rfl rfl⟩

/-- The dimension numbers of a gather of rows: three of the operand's five axes are started at the index's three words. -/
abbrev rowDims {n0 n1 n2 c0 c1 b0 b1 b2 m : ℕ}
    (wf : GatherDims.WF ⟨5, ![n0, n1, n2, c0, c1]⟩ ⟨5, ![b0, b1, b2, m, 3]⟩ ⟨6, ![b0, b1, b2, m, c0, c1]⟩ [4, 5] [0, 1, 2] [] [0, 1, 2] [] 4 ![1, 1, 1, c0, c1]) :
    GatherDims ⟨5, ![n0, n1, n2, c0, c1]⟩ ⟨5, ![b0, b1, b2, m, 3]⟩ ⟨6, ![b0, b1, b2, m, c0, c1]⟩ where
  offsetDims := [4, 5]
  collapsedSliceDims := [0, 1, 2]
  operandBatchingDims := []
  startIndicesBatchingDims := []
  startIndexMap := [0, 1, 2]
  indexVectorDim := 4
  sliceSizes := ![1, 1, 1, c0, c1]
  wf := wf

/-- Rows gathered at three of five axes: the entry is the operand's at the three start indices, where these are in range. -/
theorem rows_at {n0 n1 n2 c0 c1 b0 b1 b2 m : ℕ} {α : Type}
    (wf : GatherDims.WF ⟨5, ![n0, n1, n2, c0, c1]⟩ ⟨5, ![b0, b1, b2, m, 3]⟩ ⟨6, ![b0, b1, b2, m, c0, c1]⟩ [4, 5] [0, 1, 2] [] [0, 1, 2] [] 4 ![1, 1, 1, c0, c1])
    (x : (⟨5, ![n0, n1, n2, c0, c1]⟩ : Shape).Idx → α) (z : IVec ⟨5, ![b0, b1, b2, m, 3]⟩ 32) (b : Fin b0) (t : Fin b1) (g : Fin b2) (k : Fin m)
    (p : Fin c0) (e : Fin c1) (i0 : Fin n0) (i1 : Fin n1) (i2 : Fin n2) (h0 : (z (ix5 b t g k 0)).toInt.toNat = i0.val)
    (h1 : (z (ix5 b t g k 1)).toInt.toNat = i1.val) (h2 : (z (ix5 b t g k 2)).toInt.toNat = i2.val) :
    Host.gather (rowDims wf) x z (ix6 b t g k p e) = x (ix5 i0 i1 i2 p e) := by
  unfold Host.gather
  refine congrArg x (funext fun a => Fin.ext ?_)
  have hd (c : Fin 3) : (rowDims wf).siIdx (ix6 b t g k p e) c = ix5 b t g k c := by
    funext a
    match a with
    | ⟨0, _⟩ => rfl
    | ⟨1, _⟩ => rfl
    | ⟨2, _⟩ => rfl
    | ⟨3, _⟩ => rfl
    | ⟨4, _⟩ => rfl
  have hv (c : Fin 3) := congrArg (fun i => (z i).toInt.toNat) (hd c)
  match a with
  | ⟨0, _⟩ => exact (congrArg (fun n => min n (n0 - 1) + 0 + 0) ((hv 0).trans h0)).trans (by show min i0.val (n0 - 1) + 0 + 0 = i0.val; omega)
  | ⟨1, _⟩ => exact (congrArg (fun n => min n (n1 - 1) + 0 + 0) ((hv 1).trans h1)).trans (by show min i1.val (n1 - 1) + 0 + 0 = i1.val; omega)
  | ⟨2, _⟩ => exact (congrArg (fun n => min n (n2 - 1) + 0 + 0) ((hv 2).trans h2)).trans (by show min i2.val (n2 - 1) + 0 + 0 = i2.val; omega)
  | ⟨3, _⟩ => exact (show 0 + 0 + p.val = p.val by omega)
  | ⟨4, _⟩ => exact (show 0 + 0 + e.val = e.val by omega)

variable (y : Proj) (w : Comp) (b : Fin 8) (t : Fin 2048) (g : Fin 2)

/-- The standings of the blocks for token `t` of sequence `b` and a group. -/
def stand : Fin 32 → EReal := standing t.val (cshare t.val (rq y b t g) (rc w b g 0))

/-- The blocks the reference's top-k names. -/
theorem indices_at (i : Fin 16) : val_main_indices (F := Ideal) y w (ix4 b t g i) = BitVec.ofNat 32 (place (stand y w b t g) i).val := by
  unfold val_main_indices
  refine (topK_at (FloatOps.cmpfTotal (F := Ideal) (φ := .f32) .gt) (val_main_v95 (F := Ideal) y w) _ (by omega) b t g i).trans ?_
  refine congrArg (fun B : Fin 32 → Fin 32 → Bool => BitVec.ofNat 32 (sortedFrom B (i.castLE (by omega))).val) ?_
  funext p q
  exact congrArg₂ (fun u v => FloatOps.cmpfTotal (F := Ideal) (φ := .f32) .gt u v == 1#1) (v95_at y w b t g p) (v95_at y w b t g q)

/-- The token a gathered key is, as a word. -/
theorem v104_at (k : Fin 1024) : val_main_v104 (F := Ideal) y w (ix4 b t g k) = BitVec.ofNat 32 (spot (stand y w b t g) k).val := by
  have e1 : idx_main_v104 (ix4 b t g k) = ix5 b t g (⟨k.val / 64, by omega⟩ : Fin 16) (⟨k.val % 64, by omega⟩ : Fin 64) := by
    funext a
    apply Fin.ext
    match a with
    | ⟨0, _⟩ => show (((b.val * 2048 + t.val) * 2 + g.val) * 1024 + k.val) / 4194304 = b.val; omega
    | ⟨1, _⟩ => show (((b.val * 2048 + t.val) * 2 + g.val) * 1024 + k.val) / 2048 % 2048 = t.val; omega
    | ⟨2, _⟩ => show (((b.val * 2048 + t.val) * 2 + g.val) * 1024 + k.val) / 1024 % 2 = g.val; omega
    | ⟨3, _⟩ => show (((b.val * 2048 + t.val) * 2 + g.val) * 1024 + k.val) / 64 % 16 = k.val / 64; omega
    | ⟨4, _⟩ => show (((b.val * 2048 + t.val) * 2 + g.val) * 1024 + k.val) % 64 = k.val % 64; omega
  rw [val_main_v104_apply, e1, val_main_v103_apply, val_main_v101_apply, val_main_v102_apply, val_main_v98_apply, val_main_v96_apply,
    val_main_v97_apply, val_main_v100_apply]
  have e2 : idx_main_v96 (idx_main_v101 (ix5 b t g (⟨k.val / 64, by omega⟩ : Fin 16) (⟨k.val % 64, by omega⟩ : Fin 64)))
      = ix4 b t g (⟨k.val / 64, by omega⟩ : Fin 16) := eq_ix4 _
  rw [e2, indices_at]
  show IntOp.addi (IntOp.muli (BitVec.ofNat 32 (place (stand y w b t g) ⟨k.val / 64, by omega⟩).val) 64#32) (BitVec.ofNat 32 (k.val % 64)) = _
  refine BitVec.eq_of_toInt_eq ?_
  have hp := (place (stand y w b t g) ⟨k.val / 64, by omega⟩).isLt
  rw [toInt_add (toInt_mul (toInt_nat (by omega)) (q := 64) rfl (by omega)) (toInt_nat (by omega)) (by omega), toInt_nat (by omega)]
  unfold spot
  show (_ : ℤ) = ((64 * (place (stand y w b t g) ⟨k.val / 64, _⟩).val + k.val % 64 : ℕ) : ℤ)
  push_cast
  ring

/-- The gathered keys that are not after the token. -/
theorem v107_iff (k : Fin 1024) : val_main_v107 (F := Ideal) y w (ix4 b t g k) = 1#1 ↔ (spot (stand y w b t g) k).val ≤ t.val := by
  rw [val_main_v107_apply, v104_at, val_main_v106_apply, val_main_v105_apply]
  exact WordCmp.cmpi_sle_ofNat_eq_one_iff (w := 32) (b := t.val) (by have := (spot (stand y w b t g) k).isLt; omega) (by omega)

theorem call6_iff (r : Fin 4) (k : Fin 1024) :
    val_main_call6_v1 (F := Ideal) y w (ix5 b t g r k) = 1#1 ↔ (spot (stand y w b t g) k).val ≤ t.val := by
  rw [val_main_call6_v1_apply, val_main_v139_apply, ← v107_iff]
  exact iff_of_eq (congrArg (val_main_v107 (F := Ideal) y w · = 1#1) (eq_ix4 _))

theorem call7_iff (r : Fin 4) (k : Fin 1024) :
    val_main_call7_v1 (F := Ideal) y w (ix5 b t g r k) = 1#1 ↔ (spot (stand y w b t g) k).val ≤ t.val := call6_iff y w b t g r k

/-! ## The gather -/

/-- A word that isn't negative stays what it is where the reference would wrap a negative one round. -/
theorem no_wrap {n : ℕ} (h : n < 2 ^ 31) (z : BitVec 32) :
    Scalar.select (IntOp.cmpi .slt (BitVec.ofNat 32 n) 0#32) z (BitVec.ofNat 32 n) = BitVec.ofNat 32 n := by
  rw [eq_zero_of_ne_one (fun e => absurd ((WordCmp.cmpi_slt_ofNat_eq_one_iff (w := 32) (a := n) (b := 0) h (by omega)).1 e) (by omega)), select_zero]

/-- The first start index of a gathered row is its sequence. -/
theorem v129_at (k : Fin 1024) : val_main_v129 (F := Ideal) (ix5 b t g k (0 : Fin 1)) = BitVec.ofNat 32 b.val := by
  rw [val_main_v129_apply, val_main_v127_apply, val_main_v116_apply, val_main_v113_apply, val_main_v112_apply, val_main_v109_apply,
    val_main_v108_apply]
  exact no_wrap (n := b.val) (by omega) _

/-- The second is its token. -/
theorem v130_at (k : Fin 1024) : val_main_v130 (F := Ideal) y w (ix5 b t g k (0 : Fin 1)) = BitVec.ofNat 32 (spot (stand y w b t g) k).val := by
  have e1 : idx_main_v130 (ix5 b t g k (0 : Fin 1)) = ix4 b t g k := eq_ix4 _
  have h := v104_at y w b t g k
  generalize spot (stand y w b t g) k = s at h ⊢
  rw [val_main_v130_apply, e1, val_main_v121_apply, val_main_v118_apply, h, val_main_v117_apply]
  exact no_wrap (n := s.val) (by omega) _

/-- The third is its group. -/
theorem v131_at (k : Fin 1024) : val_main_v131 (F := Ideal) (ix5 b t g k (0 : Fin 1)) = BitVec.ofNat 32 g.val := by
  rw [val_main_v131_apply, val_main_v128_apply, val_main_v126_apply, val_main_v123_apply, val_main_v122_apply, val_main_v111_apply,
    val_main_v110_apply]
  exact no_wrap (n := g.val) (by omega) _

/-- The start indices of a gathered row: its sequence, its token and its group. -/
theorem v132_at (k : Fin 1024) :
    val_main_v132 (F := Ideal) y w (ix5 b t g k 0) = BitVec.ofNat 32 b.val
    ∧ val_main_v132 (F := Ideal) y w (ix5 b t g k 1) = BitVec.ofNat 32 (spot (stand y w b t g) k).val
    ∧ val_main_v132 (F := Ideal) y w (ix5 b t g k 2) = BitVec.ofNat 32 g.val := by
  have h0 := v129_at b t g k
  have h1 := v130_at y w b t g k
  have h2 := v131_at b t g k
  unfold val_main_v132
  generalize val_main_v129 (F := Ideal) = x0 at h0 ⊢
  generalize val_main_v130 (F := Ideal) y w = x1 at h1 ⊢
  generalize val_main_v131 (F := Ideal) = x2 at h2 ⊢
  generalize spot (stand y w b t g) k = s at h1 ⊢
  have h := three_at x0 x1 x2 Cert.ReferenceIdeal.Facts₀.concatenates_S8x2048x2x1024x1_S8x2048x2x1024x1_S8x2048x2x1024x1_S8x2048x2x1024x3_d4 b t g k
  exact ⟨h.1.trans h0, h.2.1.trans h1, h.2.2.trans h2⟩

/-- The printed gather's dimension numbers are those of a gather of rows. -/
theorem gather_dims : Cert.ReferenceIdeal.gather_S8x2048x2x2x128_S8x2048x2x1024x3_S8x2048x2x1024x2x128_45_012_n_n_012_4_1112128
    = rowDims Cert.ReferenceIdeal.Facts₀.gather_S8x2048x2x2x128_S8x2048x2x1024x3_S8x2048x2x1024x2x128_45_012_n_n_012_4_1112128_wf := rfl

/-- A word of a number below `2 ^ 31`, read signed. -/
theorem word_nat {i : BitVec 32} {n : ℕ} (hi : i = BitVec.ofNat 32 n) (hn : n < 2 ^ 31) : i.toInt.toNat = n := by
  rw [hi, toInt_nat hn]; exact Int.toNat_natCast _

/-- A gathered entry is the entry of the token's keys or values. -/
theorem v133_at (k : Fin 1024) (p : Fin 2) (e : Fin 128) :
    (val_main_v133 (F := Ideal) y w (ix6 b t g k p e) : EReal) = rkv y b g 8192 (by omega) p (spot (stand y w b t g) k) e := by
  refine Eq.trans ?_ (v5_at y b _ g p e)
  obtain ⟨h0, h1, h2⟩ := v132_at y w b t g k
  unfold val_main_v133
  rw [gather_dims]
  generalize val_main_v132 (F := Ideal) y w = z at h0 h1 h2 ⊢
  generalize val_main_v5 (F := Ideal) y = x
  generalize spot (stand y w b t g) k = s at h1 ⊢
  exact rows_at _ x z b t g k p e b s g (word_nat h0 (by omega)) (word_nat h1 (by omega)) (word_nat h2 (by omega))

/-- The gathered keys. -/
theorem v135_at (k : Fin 1024) (e : Fin 128) :
    (val_main_v135 (F := Ideal) y w (ix5 b t g k e) : EReal) = rkv y b g 8192 (by omega) 0 (spot (stand y w b t g) k) e := by
  unfold val_main_v135
  refine (shapeCast_apply _ _ (ix5 b t g k e) (ix6 b t g k (0 : Fin 1) e) ?_).trans ?_
  · rw [Shape.rowMajor_val_five, Shape.rowMajor_val_six]
    show ((((b.val * 2048 + t.val) * 2 + g.val) * 1024 + k.val) * 1 + 0) * 128 + e.val = (((b.val * 2048 + t.val) * 2 + g.val) * 1024 + k.val) * 128 + e.val
    omega
  · rw [val_main_v134_apply, ← v133_at]
    exact congrArg (val_main_v133 (F := Ideal) y w) (eq_ix6 _)

/-- The gathered values. -/
theorem v154_at (k : Fin 1024) (e : Fin 128) :
    (val_main_v154 (F := Ideal) y w (ix5 b t g k e) : EReal) = rkv y b g 8192 (by omega) 1 (spot (stand y w b t g) k) e := by
  unfold val_main_v154
  refine (shapeCast_apply _ _ (ix5 b t g k e) (ix6 b t g k (0 : Fin 1) e) ?_).trans ?_
  · rw [Shape.rowMajor_val_five, Shape.rowMajor_val_six]
    show ((((b.val * 2048 + t.val) * 2 + g.val) * 1024 + k.val) * 1 + 0) * 128 + e.val = (((b.val * 2048 + t.val) * 2 + g.val) * 1024 + k.val) * 128 + e.val
    omega
  · rw [val_main_v153_apply, ← v133_at]
    exact congrArg (val_main_v133 (F := Ideal) y w) (eq_ix6 _)

/-! ## The attention over them -/

/-- The scaled scores of the gathered keys. -/
theorem v138_at (r : Fin 4) (k : Fin 1024) :
    (val_main_v138 (F := Ideal) y w (ix5 b t g r k) : EReal)
      = score (rq y b t g r) (rkv y b g 8192 (by omega) 0) (spot (stand y w b t g) k) := by
  rw [val_main_v138_apply, val_main_v136_apply, val_main_v137_apply]
  refine congrArg (· * scale) (Finset.sum_congr rfl fun e _ => ?_)
  exact congrArg₂ (· * ·) ((congrArg (val_main_v1 (F := Ideal) y) (eq_ix5 _)).trans (v1_at y b t g r e))
    ((congrArg (val_main_v135 (F := Ideal) y w) (eq_ix5 _)).trans (v135_at y w b t g k e))

/-- The shares of the gathered keys. -/
theorem v152_at (r : Fin 4) (k : Fin 1024) :
    (val_main_v152 (F := Ideal) y w (ix5 b t g r k) : EReal)
      = share (fun k => (spot (stand y w b t g) k).val ≤ t.val)
        (fun k => score (rq y b t g r) (rkv y b g 8192 (by omega) 0) (spot (stand y w b t g) k)) k :=
  softmax_apply _ (by decide) _ _ _ (val_main_call6_v1 (F := Ideal) y w) (val_main_call7_v1 (F := Ideal) y w) (val_main_v138 (F := Ideal) y w)
    (val_main_call6_v2 (F := Ideal)) (val_main_call7_v2 (F := Ideal)) (val_main_v149 (F := Ideal)) _ _ b t g r
    (fun k => (spot (stand y w b t g) k).val ≤ t.val)
    (fun k => score (rq y b t g r) (rkv y b g 8192 (by omega) 0) (spot (stand y w b t g) k))
    (call6_iff y w b t g r) (v138_at y w b t g r) (fun i => by rw [val_main_call6_v2_apply]; exact neg_inf) rfl (call7_iff y w b t g r)
    (fun i => by rw [val_main_call7_v2_apply]; exact Ideal.ofBits_zero_f32) (fun i => by rw [val_main_v149_apply]; rfl) rfl k

/-- The selected branch: attention over the tokens of the picked blocks. -/
theorem v155_at (r : Fin 4) (d : Fin 128) :
    (val_main_v155 (F := Ideal) y w (ix5 b t g r d) : EReal)
      = att (sseen t.val (stand y w b t g)) (score (rq y b t g r) (rkv y b g 8192 (by omega) 0)) (fun j => rkv y b g 8192 (by omega) 1 j d) := by
  rw [val_main_v155_apply, ← (att_transfer (spot (stand y w b t g)) (fun k => (spot (stand y w b t g) k).val ≤ t.val) (sseen t.val (stand y w b t g))
    (fun k hk => (sseen_iff _ _ _).2 ⟨k, hk, rfl⟩) (fun k k' _ _ e => spot_injective _ e) (fun i hi => (sseen_iff _ _ _).1 hi)
    (sκ := fun k => score (rq y b t g r) (rkv y b g 8192 (by omega) 0) (spot (stand y w b t g) k))
    (vκ := fun k => rkv y b g 8192 (by omega) 1 (spot (stand y w b t g) k) d)
    (sι := score (rq y b t g r) (rkv y b g 8192 (by omega) 0)) (vι := fun j => rkv y b g 8192 (by omega) 1 j d)
    (fun _ _ => rfl) (fun _ _ => rfl)).2]
  unfold att
  refine Finset.sum_congr rfl fun k _ => ?_
  exact congrArg₂ (· * ·) ((congrArg (val_main_v152 (F := Ideal) y w) (eq_ix5 _)).trans (v152_at y w b t g r k))
    ((congrArg (val_main_v154 (F := Ideal) y w) (eq_ix5 _)).trans (v154_at y w b t g k d))

end Cert.Nsa
-- ==== Proof.RefOut.lean ====
module
public import proofs.«01_k».proof.Proof.RefSel

/-! The window branch of the reference, its gates, and its result at an entry. -/

@[expose] public section

noncomputable section

namespace Cert.Nsa

open Idealize.ShloMosaic hiding ix0 ix1 ix2 ix3 ix4 ix5 ix6 eq_ix1 eq_ix2 eq_ix3 eq_ix4 eq_ix5 eq_ix6
open Idealize.ShloMosaic.ValueIdx Idealize.SL.Sem
open Cert.ReferenceIdeal.Read

variable (y : Proj) (w : Comp) (b : Fin 8) (t : Fin 2048) (g : Fin 2)

/-! ## The window -/

/-- The tokens of the window, as the reference masks them. -/
theorem v175_iff (j : Fin 2048) : val_main_v175 (F := Ideal) (ix2 t j) = 1#1 ↔ wseen t.val j := by
  rw [val_main_v175_apply, IntOp.andi_eq_one, val_main_v167_apply, val_main_v174_apply, IntOp.cmpi_sle, IntOp.cmpi_sgt,
    val_main_v165_apply, val_main_v166_apply, val_main_v163_apply, val_main_v164_apply, val_main_v172_apply, val_main_v168_apply,
    val_main_v173_apply, val_main_v171_apply, val_main_v169_apply, val_main_v170_apply]
  refine (show ((BitVec.ofNat 32 j.val).toInt ≤ (BitVec.ofNat 32 t.val).toInt
    ∧ (IntOp.subi (BitVec.ofNat 32 t.val) 512#32).toInt < (BitVec.ofNat 32 j.val).toInt) ↔ _ from ?_)
  rw [toInt_sub (pos_toInt (le_refl _) t) (q := 512) rfl (by omega), pos_toInt (le_refl _) j, pos_toInt (le_refl _) t]
  unfold wseen
  omega

theorem call8_iff (r : Fin 4) (j : Fin 2048) : val_main_call8_v1 (F := Ideal) (ix5 b t g r j) = 1#1 ↔ wseen t.val j := by
  rw [val_main_call8_v1_apply, val_main_v176_apply, ← v175_iff]
  exact iff_of_eq (congrArg (val_main_v175 (F := Ideal) · = 1#1) (eq_ix2 _))

theorem call9_iff (r : Fin 4) (j : Fin 2048) : val_main_call9_v1 (F := Ideal) (ix5 b t g r j) = 1#1 ↔ wseen t.val j :=
  call8_iff b t g r j

/-- The scaled scores of the sequence's tokens. -/
theorem v162_at (r : Fin 4) (j : Fin 2048) :
    (val_main_v162 (F := Ideal) y (ix5 b t g r j) : EReal) = score (rq y b t g r) (rkv y b g 8704 (by omega) 0) j := by
  rw [val_main_v162_apply, val_main_v160_apply, val_main_v159_apply, val_main_v161_apply]
  refine congrArg (· * scale) (Finset.sum_congr rfl fun e _ => ?_)
  rw [mul_comm]
  exact congrArg₂ (· * ·) ((congrArg (val_main_v1 (F := Ideal) y) (eq_ix5 _)).trans (v1_at y b t g r e))
    ((congrArg (val_main_v158 (F := Ideal) y) (eq_ix4 _)).trans (v158_at y b j g e))

/-- The shares of the window's tokens. -/
theorem v189_at (r : Fin 4) (j : Fin 2048) :
    (val_main_v189 (F := Ideal) y (ix5 b t g r j) : EReal)
      = share (wseen t.val) (score (rq y b t g r) (rkv y b g 8704 (by omega) 0)) j :=
  softmax_apply _ (by decide) _ _ _ (val_main_call8_v1 (F := Ideal)) (val_main_call9_v1 (F := Ideal)) (val_main_v162 (F := Ideal) y)
    (val_main_call8_v2 (F := Ideal)) (val_main_call9_v2 (F := Ideal)) (val_main_v186 (F := Ideal)) _ _ b t g r
    (wseen t.val) (score (rq y b t g r) (rkv y b g 8704 (by omega) 0))
    (call8_iff b t g r) (v162_at y b t g r) (fun i => by rw [val_main_call8_v2_apply]; exact neg_inf) rfl (call9_iff b t g r)
    (fun i => by rw [val_main_call9_v2_apply]; exact Ideal.ofBits_zero_f32) (fun i => by rw [val_main_v186_apply]; rfl) rfl j

/-- The window branch. -/
theorem v193_at (r : Fin 4) (d : Fin 128) :
    (val_main_v193 (F := Ideal) y (ix5 b t g r d) : EReal)
      = att (wseen t.val) (score (rq y b t g r) (rkv y b g 8704 (by omega) 0)) (fun j => rkv y b g 8704 (by omega) 1 j d) := by
  rw [val_main_v193_apply, val_main_v192_apply]
  unfold att
  refine Finset.sum_congr rfl fun j _ => ?_
  rw [mul_comm]
  exact congrArg₂ (· * ·) ((congrArg (val_main_v189 (F := Ideal) y) (eq_ix5 _)).trans (v189_at y b t g r j))
    ((congrArg (val_main_v191 (F := Ideal) y) (eq_ix4 _)).trans (v191_at y b j g d))

/-! ## The gates and the result -/

/-- A gate. -/
theorem v199_at (r : Fin 4) (c : Fin 3) : (val_main_v199 (F := Ideal) y (ix5 b t g r c) : EReal) = gate (rg y b t g r c) := by
  rw [val_main_v199_apply, val_main_v197_apply, val_main_v195_apply, val_main_v194_apply, val_main_v196_apply, val_main_v198_apply, v3_at]
  unfold gate
  have h1 : Ideal.ofBits .f32 0x3F800000#32 = (1 : EReal) := Ideal.ofBits_one_f32
  refine (?_ : Ideal.div (Ideal.ofBits .f32 0x3F800000#32) (Ideal.ofBits .f32 0x3F800000#32 + Ideal.exp (-rg y b t g r c)) = _)
  rw [h1, zero_sub]

/-- A gate, laid out along the lanes. -/
theorem v201_at (r : Fin 4) (d : Fin 128) : (val_main_v201 (F := Ideal) y (ix5 b t g r d) : EReal) = gate (rg y b t g r 0) := by
  rw [val_main_v201_apply, val_main_v200_apply]
  exact (congrArg (val_main_v199 (F := Ideal) y) (eq_ix5 _)).trans (v199_at y b t g r 0)

theorem v204_at (r : Fin 4) (d : Fin 128) : (val_main_v204 (F := Ideal) y (ix5 b t g r d) : EReal) = gate (rg y b t g r 1) := by
  rw [val_main_v204_apply, val_main_v203_apply]
  exact (congrArg (val_main_v199 (F := Ideal) y) (eq_ix5 _)).trans (v199_at y b t g r 1)

theorem v208_at (r : Fin 4) (d : Fin 128) : (val_main_v208 (F := Ideal) y (ix5 b t g r d) : EReal) = gate (rg y b t g r 2) := by
  rw [val_main_v208_apply, val_main_v207_apply]
  exact (congrArg (val_main_v199 (F := Ideal) y) (eq_ix5 _)).trans (v199_at y b t g r 2)

/-- The layer's output for token `t` of sequence `b`: lane `d` of head `r` of a group. -/
def layer (r : Fin 4) (d : Fin 128) : EReal :=
  nsa t.val (rq y b t g) (rc w b g 0) (rc w b g 1) (rkv y b g 8192 (by omega) 0) (rkv y b g 8192 (by omega) 1)
    (rkv y b g 8704 (by omega) 0) (rkv y b g 8704 (by omega) 1) (rg y b t g r) r d

/-- The gated sum of the three branches. -/
theorem v210_at (r : Fin 4) (d : Fin 128) : (val_main_v210 (F := Ideal) y w (ix5 b t g r d) : EReal) = layer y w b t g r d := by
  rw [val_main_v210_apply, val_main_v206_apply, val_main_v202_apply, val_main_v205_apply, val_main_v209_apply, v201_at, v204_at,
    v208_at, v44_at, v155_at, v193_at]
  rfl

/-- The reference's result at an entry. -/
theorem v211_at (r : Fin 4) (d : Fin 128) :
    (val_main_v211 (F := Ideal) y w (ix2 ⟨2048 * b.val + t.val, by omega⟩ ⟨128 * (4 * g.val + r.val) + d.val, by omega⟩) : EReal)
      = layer y w b t g r d := by
  rw [val_main_v211_apply, ← v210_at]
  refine congrArg (val_main_v210 (F := Ideal) y w) (funext fun a => Fin.ext ?_)
  match a with
  | ⟨0, _⟩ => show ((2048 * b.val + t.val) * 1024 + (128 * (4 * g.val + r.val) + d.val)) / 2097152 = b.val; omega
  | ⟨1, _⟩ => show ((2048 * b.val + t.val) * 1024 + (128 * (4 * g.val + r.val) + d.val)) / 1024 % 2048 = t.val; omega
  | ⟨2, _⟩ => show ((2048 * b.val + t.val) * 1024 + (128 * (4 * g.val + r.val) + d.val)) / 512 % 2 = g.val; omega
  | ⟨3, _⟩ => show ((2048 * b.val + t.val) * 1024 + (128 * (4 * g.val + r.val) + d.val)) / 128 % 4 = r.val; omega
  | ⟨4, _⟩ => show ((2048 * b.val + t.val) * 1024 + (128 * (4 * g.val + r.val) + d.val)) % 128 = d.val; omega

end Cert.Nsa
-- ==== Proof.Join.lean ====
module
public import proofs.«01_k».proof.Proof.Bridge
public import proofs.«01_k».proof.Proof.Point
public import proofs.«01_k».proof.Proof.RefOut
public import Idealize.ShloMosaic.Lib.Pipeline.ValueKit

/-! The grid points' blocks put together: the kernel's result array is the layer of the argument arrays, and so is the
reference's. -/

@[expose] public section

noncomputable section

namespace Cert.Nsa

open Idealize.ShloMosaic hiding ix0 ix1 ix2 ix3 ix4 ix5 eq_ix1 eq_ix2 eq_ix3 eq_ix4 eq_ix5
open Idealize.ShloMosaic.ValueIdx Idealize.ShloMosaic.TcCoe Idealize.SL.Sem Cert.KernelIdeal Cert.KernelIdeal.Gen

/-- The layer's result as an array: row `2048 b + t`, column `128 (4 g + r) + d`. -/
def layerArr (y : Proj) (w : Comp) : FVec Ideal ⟨2, ![16384, 1024]⟩ .f32 := fun i =>
  layer y w ⟨(i 0).val / 2048, by have : (i 0).val < 16384 := (i 0).isLt; omega⟩ ⟨(i 0).val % 2048, by omega⟩
    ⟨(i 1).val / 512, by have : (i 1).val < 1024 := (i 1).isLt; omega⟩ ⟨(i 1).val / 128 % 4, by omega⟩ ⟨(i 1).val % 128, by omega⟩

/-- The array at an entry named by its sequence, token, group, head and lane. -/
theorem layerArr_at (y : Proj) (w : Comp) (b : Fin 8) (t : Fin 2048) (g : Fin 2) (r : Fin 4) (d : Fin 128)
    (i : (⟨2, ![16384, 1024]⟩ : Shape).Idx) (h0 : (i 0).val = 2048 * b.val + t.val) (h1 : (i 1).val = 128 * (4 * g.val + r.val) + d.val) :
    (layerArr y w i : EReal) = layer y w b t g r d := by
  unfold layerArr
  congr 1
  all_goals exact Fin.ext (by dsimp only; omega)

/-- The reference's result is the layer. -/
theorem ref_layer (y : Proj) (w : Comp) : Cert.ReferenceIdeal.Read.val_main_v211 (F := Ideal) y w = layerArr y w := by
  funext i
  have e0 : (i 0).val < 16384 := (i 0).isLt
  have e1 : (i 1).val < 1024 := (i 1).isLt
  have hb : (i 0).val / 2048 < 8 := by omega
  have hg : (i 1).val / 512 < 2 := by omega
  refine (congrArg (Cert.ReferenceIdeal.Read.val_main_v211 (F := Ideal) y w) (?_ : i = ix2 ⟨2048 * ((i 0).val / 2048) + (i 0).val % 2048, by omega⟩
    ⟨128 * (4 * ((i 1).val / 512) + (i 1).val / 128 % 4) + (i 1).val % 128, by omega⟩)).trans
    (v211_at y w ⟨_, hb⟩ ⟨(i 0).val % 2048, by omega⟩ ⟨_, hg⟩ ⟨(i 1).val / 128 % 4, by omega⟩ ⟨(i 1).val % 128, by omega⟩)
  refine funext fun a => Fin.ext ?_
  match a with
  | ⟨0, _⟩ => show (i 0).val = 2048 * ((i 0).val / 2048) + (i 0).val % 2048; omega
  | ⟨1, _⟩ => show (i 1).val = 128 * (4 * ((i 1).val / 512) + (i 1).val / 128 % 4) + (i 1).val % 128; omega

/-! ## A grid point's block -/

/-- A grid point's block, all heads side by side. -/
def blockOut (n : ℕ) (hn : n ≤ 2048) (k : Fin 16) (x0 : RMat 128 1024) (x1 : RMat 128 128) (x2 : RMat 128 512)
    (x3 x4 : RMat 2048 512) : RMat 128 1024 := fun j =>
  headOut n hn k x0 x1 x2 x3 x4 ⟨(j 1).val / 512, by have : (j 1).val < 1024 := (j 1).isLt; omega⟩ ⟨(j 1).val / 128 % 4, by omega⟩
    (ix2 (j 0) ⟨(j 1).val % 128, by omega⟩)

/-- The block at an entry of the stretch of 128 columns of head `r` of group `g`. -/
theorem blockOut_at (n : ℕ) (hn : n ≤ 2048) (k : Fin 16) (x0 : RMat 128 1024) (x1 : RMat 128 128) (x2 : RMat 128 512)
    (x3 x4 : RMat 2048 512) (g : Fin 2) (r : Fin 4) (x : (Mat 128 128).Idx) (j : (Mat 128 1024).Idx) (h0 : (j 0).val = 0 + (x 0).val)
    (h1 : (j 1).val = 128 * (4 * g.val + r.val) + (x 1).val) :
    headOut n hn k x0 x1 x2 x3 x4 g r x = blockOut n hn k x0 x1 x2 x3 x4 j := by
  have e1 : (x 1).val < 128 := (x 1).isLt
  unfold blockOut
  have hx : x = ix2 (j 0) ⟨(j 1).val % 128, by omega⟩ := (eq_ix2 x).trans (congrArg₂ ix2 (Fin.ext (by omega)) (Fin.ext (by dsimp only; omega)))
  have hg : g = ⟨(j 1).val / 512, by omega⟩ := Fin.ext (by dsimp only; omega)
  have hr : r = ⟨(j 1).val / 128 % 4, by omega⟩ := Fin.ext (by dsimp only; omega)
  exact congr (congr (congrArg (headOut n hn k x0 x1 x2 x3 x4) hg) hr) hx

/-- Each store is its part of the block. -/
theorem piece_block (n : ℕ) (hn : n ≤ 2048) (k : Fin 16) (x0 : RMat 128 1024) (x1 : RMat 128 128) (x2 : RMat 128 512)
    (x3 x4 : RMat 2048 512) (g : Fin 2) (r : Fin 4) (x : (piece n hn k x0 x1 x2 x3 x4 g r).1.shape.Idx) :
    (piece n hn k x0 x1 x2 x3 x4 g r).2 x = blockOut n hn k x0 x1 x2 x3 x4 ((piece n hn k x0 x1 x2 x3 x4 g r).1.emb x) :=
  blockOut_at n hn k x0 x1 x2 x3 x4 g r x _
    (ValueKit.rect_emb_unit_val (s := Mat 128 1024) ![0, 128 * (4 * g.val + r.val)] ![128, 128] (inb _ _ (by omega) (by omega)) x 0)
    (ValueKit.rect_emb_unit_val (s := Mat 128 1024) ![0, 128 * (4 * g.val + r.val)] ![128, 128] (inb _ _ (by omega) (by omega)) x 1)

/-- The eight stores make up the block. -/
theorem canon_pieces (n : ℕ) (hn : n ≤ 2048) (k : Fin 16) (x0 : RMat 128 1024) (x1 : RMat 128 128) (x2 : RMat 128 512)
    (x3 x4 : RMat 2048 512) : View.canon (pieces n hn k x0 x1 x2 x3 x4) = blockOut n hn k x0 x1 x2 x3 x4 := by
  funext j
  have e0 : (j 0).val < 128 := (j 0).isLt
  have e1 : (j 1).val < 1024 := (j 1).isLt
  have hin : ∀ (g : Fin 2) (r : Fin 4), piece n hn k x0 x1 x2 x3 x4 g r ∈ pieces n hn k x0 x1 x2 x3 x4 := by
    intro g r
    unfold pieces
    fin_cases g <;> fin_cases r <;> simp
  refine View.canon_apply_of_pieces (blockOut n hn k x0 x1 x2 x3 x4) _ (fun p hp x => ?_) j
    ⟨_, hin ⟨(j 1).val / 512, by omega⟩ ⟨(j 1).val / 128 % 4, by omega⟩, ?_⟩
  · have : ∃ g r, p = piece n hn k x0 x1 x2 x3 x4 g r := by
      unfold pieces at hp
      simp only [List.mem_cons, List.not_mem_nil, or_false] at hp
      rcases hp with h | h | h | h | h | h | h | h <;> exact ⟨_, _, h⟩
    obtain ⟨g, r, rfl⟩ := this
    exact piece_block n hn k x0 x1 x2 x3 x4 g r x
  · unfold piece
    rw [Rect.mem_set_unit]
    intro a
    match a with
    | ⟨0, _⟩ => exact ⟨Nat.zero_le _, by show (j 0).val < 0 + 128; omega⟩
    | ⟨1, _⟩ => exact ⟨by show 128 * (4 * ((j 1).val / 512) + (j 1).val / 128 % 4) ≤ (j 1).val; omega,
        by show (j 1).val < 128 * (4 * ((j 1).val / 512) + (j 1).val / 128 % 4) + 128; omega⟩

/-! ## Where the blocks lie in the arrays -/

variable (m : (ℓ : Loc nD τ sig) → Buf (Elt Ideal) ℓ) (c : Dev nD) (t : Fin cfg0.N)

/-- A grid point's coordinates: its sequence and its block of 128 tokens. -/
theorem coords_at : ∀ t : Fin cfg0.N, (grid0.coords t 0).val = t.val / 16 ∧ (grid0.coords t 1).val = t.val % 16 :=
  (by decide +kernel : ∀ t : Fin grid0.N, _)

theorem idx0 : ∀ t : Fin cfg0.N, win0_0.index t = ![t.val, 6] := (by decide +kernel : ∀ t : Fin grid0.N, _)
theorem idx1 : ∀ t : Fin cfg0.N, win0_1.index t = ![t.val, 73] := (by decide +kernel : ∀ t : Fin grid0.N, _)
theorem idx2 : ∀ t : Fin cfg0.N, win0_2.index t = ![t.val / 16, 0] := (by decide +kernel : ∀ t : Fin grid0.N, _)
theorem idx3 : ∀ t : Fin cfg0.N, win0_3.index t = ![t.val / 16, 16] := (by decide +kernel : ∀ t : Fin grid0.N, _)
theorem idx4 : ∀ t : Fin cfg0.N, win0_4.index t = ![t.val / 16, 17] := (by decide +kernel : ∀ t : Fin grid0.N, _)
theorem idx5 : ∀ t : Fin cfg0.N, win0_5.index t = ![t.val, 0] := (by decide +kernel : ∀ t : Fin grid0.N, _)

theorem lt_N : t.val < 128 := t.isLt

/-- The queries' block. -/
theorem blk0_at (a : Fin 128) (e : Fin 1024) : X0_0 m c t (ix2 a e) = V m c main_arg0 (ix2 ⟨128 * t.val + a.val, by have := lt_N t; omega⟩ ⟨6144 + e.val, by omega⟩) := by
  unfold X0_0 Pipeline.Window.fill
  rw [dif_pos (moved0_0 t _)]
  blk_simp [iblk]
  refine congrArg (V m c main_arg0) (funext fun x => Fin.ext ?_)
  match x with
  | ⟨0, _⟩ => blk_simp [idx0]; show t.val * 128 + a.val = 128 * t.val + a.val; omega
  | ⟨1, _⟩ => blk_simp [idx0]

/-- The gates' block. -/
theorem blk1_at (a : Fin 128) (e : Fin 128) : iblk m c 1 t (ix2 a e) = V m c main_arg0 (ix2 ⟨128 * t.val + a.val, by have := lt_N t; omega⟩ ⟨9344 + e.val, by omega⟩) := by
  blk_simp [iblk]
  refine congrArg (V m c main_arg0) (funext fun x => Fin.ext ?_)
  match x with
  | ⟨0, _⟩ => blk_simp [idx1]; show t.val * 128 + a.val = 128 * t.val + a.val; omega
  | ⟨1, _⟩ => blk_simp [idx1]

/-- The compressed keys and values of the point's sequence. -/
theorem blk2_at (j : Fin 128) (e : Fin 512) : iblk m c 2 t (ix2 j e) = V m c main_arg1 (ix2 ⟨128 * (t.val / 16) + j.val, by have := lt_N t; omega⟩ ⟨e.val, by omega⟩) := by
  blk_simp [iblk]
  refine congrArg (V m c main_arg1) (funext fun x => Fin.ext ?_)
  match x with
  | ⟨0, _⟩ => blk_simp [idx2]; show t.val / 16 * 128 + j.val = 128 * (t.val / 16) + j.val; omega
  | ⟨1, _⟩ => blk_simp [idx2]

/-- The selected branch's keys and values of the point's sequence. -/
theorem blk3_at (j : Fin 2048) (e : Fin 512) : iblk m c 3 t (ix2 j e) = V m c main_arg0 (ix2 ⟨2048 * (t.val / 16) + j.val, by have := lt_N t; omega⟩ ⟨8192 + e.val, by omega⟩) := by
  blk_simp [iblk]
  refine congrArg (V m c main_arg0) (funext fun x => Fin.ext ?_)
  match x with
  | ⟨0, _⟩ => blk_simp [idx3]; show t.val / 16 * 2048 + j.val = 2048 * (t.val / 16) + j.val; omega
  | ⟨1, _⟩ => blk_simp [idx3]

/-- The window branch's keys and values of the point's sequence. -/
theorem blk4_at (j : Fin 2048) (e : Fin 512) : iblk m c 4 t (ix2 j e) = V m c main_arg0 (ix2 ⟨2048 * (t.val / 16) + j.val, by have := lt_N t; omega⟩ ⟨8704 + e.val, by omega⟩) := by
  blk_simp [iblk]
  refine congrArg (V m c main_arg0) (funext fun x => Fin.ext ?_)
  match x with
  | ⟨0, _⟩ => blk_simp [idx4]; show t.val / 16 * 2048 + j.val = 2048 * (t.val / 16) + j.val; omega
  | ⟨1, _⟩ => blk_simp [idx4]

/-- What a grid point's block holds: the layer at the point's tokens. -/
theorem block_layer (n : ℕ) (hn : n ≤ 2048) (k : Fin 16) (hc : k.val = t.val % 16) (hk : 128 * (t.val % 16) + 128 ≤ n) (j : (Mat 128 1024).Idx)
    (i : (⟨2, ![16384, 1024]⟩ : Shape).Idx) (h0 : (i 0).val = 128 * t.val + (j 0).val) (h1 : (i 1).val = (j 1).val) :
    (blockOut n hn k (X0_0 m c t) (iblk m c 1 t) (iblk m c 2 t) (iblk m c 3 t) (iblk m c 4 t) j : EReal)
      = layerArr (V m c main_arg0) (V m c main_arg1) i := by
  have ht := lt_N t
  have e0 : (j 0).val < 128 := (j 0).isLt
  have e1 : (j 1).val < 1024 := (j 1).isLt
  rw [layerArr_at (V m c main_arg0) (V m c main_arg1) ⟨t.val / 16, by omega⟩ ⟨128 * (t.val % 16) + (j 0).val, by omega⟩
    ⟨(j 1).val / 512, by omega⟩ ⟨(j 1).val / 128 % 4, by omega⟩ ⟨(j 1).val % 128, by omega⟩ i (by dsimp only; omega) (by dsimp only; omega)]
  unfold blockOut layer
  refine (headOut_apply n hn k (by rw [hc]; exact hk) _ _ _ _ _ _ _ (j 0) _).trans ?_
  rw [hc]
  congr 1
  · funext r e
    exact (blk0_at m c t _ _).trans (congrArg (V m c main_arg0) (congrArg₂ ix2 (Fin.ext (by dsimp only; omega)) rfl))
  · funext j e
    exact blk2_at m c t _ _
  · funext j e
    exact blk2_at m c t _ _
  · funext j e
    exact blk3_at m c t _ _
  · funext j e
    exact blk3_at m c t _ _
  · funext j e
    exact blk4_at m c t _ _
  · funext j e
    exact blk4_at m c t _ _
  · funext e
    exact (blk1_at m c t _ _).trans (congrArg (V m c main_arg0) (congrArg₂ ix2 (Fin.ext (by dsimp only; omega)) rfl))

/-- What a grid point writes back is its block. -/
theorem flushed_layer (y : ((cfg0.win 5).xblock (cfg0.grid.coords t)).Idx) :
    (dats m 0 c).flushed 5 t y = layerArr (V m c main_arg0) (V m c main_arg1) (((cfg0.win 5).blk t).view.emb y) := by
  have ht := lt_N t
  have h0 : ((((cfg0.win 5).blk t).view.emb y) 0 : ℕ) = 128 * t.val + (y 0).val := by
    blk_simp [idx5]; show t.val * 128 + (y 0).val = 128 * t.val + (y 0).val; omega
  have h1 : ((((cfg0.win 5).blk t).view.emb y) 1 : ℕ) = (y 1).val := by
    blk_simp [idx5]
  by_cases hA : t.val % 16 ≤ 1
  · rw [Value.flushed5_A m c t hA (by omega) (by omega) (by omega), out_A]
    exact (congrFun (canon_pieces _ _ _ _ _ _ _ _) _).trans (block_layer m c t 256 _ _ (coords_at t).2 (by omega) _ _ h0 h1)
  by_cases hB : 2 ≤ t.val % 16 ∧ t.val % 16 ≤ 3
  · rw [Value.flushed5_B m c t hA hB (by omega) (by omega), out_B]
    exact (congrFun (canon_pieces _ _ _ _ _ _ _ _) _).trans (block_layer m c t 512 _ _ (coords_at t).2 (by omega) _ _ h0 h1)
  by_cases hC : 4 ≤ t.val % 16 ∧ t.val % 16 ≤ 7
  · rw [Value.flushed5_C m c t hA hB hC (by omega), out_C]
    exact (congrFun (canon_pieces _ _ _ _ _ _ _ _) _).trans (block_layer m c t 1024 _ _ (coords_at t).2 (by omega) _ _ h0 h1)
  · rw [Value.flushed5_D m c t hA hB hC (by omega), out_D]
    exact (congrFun (canon_pieces _ _ _ _ _ _ _ _) _).trans (block_layer m c t 2048 _ _ (coords_at t).2 (by omega) _ _ h0 h1)

/-- The kernel's result array is the layer of its arguments. -/
theorem kernel_layer : (dats m 0 c).arrAt 5 cfg0.N = layerArr (V m c main_arg0) (V m c main_arg1) := by
  refine (dats m 0 c).arrAt_eq_of_covers 5 _ (by decide +kernel) fun t _ y => ?_
  exact flushed_layer m c t y

end Cert.Nsa

end
-- ==== Proof.Merge.lean ====
module
public import proofs.«01_k».proof.Proof.Gen.MergeIdeal.Value
public import proofs.«01_k».proof.Proof.Gen.MergeRefIdeal.Read
public import Idealize.ShloMosaic.Lib.Pipeline.ValueKit
public import Idealize.ShloMosaic.Lib.MatmulPlain

/-! The merging of the two mixers: the kernel's result array is the reference's, entry by entry. -/

@[expose] public section

noncomputable section

namespace Cert.Merged

open Idealize.ShloMosaic Idealize.ShloMosaic.TcCoe Idealize.SL.Sem Cert.MergeIdeal Cert.MergeIdeal.Gen

/-- A matrix of extended reals. -/
abbrev RArr (a b : ℕ) := FVec Ideal ⟨2, ![a, b]⟩ .f32

/-- The merged stream at one entry: the residual plus the gated mixers' outputs through the last projection. -/
def mergedAt (x : RArr 16384 2048) (y : RArr 16384 9728) (oa ob : RArr 16384 1024) (wa wb : RArr 1024 2048) (wo : RArr 2048 2048)
    (r : Fin 16384) (n : Fin 2048) : EReal :=
  x (ix2 r n) + ∑ k : Fin 2048, (y (ix2 r ⟨k.val, by omega⟩) * (∑ l : Fin 1024, oa (ix2 r l) * wa (ix2 l k))
    + y (ix2 r ⟨2048 + k.val, by omega⟩) * (∑ l : Fin 1024, ob (ix2 r l) * wb (ix2 l k))) * wo (ix2 k n)

/-- What one grid point stores, at an entry of its block. -/
theorem pay_apply (x0 x1 x2 : RArr 256 2048) (x3 x4 : RArr 256 1024) (x5 x6 : FVec Ideal ⟨2, ![1024, 2048]⟩ .bf16)
    (x7 : FVec Ideal ⟨2, ![2048, 2048]⟩ .bf16) (a : Fin 256) (n : Fin 2048) :
    (k0_pay1 (F := Ideal) x1 x3 x5 x2 x4 x6 x0 x7 (ix2 a n) : EReal)
      = x0 (ix2 a n) + ∑ k : Fin 2048, (x1 (ix2 a k) * (∑ l : Fin 1024, x3 (ix2 a l) * x5 (ix2 l k))
          + x2 (ix2 a k) * (∑ l : Fin 1024, x4 (ix2 a l) * x6 (ix2 l k))) * x7 (ix2 k n) := by
  unfold k0_pay1
  pointwise []

variable (m : (ℓ : Loc nD τ sig) → Buf (Elt Ideal) ℓ) (c : Dev nD) (t : Fin cfg0.N)

/-- The first mixer's weights are converted on the way in, which over the extended reals changes nothing. -/
theorem weights_a : V m c main_v0 = m ((c : Thread nD τ).loc main_arg4) := by
  entry_read
  rfl

/-- The second mixer's weights, likewise. -/
theorem weights_b : V m c main_v1 = m ((c : Thread nD τ).loc main_arg5) := by
  entry_read
  rfl

/-- The last projection's weights, likewise. -/
theorem weights_out : V m c main_v2 = m ((c : Thread nD τ).loc main_arg6) := by
  entry_read
  rfl

/-- The residual's block of a grid point. -/
theorem idx0 : ∀ t : Fin cfg0.N, win0_0.index t = ![t.val, 0] := (by decide +kernel : ∀ t : Fin grid0.N, _)
/-- The first gate's. -/
theorem idx1 : ∀ t : Fin cfg0.N, win0_1.index t = ![t.val, 0] := (by decide +kernel : ∀ t : Fin grid0.N, _)
/-- The second gate's. -/
theorem idx2 : ∀ t : Fin cfg0.N, win0_2.index t = ![t.val, 1] := (by decide +kernel : ∀ t : Fin grid0.N, _)
/-- The first mixer's. -/
theorem idx3 : ∀ t : Fin cfg0.N, win0_3.index t = ![t.val, 0] := (by decide +kernel : ∀ t : Fin grid0.N, _)
/-- The second mixer's. -/
theorem idx4 : ∀ t : Fin cfg0.N, win0_4.index t = ![t.val, 0] := (by decide +kernel : ∀ t : Fin grid0.N, _)
/-- The first mixer's weights, whole. -/
theorem idx5 : ∀ t : Fin cfg0.N, win0_5.index t = ![0, 0] := (by decide +kernel : ∀ t : Fin grid0.N, _)
/-- The second mixer's weights, whole. -/
theorem idx6 : ∀ t : Fin cfg0.N, win0_6.index t = ![0, 0] := (by decide +kernel : ∀ t : Fin grid0.N, _)
/-- The last projection's weights, whole. -/
theorem idx7 : ∀ t : Fin cfg0.N, win0_7.index t = ![0, 0] := (by decide +kernel : ∀ t : Fin grid0.N, _)
/-- The result's. -/
theorem idx8 : ∀ t : Fin cfg0.N, win0_8.index t = ![t.val, 0] := (by decide +kernel : ∀ t : Fin grid0.N, _)

/-- There are 64 grid points. -/
theorem lt_N : t.val < 64 := t.isLt

/-- The first gate's block. -/
theorem gate_a (a : Fin 256) (k : Fin 2048) :
    X0_1 m c t (ix2 a k) = V m c main_arg1 (ix2 ⟨256 * t.val + a.val, by have := lt_N t; omega⟩ ⟨k.val, by omega⟩) := by
  unfold X0_1 Pipeline.Window.fill
  rw [dif_pos (moved0_1 t _)]
  blk_ext! [iblk, idx1 t]

/-- The second gate's block. -/
theorem gate_b (a : Fin 256) (k : Fin 2048) :
    X0_2 m c t (ix2 a k) = V m c main_arg1 (ix2 ⟨256 * t.val + a.val, by have := lt_N t; omega⟩ ⟨2048 + k.val, by omega⟩) := by
  unfold X0_2 Pipeline.Window.fill
  rw [dif_pos (moved0_2 t _)]
  blk_ext! [iblk, idx2 t]

/-- The kernel's result array, entry by entry. -/
theorem kernel_merged : (dats m 0 c).arrAt 8 cfg0.N = fun i => mergedAt (V m c main_arg0) (V m c main_arg1) (V m c main_arg2)
    (V m c main_arg3) (V m c main_v0) (V m c main_v1) (V m c main_v2) (i 0) (i 1) := by
  refine (dats m 0 c).arrAt_eq_of_covers 8 _ (by decide +kernel) fun t _ y => ?_
  blk_simp
  rw [after0_8]
  unfold outsAt0
  frame_out
  obtain ⟨a, n, rfl⟩ : ∃ (a : Fin 256) (n : Fin 2048), y = ix2 a n := ⟨y 0, y 1, eq_ix2 y⟩
  refine (pay_apply _ _ _ _ _ _ _ _ a n).trans ?_
  simp only [mergedAt, gate_a, gate_b]
  blk_point [iblk, idx0 t, idx1 t, idx2 t, idx3 t, idx4 t, idx5 t, idx6 t, idx7 t, idx8 t]

/-- The reference's result array, entry by entry. -/
theorem ref_merged (x : RArr 16384 2048) (y : RArr 16384 9728) (oa ob : RArr 16384 1024) (wa wb : RArr 1024 2048) (wo : RArr 2048 2048) :
    MergeRefIdeal.Read.val_main_v8 (F := Ideal) x y oa ob wa wb wo = fun i => mergedAt x y oa ob wa wb wo (i 0) (i 1) := by
  funext i
  unfold mergedAt
  pointwise [MergeRefIdeal.Read.val_main_v8, MergeRefIdeal.Read.val_main_v7, MergeRefIdeal.Read.val_main_v6, MergeRefIdeal.Read.val_main_v5,
    MergeRefIdeal.Read.val_main_v4, MergeRefIdeal.Read.val_main_v3, MergeRefIdeal.Read.val_main_v2, MergeRefIdeal.Read.val_main_v1,
    MergeRefIdeal.Read.val_main_v0]

end Cert.Merged

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Moe
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.MoeRefIdeal.Run
public import proofs.«01_k».proof.Proof.Gen.MoeRefIdeal.Read
public import proofs.«01_k».proof.Proof.MoeFrame
public import proofs.«01_k».proof.Proof.MoeEnd
public import proofs.«01_k».proof.Proof.Join
public import proofs.«01_k».proof.Proof.Merge
public import Idealize.ShloMosaic.Adequacy
public import Idealize.ShloMosaic.Init

@[expose] public section

noncomputable section

namespace Cert.Proof

open Idealize.ShloMosaic Idealize.SL.Sem Cert.Kernel

/-- The reference runs to its end, its arguments kept. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one rewriting: the mask constant named, and read as minus infinity. -/
theorem preserves : Cert.preserves_Kernel_KernelIdeal :=
  IdealRules.named_const.statement Cert.KernelIdeal.κ "mask" .f32 0xF149F2CA#32 ⊥ rfl

/-- Kernel and reference, from the same arguments, leave the same result: the layer of the arguments. -/
theorem algebraic : Cert.algebraic_KernelIdeal_ReferenceIdeal := by
  intro m ρ m' ρ' _ hagree
  refine ⟨fun c => Cert.Nsa.layerArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (Cert.Nsa.kernel_layer m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v211_eq (F := Ideal) _).trans ?_
    refine (Cert.Nsa.ref_layer _ _).trans ?_
    exact congrArg₂ Cert.Nsa.layerArr (hagree c).1 (hagree c).2

/-- The merging's reference runs to its end, its arguments kept. -/
theorem frame_merge_reference : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

/-- The merging kernel and its reference, from the same arguments, leave the same result. -/
theorem algebraic_merge : Cert.algebraic_MergeIdeal_MergeRefIdeal := by
  intro m ρ m' ρ' _ hagree
  refine ⟨fun c => (Cert.MergeIdeal.Gen.dats m 0 c).arrAt 8 Cert.MergeIdeal.cfg0.N, Cert.MergeIdeal.Value.run_blocks m ρ, ?_⟩
  refine (θ_run Cert.MergeRefIdeal.defs _ _).mono (fun _ h c => ⟨(h c).1.trans ?_, (h c).2⟩)
    (Cert.MergeRefIdeal.Value.run (F := Ideal) m' ρ')
  refine (Cert.MergeRefIdeal.Read.val_main_v8_eq (F := Ideal) _ _ _ _ _ _ _).trans ?_
  refine (Cert.Merged.ref_merged _ _ _ _ _ _ _).trans ?_
  obtain ⟨h0, h1, h2, h3, h4, h5, h6⟩ := hagree c
  refine Eq.trans ?_ (Cert.Merged.kernel_merged m c).symm
  rw [h0, h1, h2, h3, h4, h5, h6, Cert.Merged.weights_a, Cert.Merged.weights_b, Cert.Merged.weights_out, Cert.MergeIdeal.Gen.V_main_arg0,
    Cert.MergeIdeal.Gen.V_main_arg1, Cert.MergeIdeal.Gen.V_main_arg2, Cert.MergeIdeal.Gen.V_main_arg3]
  rfl

set_option maxRecDepth 65536 in
/-- The expert kernel and its idealization have the same text: the bodies of their grid points are equal, -/
theorem moe_bodies {F : FTy → Type} [FloatOps F] : @Cert.Moe.defs₀ F _ _ = @Cert.MoeIdeal.defs₀ F _ _ := by
  unfold Cert.Moe.defs₀ Cert.MoeIdeal.defs₀
  refine congrArg Defs.onTc ?_
  funext l p
  obtain ⟨l, hl⟩ := l
  cases l with
  | zero => obtain ⟨t, s⟩ := p; rfl
  | succ n => exact absurd hl (Nat.not_lt.2 (Nat.le_add_left _ _))

set_option maxRecDepth 65536 in
/-- and so are their launches. -/
theorem moe_defs {F : FTy → Type} [FloatOps F] : @Cert.Moe.defs F _ _ = @Cert.MoeIdeal.defs F _ _ :=
  congrArg (Pipeline.defs Cert.MoeIdeal.pcfgs) moe_bodies

/-- The expert kernel runs to its end, its arguments kept: the run over any float values, read at the bits. -/
theorem frame_moe : Cert.quiescent_Moe := fun m ρ _ => by
  rw [moe_defs]
  exact Cert.MoeIdeal.Run.frame (F := Bits) m ρ

/-- Its idealization likewise. -/
theorem frame_moe_ideal : Cert.quiescent_MoeIdeal := fun m ρ _ => Cert.MoeIdeal.Run.frame (F := Ideal) m ρ

/-- The experts' reference runs to its end, its arguments kept. -/
theorem frame_moe_reference : Cert.quiescent_MoeRefIdeal := fun m ρ _ =>
  (θ_run Cert.MoeRefIdeal.defs _ _).mono (fun r h => ⟨fun c => (h c).2,
      Idealize.ShloMosaic.sem_eq_zero_of_no_sems (by decide) r.2⟩)
    (Cert.MoeRefIdeal.Value.run (F := Ideal) m ρ)

/-- The expert kernel and its reference, from the same arguments under the precondition, leave the same result. -/
theorem algebraic_moe : Cert.algebraic_MoeIdeal_MoeRefIdeal_pre_plain_and_routed (hPre_plain_and_routed := Cert.Experts.preFacts) := by
  intro m ρ m' ρ' hpre hagree
  refine ⟨fun c => (Cert.MoeIdeal.Run.dats m 0 c).arrAt 7 Cert.MoeIdeal.cfg0.N, Cert.Experts.run_experts m ρ, ?_⟩
  refine (θ_run Cert.MoeRefIdeal.defs _ _).mono (fun _ h c => ⟨(h c).1.trans ?_, (h c).2⟩)
    (Cert.MoeRefIdeal.Value.run (F := Ideal) m' ρ')
  refine (Cert.MoeRefIdeal.Read.val_main_v23_eq (F := Ideal) _ _).trans ?_
  obtain ⟨h0, h1, h2, h3, h4, h5, h6⟩ := hagree c
  rw [h0, h1, h2, h3, h4, h5, h6]
  exact (Cert.Experts.kernel_refer m c (Cert.Experts.supposed_of _ _ _ _ _ _ _ (hpre c))).symm

/-- Everything claimed. -/
theorem claim : Cert.Claim :=
  ⟨Cert.Kernel.Gen.facts, Cert.KernelIdeal.Gen.facts, Cert.ReferenceIdeal.Gen.facts, Cert.Merge.Gen.facts, Cert.MergeIdeal.Gen.facts,
    Cert.MergeRefIdeal.Gen.facts, Cert.Moe.Gen.facts, Cert.MoeIdeal.Gen.facts, Cert.MoeRefIdeal.Gen.facts, Cert.Experts.preFacts, fun m ρ _ => Cert.Kernel.Gen.frame m ρ, fun m ρ _ => Cert.KernelIdeal.Gen.frame m ρ, frame_reference,
    fun m ρ _ => Cert.Merge.Gen.frame m ρ, fun m ρ _ => Cert.MergeIdeal.Gen.frame m ρ, frame_merge_reference,
    frame_moe, frame_moe_ideal, fun m ρ _ => frame_moe_ideal m ρ trivial, frame_moe_reference,
    fun m ρ _ => frame_moe_reference m ρ trivial, preserves, algebraic, trivial, algebraic_merge, trivial, algebraic_moe⟩

end Cert.Proof

end
